-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_AttnRef (m : (ℓ : Loc Cert.AttnRef.nD Cert.AttnRef.τ Cert.AttnRef.sig) → Buf (Elt Bits) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_log_denominators_finite [hPre_log_denominators_finite : Cert.Pre_log_denominators_finite.Facts] (m : (ℓ : Loc Cert.MergeIdeal.nD Cert.MergeIdeal.τ Cert.MergeIdeal.sig) → Buf (Elt Ideal) ℓ) : Prop :=
  ∀ c : Dev Cert.MergeIdeal.nD,
    (Cert.Pre_log_denominators_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_log_denominators_finite [hPre_log_denominators_finite : Cert.Pre_log_denominators_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_log_denominators_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRef [hAttnRef : Cert.AttnRef.Facts] : Prop :=
  ∀ (m : (ℓ : Loc Cert.AttnRef.nD Cert.AttnRef.τ Cert.AttnRef.sig) → Buf (Elt Bits) ℓ) (g : Dev Cert.AttnRef.nD → PrngReg), Pre_AttnRef m →
    θ_run (Cert.AttnRef.defs (F := Bits)) (onTc (τ := Cert.AttnRef.τ) (Cert.AttnRef.main (F := Bits))) ⟨m, fun _ => 0, g⟩ (fun r => (∀ c : Dev Cert.AttnRef.nD,
      r.2.mem ((c.tc : Thread Cert.AttnRef.nD Cert.AttnRef.τ).loc Cert.AttnRef.main_arg0) = m ((c.tc : Thread Cert.AttnRef.nD Cert.AttnRef.τ).loc Cert.AttnRef.main_arg0)
      ∧ r.2.mem ((c.tc : Thread Cert.AttnRef.nD Cert.AttnRef.τ).loc Cert.AttnRef.main_arg1) = m ((c.tc : Thread Cert.AttnRef.nD Cert.AttnRef.τ).loc Cert.AttnRef.main_arg1)
      ∧ r.2.mem ((c.tc : Thread Cert.AttnRef.nD Cert.AttnRef.τ).loc Cert.AttnRef.main_arg2) = m ((c.tc : Thread Cert.AttnRef.nD Cert.AttnRef.τ).loc Cert.AttnRef.main_arg2)
      ∧ r.2.mem ((c.tc : Thread Cert.AttnRef.nD Cert.AttnRef.τ).loc Cert.AttnRef.main_arg3) = m ((c.tc : Thread Cert.AttnRef.nD Cert.AttnRef.τ).loc Cert.AttnRef.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeIdeal_pre_log_denominators_finite [hMergeIdeal : Cert.MergeIdeal.Facts] [hPre_log_denominators_finite : Cert.Pre_log_denominators_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_log_denominators_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18))
      ∧ r.2.sem = fun _ => 0)

def quiescent_MergeRefIdeal_pre_log_denominators_finite [hMergeRefIdeal : Cert.MergeRefIdeal.Facts] [hPre_log_denominators_finite : Cert.Pre_log_denominators_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_log_denominators_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6)
      ∧ r.2.mem ((c.tc : Thread Cert.InProjRefIdeal.nD Cert.InProjRefIdeal.τ).loc Cert.InProjRefIdeal.main_arg7) = m ((c.tc : Thread Cert.InProjRefIdeal.nD Cert.InProjRefIdeal.τ).loc Cert.InProjRefIdeal.main_arg7))
      ∧ r.2.sem = fun _ => 0)

def preserves_Attn_AttnIdeal : Prop :=
  IdealRules.named_const.Statement Cert.AttnIdeal.κ "mask" .f32 0xF149F2CA#32 ⊥

def algebraic_AttnIdeal_AttnRefIdeal [hAttnIdeal : Cert.AttnIdeal.Facts] [hAttnRefIdeal : Cert.AttnRefIdeal.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v32_0)) (v1 : (c : Dev Cert.AttnIdeal.nD) → Buf (Elt Ideal) ((c.tc : Thread Cert.AttnIdeal.nD Cert.AttnIdeal.τ).loc Cert.AttnIdeal.main_v32_1)) (v2 : (c : Dev Cert.AttnIdeal.nD) → Buf (Elt Ideal) ((c.tc : Thread Cert.AttnIdeal.nD Cert.AttnIdeal.τ).loc Cert.AttnIdeal.main_v32_2)) (v3 : (c : Dev Cert.AttnIdeal.nD) → Buf (Elt Ideal) ((c.tc : Thread Cert.AttnIdeal.nD Cert.AttnIdeal.τ).loc Cert.AttnIdeal.main_v32_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v32_0) = v0 c
          ∧ r.2.mem ((c.tc : Thread Cert.AttnIdeal.nD Cert.AttnIdeal.τ).loc Cert.AttnIdeal.main_v32_1) = v1 c
          ∧ r.2.mem ((c.tc : Thread Cert.AttnIdeal.nD Cert.AttnIdeal.τ).loc Cert.AttnIdeal.main_v32_2) = v2 c
          ∧ r.2.mem ((c.tc : Thread Cert.AttnIdeal.nD Cert.AttnIdeal.τ).loc Cert.AttnIdeal.main_v32_3) = v3 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v103) = v0 c
          ∧ r.2.mem ((c.tc : Thread Cert.AttnRefIdeal.nD Cert.AttnRefIdeal.τ).loc Cert.AttnRefIdeal.main_v104) = v1 c
          ∧ r.2.mem ((c.tc : Thread Cert.AttnRefIdeal.nD Cert.AttnRefIdeal.τ).loc Cert.AttnRefIdeal.main_v105) = v2 c
          ∧ r.2.mem ((c.tc : Thread Cert.AttnRefIdeal.nD Cert.AttnRefIdeal.τ).loc Cert.AttnRefIdeal.main_v106) = v3 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_AttnRef_AttnRefIdeal : Prop :=
  True

def preserves_Merge_MergeIdeal : Prop :=
  True

def algebraic_MergeIdeal_MergeRefIdeal_pre_log_denominators_finite [hMergeIdeal : Cert.MergeIdeal.Facts] [hMergeRefIdeal : Cert.MergeRefIdeal.Facts] [hPre_log_denominators_finite : Cert.Pre_log_denominators_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_log_denominators_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)) →
    ∃ (v0 : (c : Dev Cert.MergeIdeal.nD) → Buf (Elt Ideal) ((c.tc : Thread Cert.MergeIdeal.nD Cert.MergeIdeal.τ).loc Cert.MergeIdeal.main_v29)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v72) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)
      ∧ m' ((c.tc : Thread Cert.InProjRefIdeal.nD Cert.InProjRefIdeal.τ).loc Cert.InProjRefIdeal.main_arg7) = m ((c.tc : Thread Cert.InProjIdeal.nD Cert.InProjIdeal.τ).loc Cert.InProjIdeal.main_arg7)) →
    ∃ (v0 : (c : Dev Cert.InProjIdeal.nD) → Buf (Elt Ideal) ((c.tc : Thread Cert.InProjIdeal.nD Cert.InProjIdeal.τ).loc Cert.InProjIdeal.main_v21_0)) (v1 : (c : Dev Cert.InProjIdeal.nD) → Buf (Elt Ideal) ((c.tc : Thread Cert.InProjIdeal.nD Cert.InProjIdeal.τ).loc Cert.InProjIdeal.main_v21_1)) (v2 : (c : Dev Cert.InProjIdeal.nD) → Buf (Elt Ideal) ((c.tc : Thread Cert.InProjIdeal.nD Cert.InProjIdeal.τ).loc Cert.InProjIdeal.main_v21_2)) (v3 : (c : Dev Cert.InProjIdeal.nD) → Buf (Elt Ideal) ((c.tc : Thread Cert.InProjIdeal.nD Cert.InProjIdeal.τ).loc Cert.InProjIdeal.main_v21_3)) (v4 : (c : Dev Cert.InProjIdeal.nD) → Buf (Elt Ideal) ((c.tc : Thread Cert.InProjIdeal.nD Cert.InProjIdeal.τ).loc Cert.InProjIdeal.main_v21_4)) (v5 : (c : Dev Cert.InProjIdeal.nD) → Buf (Elt Ideal) ((c.tc : Thread Cert.InProjIdeal.nD Cert.InProjIdeal.τ).loc Cert.InProjIdeal.main_v21_5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v21_0) = v0 c
          ∧ r.2.mem ((c.tc : Thread Cert.InProjIdeal.nD Cert.InProjIdeal.τ).loc Cert.InProjIdeal.main_v21_1) = v1 c
          ∧ r.2.mem ((c.tc : Thread Cert.InProjIdeal.nD Cert.InProjIdeal.τ).loc Cert.InProjIdeal.main_v21_2) = v2 c
          ∧ r.2.mem ((c.tc : Thread Cert.InProjIdeal.nD Cert.InProjIdeal.τ).loc Cert.InProjIdeal.main_v21_3) = v3 c
          ∧ r.2.mem ((c.tc : Thread Cert.InProjIdeal.nD Cert.InProjIdeal.τ).loc Cert.InProjIdeal.main_v21_4) = v4 c
          ∧ r.2.mem ((c.tc : Thread Cert.InProjIdeal.nD Cert.InProjIdeal.τ).loc Cert.InProjIdeal.main_v21_5) = v5 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v89) = v0 c
          ∧ r.2.mem ((c.tc : Thread Cert.InProjRefIdeal.nD Cert.InProjRefIdeal.τ).loc Cert.InProjRefIdeal.main_v56) = v1 c
          ∧ r.2.mem ((c.tc : Thread Cert.InProjRefIdeal.nD Cert.InProjRefIdeal.τ).loc Cert.InProjRefIdeal.main_v90) = v2 c
          ∧ r.2.mem ((c.tc : Thread Cert.InProjRefIdeal.nD Cert.InProjRefIdeal.τ).loc Cert.InProjRefIdeal.main_v91) = v3 c
          ∧ r.2.mem ((c.tc : Thread Cert.InProjRefIdeal.nD Cert.InProjRefIdeal.τ).loc Cert.InProjRefIdeal.main_v30) = v4 c
          ∧ r.2.mem ((c.tc : Thread Cert.InProjRefIdeal.nD Cert.InProjRefIdeal.τ).loc Cert.InProjRefIdeal.main_v97) = v5 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6)
          ∧ r.2.mem ((c.tc : Thread Cert.InProjRefIdeal.nD Cert.InProjRefIdeal.τ).loc Cert.InProjRefIdeal.main_arg7) = m' ((c.tc : Thread Cert.InProjRefIdeal.nD Cert.InProjRefIdeal.τ).loc Cert.InProjRefIdeal.main_arg7))

def Claim : Prop :=
  ∃ (hAttn : Cert.Attn.Facts) (hAttnIdeal : Cert.AttnIdeal.Facts) (hAttnRefIdeal : Cert.AttnRefIdeal.Facts) (hAttnRef : Cert.AttnRef.Facts) (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hPre_log_denominators_finite : Cert.Pre_log_denominators_finite.Facts),
    quiescent_Attn (hAttn := hAttn)
    ∧ quiescent_AttnIdeal (hAttnIdeal := hAttnIdeal)
    ∧ quiescent_AttnRefIdeal (hAttnRefIdeal := hAttnRefIdeal)
    ∧ quiescent_AttnRef (hAttnRef := hAttnRef)
    ∧ quiescent_Merge (hMerge := hMerge)
    ∧ quiescent_MergeIdeal (hMergeIdeal := hMergeIdeal)
    ∧ quiescent_MergeIdeal_pre_log_denominators_finite (hMergeIdeal := hMergeIdeal) (hPre_log_denominators_finite := hPre_log_denominators_finite)
    ∧ quiescent_MergeRefIdeal (hMergeRefIdeal := hMergeRefIdeal)
    ∧ quiescent_MergeRefIdeal_pre_log_denominators_finite (hMergeRefIdeal := hMergeRefIdeal) (hPre_log_denominators_finite := hPre_log_denominators_finite)
    ∧ quiescent_InProj (hInProj := hInProj)
    ∧ quiescent_InProjIdeal (hInProjIdeal := hInProjIdeal)
    ∧ quiescent_InProjRefIdeal (hInProjRefIdeal := hInProjRefIdeal)
    ∧ preserves_Attn_AttnIdeal
    ∧ algebraic_AttnIdeal_AttnRefIdeal (hAttnIdeal := hAttnIdeal) (hAttnRefIdeal := hAttnRefIdeal)
    ∧ preserves_AttnRef_AttnRefIdeal
    ∧ preserves_Merge_MergeIdeal
    ∧ algebraic_MergeIdeal_MergeRefIdeal_pre_log_denominators_finite (hMergeIdeal := hMergeIdeal) (hMergeRefIdeal := hMergeRefIdeal) (hPre_log_denominators_finite := hPre_log_denominators_finite)
    ∧ preserves_InProj_InProjIdeal
    ∧ algebraic_InProjIdeal_InProjRefIdeal (hInProjIdeal := hInProjIdeal) (hInProjRefIdeal := hInProjRefIdeal)
-- ==== Pre_log_denominators_finite.lean ====
abbrev S8x8192x1024 : Shape := ⟨3, ![8, 8192, 1024]⟩
abbrev S8x8192x768 : Shape := ⟨3, ![8, 8192, 768]⟩
abbrev S8x8192x4x64 : Shape := ⟨4, ![8, 8192, 4, 64]⟩
abbrev S8x8192x4 : Shape := ⟨3, ![8, 8192, 4]⟩
abbrev S8x8192x2048 : Shape := ⟨3, ![8, 8192, 2048]⟩
abbrev S8x6144 : Shape := ⟨2, ![8, 6144]⟩
abbrev S768 : Shape := ⟨1, ![768]⟩
abbrev S1024 : Shape := ⟨1, ![1024]⟩
abbrev S768x1024 : Shape := ⟨2, ![768, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S8x8192x4 : S_.BroadcastsInDim S8x8192x4 (![] : Fin 0 → Fin S8x8192x4.rank)

variable [Facts]

def fn {F : FTy → Type} [FloatOps F] (main_arg0 : FVec F S8x8192x1024 .f32) (main_arg1 : FVec F S8x8192x768 .f32) (main_arg2 : FVec F S8x8192x768 .f32) (main_arg3 : FVec F S8x8192x768 .f32) (main_arg4 : FVec F S8x8192x4x64 .f32) (main_arg5 : FVec F S8x8192x4x64 .f32) (main_arg6 : FVec F S8x8192x4x64 .f32) (main_arg7 : FVec F S8x8192x4 .f32) (main_arg8 : FVec F S8x8192x4 .f32) (main_arg9 : FVec F S8x8192x4 .f32) (main_arg10 : FVec F S8x8192x2048 .f32) (main_arg11 : FVec F S8x6144 .f32) (main_arg12 : FVec F S768 .f32) (main_arg13 : FVec F S1024 .f32) (main_arg14 : FVec F S768x1024 .f32) (main_arg15 : FVec F S256x1024 .f32) (main_arg16 : FVec F S1024x1024 .f32) (main_arg17 : FVec F S1024x4096 .f32) (main_arg18 : FVec F S4096x1024 .f32) : IVec S8x8192x4 1 :=
  let main_v0 : FVec F S8x8192x4 .f32 := maximumf main_arg7 main_arg8
  let main_v1 : FVec F S8x8192x4 .f32 := maximumf main_v0 main_arg9
  let main_cst : FVec F S_ .f32 := constant S_ .f32 0x7F800000#32
  let main_v2 : FVec F S8x8192x4 .f32 := broadcastInDim S8x8192x4 ![] bcast_S_S8x8192x4 main_cst
  let main_v3 : IVec S8x8192x4 1 := cmpf .olt main_v1 main_v2
  let main_cst_0 : FVec F S_ .f32 := constant S_ .f32 0xFF800000#32
  let main_v4 : FVec F S8x8192x4 .f32 := broadcastInDim S8x8192x4 ![] bcast_S_S8x8192x4 main_cst_0
  let main_v5 : IVec S8x8192x4 1 := cmpf .ogt main_v1 main_v4
  let main_v6 : IVec S8x8192x4 1 := andi main_v3 main_v5
  main_v6
-- ==== Attn.lean ====
abbrev S8x8192x768 : Shape := ⟨3, ![8, 8192, 768]⟩
abbrev S32x12 : Shape := ⟨2, ![32, 12]⟩
abbrev S129 : Shape := ⟨1, ![129]⟩
abbrev S32x4 : Shape := ⟨2, ![32, 4]⟩
abbrev S_ : Shape := ⟨0, ![]⟩
abbrev S129x1 : Shape := ⟨2, ![129, 1]⟩
abbrev S129x4 : Shape := ⟨2, ![129, 4]⟩
abbrev S4x129 : Shape := ⟨2, ![4, 129]⟩
abbrev S256 : Shape := ⟨1, ![256]⟩
abbrev S1x256 : Shape := ⟨2, ![1, 256]⟩
abbrev S128 : Shape := ⟨1, ![128]⟩
abbrev S128x1 : Shape := ⟨2, ![128, 1]⟩
abbrev S128x256 : Shape := ⟨2, ![128, 256]⟩
abbrev S128x256x1 : Shape := ⟨3, ![128, 256, 1]⟩
abbrev S4x128x256 : Shape := ⟨3, ![4, 128, 256]⟩
abbrev S1x4x128x256 : Shape := ⟨4, ![1, 4, 128, 256]⟩
abbrev S3x4x128x256 : Shape := ⟨4, ![3, 4, 128, 256]⟩
abbrev S8x8192x128 : Shape := ⟨3, ![8, 8192, 128]⟩
abbrev S1x512x128 : Shape := ⟨3, ![1, 512, 128]⟩
abbrev S1x64x128 : Shape := ⟨3, ![1, 64, 128]⟩
abbrev S1x128 : Shape := ⟨2, ![1, 128]⟩
abbrev S64x128 : Shape := ⟨2, ![64, 128]⟩
abbrev S512x128 : Shape := ⟨2, ![512, 128]⟩
abbrev S640x128 : Shape := ⟨2, ![640, 128]⟩
abbrev S1x128x128 : Shape := ⟨3, ![1, 128, 128]⟩
abbrev S128x128 : Shape := ⟨2, ![128, 128]⟩
abbrev S256x128 : Shape := ⟨2, ![256, 128]⟩
abbrev S1x1x128x256 : Shape := ⟨4, ![1, 1, 128, 256]⟩

abbrev nBuf : Space → Nat
  | .hbm => 59
  | .vmem => 37
  | .smem => 0
  | _ => 0

abbrev bufTy : (tb : Table) → Fin (tcTables nBuf tb) → BufTy
  | .hbm, ⟨0, _⟩ => ⟨S8x8192x768, .f32⟩
  | .hbm, ⟨1, _⟩ => ⟨S8x8192x768, .f32⟩
  | .hbm, ⟨2, _⟩ => ⟨S8x8192x768, .f32⟩
  | .hbm, ⟨3, _⟩ => ⟨S32x12, .f32⟩
  | .hbm, ⟨4, _⟩ => ⟨S129, .i32⟩
  | .hbm, ⟨5, _⟩ => ⟨S129, .i1⟩
  | .hbm, ⟨6, _⟩ => ⟨S32x4, .f32⟩
  | .hbm, ⟨7, _⟩ => ⟨S_, .i32⟩
  | .hbm, ⟨8, _⟩ => ⟨S129, .i32⟩
  | .hbm, ⟨9, _⟩ => ⟨S129, .i32⟩
  | .hbm, ⟨10, _⟩ => ⟨S129, .i32⟩
  | .hbm, ⟨11, _⟩ => ⟨S129x1, .i32⟩
  | .hbm, ⟨12, _⟩ => ⟨S129x4, .f32⟩
  | .hbm, ⟨13, _⟩ => ⟨S4x129, .f32⟩
  | .hbm, ⟨14, _⟩ => ⟨S256, .i32⟩
  | .hbm, ⟨15, _⟩ => ⟨S1x256, .i32⟩
  | .hbm, ⟨16, _⟩ => ⟨S_, .i32⟩
  | .hbm, ⟨17, _⟩ => ⟨S1x256, .i32⟩
  | .hbm, ⟨18, _⟩ => ⟨S1x256, .i32⟩
  | .hbm, ⟨19, _⟩ => ⟨S128, .i32⟩
  | .hbm, ⟨20, _⟩ => ⟨S128x1, .i32⟩
  | .hbm, ⟨21, _⟩ => ⟨S128x256, .i32⟩
  | .hbm, ⟨22, _⟩ => ⟨S128x256, .i32⟩
  | .hbm, ⟨23, _⟩ => ⟨S128x256, .i32⟩
  | .hbm, ⟨24, _⟩ => ⟨S128x256, .i32⟩
  | .hbm, ⟨25, _⟩ => ⟨S_, .i32⟩
  | .hbm, ⟨26, _⟩ => ⟨S128x256, .i32⟩
  | .hbm, ⟨27, _⟩ => ⟨S128x256, .i1⟩
  | .hbm, ⟨28, _⟩ => ⟨S_, .i32⟩
  | .hbm, ⟨29, _⟩ => ⟨S128x256, .i32⟩
  | .hbm, ⟨30, _⟩ => ⟨S128x256, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S128x256, .i32⟩
  | .hbm, ⟨46, _⟩ => ⟨S128x256x1, .i32⟩
  | .hbm, ⟨47, _⟩ => ⟨S4x128x256, .f32⟩
  | .hbm, ⟨48, _⟩ => ⟨S_, .f32⟩
  | .hbm, ⟨49, _⟩ => ⟨S_, .f32⟩
  | .hbm, ⟨50, _⟩ => ⟨S4x128x256, .i1⟩
  | .hbm, ⟨51, _⟩ => ⟨S4x128x256, .f32⟩
  | .hbm, ⟨52, _⟩ => ⟨S4x128x256, .f32⟩
  | .hbm, ⟨53, _⟩ => ⟨S1x4x128x256, .f32⟩
  | .hbm, ⟨54, _⟩ => ⟨S3x4x128x256, .f32⟩
  | .hbm, ⟨55, _⟩ => ⟨S8x8192x128, .f32⟩
  | .hbm, ⟨56, _⟩ => ⟨S8x8192x128, .f32⟩
  | .hbm, ⟨57, _⟩ => ⟨S8x8192x128, .f32⟩
  | .hbm, ⟨58, _⟩ => ⟨S8x8192x128, .f32⟩
  | .local _ .vmem, ⟨0, _⟩ => ⟨S1x512x128, .f32⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x64x128, .f32⟩
  | .local _ .vmem, ⟨5, _⟩ => ⟨S1x64x128, .f32⟩
  | .local _ .vmem, ⟨6, _⟩ => ⟨S1x512x128, .f32⟩
  | .local _ .vmem, ⟨7, _⟩ => ⟨S1x512x128, .f32⟩
  | .local _ .vmem, ⟨8, _⟩ => ⟨S1x64x128, .f32⟩
  | .local _ .vmem, ⟨9, _⟩ => ⟨S1x64x128, .f32⟩
  | .local _ .vmem, ⟨10, _⟩ => ⟨S1x64x128, .f32⟩
  | .local _ .vmem, ⟨11, _⟩ => ⟨S1x64x128, .f32⟩
  | .local _ .vmem, ⟨12, _⟩ => ⟨S1x512x128, .f32⟩
  | .local _ .vmem, ⟨13, _⟩ => ⟨S1x512x128, .f32⟩
  | .local _ .vmem, ⟨14, _⟩ => ⟨S1x64x128, .f32⟩
  | .local _ .vmem, ⟨15, _⟩ => ⟨S1x64x128, .f32⟩
  | .local _ .vmem, ⟨16, _⟩ => ⟨S1x64x128, .f32⟩
  | .local _ .vmem, ⟨17, _⟩ => ⟨S1x64x128, .f32⟩
  | .local _ .vmem, ⟨18, _⟩ => ⟨S1x512x128, .f32⟩
  | .local _ .vmem, ⟨19, _⟩ => ⟨S1x512x128, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | .local _ .vmem, ⟨24, _⟩ => ⟨S1x512x128, .f32⟩
  | .local _ .vmem, ⟨25, _⟩ => ⟨S1x512x128, .f32⟩
  | .local _ .vmem, ⟨26, _⟩ => ⟨S1x64x128, .f32⟩
  | .local _ .vmem, ⟨27, _⟩ => ⟨S1x64x128, .f32⟩
  | .local _ .vmem, ⟨28, _⟩ => ⟨S1x4x128x256, .f32⟩
  | .local _ .vmem, ⟨29, _⟩ => ⟨S1x512x128, .f32⟩
  | .local _ .vmem, ⟨30, _⟩ => ⟨S1x512x128, .f32⟩
  | .local _ .vmem, ⟨31, _⟩ => ⟨S1x512x128, .f32⟩
  | .local _ .vmem, ⟨32, _⟩ => ⟨S1x512x128, .f32⟩
  | .local _ .vmem, ⟨33, _⟩ => ⟨S1x512x128, .f32⟩
  | .local _ .vmem, ⟨34, _⟩ => ⟨S1x512x128, .f32⟩
  | .local _ .vmem, ⟨35, _⟩ => ⟨S1x512x128, .f32⟩
  | .local _ .vmem, ⟨36, _⟩ => ⟨S1x512x128, .f32⟩
  | _, _ => ⟨S8x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_c_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_3 : Ref sig .tc := ⟨.hbm, 25, rfl⟩
abbrev main_v17 : Ref sig .tc := ⟨.hbm, 26, rfl⟩
abbrev main_v18 : Ref sig .tc := ⟨.hbm, 27, rfl⟩
abbrev main_c_4 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32_0 : Ref sig .tc := ⟨.hbm, 55, rfl⟩
abbrev main_v32_1 : Ref sig .tc := ⟨.hbm, 56, rfl⟩
abbrev main_v32_2 : Ref sig .tc := ⟨.hbm, 57, rfl⟩
abbrev main_v32_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c1_i32_0 : BitVec 32 := 1#32
  let c0_i32 : BitVec 32 := 0#32
  ![arg0.toNat, v2.toNat, c1_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c8_i32 : BitVec 32 := 8#32
  let v1 : BitVec 32 := Scalar.muli v0 c8_i32
  let c127_i32 : BitVec 32 := 127#32
  let v2 : BitVec 32 := Scalar.minsi v1 c127_i32
  let c1_i32_0 : BitVec 32 := 1#32
  let c0_i32 : BitVec 32 := 0#32
  ![arg0.toNat, v2.toNat, c1_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x4x128x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== AttnIdeal.lean ====
variable {F : FTy → Type} [FloatOps F] [Named F]
def κ : String → Option EReal := fun
  | "mask" => some ⊥
  | _ => none
-- ==== AttnRef.lean ====
abbrev S8x8192x768 : Shape := ⟨3, ![8, 8192, 768]⟩
abbrev S32x12 : Shape := ⟨2, ![32, 12]⟩
abbrev S129 : Shape := ⟨1, ![129]⟩
abbrev S8x8192x12x64 : Shape := ⟨4, ![8, 8192, 12, 64]⟩
abbrev S8x8192x4x64 : Shape := ⟨4, ![8, 8192, 4, 64]⟩
abbrev S32x4 : Shape := ⟨2, ![32, 4]⟩
abbrev S_ : Shape := ⟨0, ![]⟩
abbrev S129x1 : Shape := ⟨2, ![129, 1]⟩
abbrev S129x4 : Shape := ⟨2, ![129, 4]⟩
abbrev S4x129 : Shape := ⟨2, ![4, 129]⟩
abbrev S8x8192x1x4x64 : Shape := ⟨5, ![8, 8192, 1, 4, 64]⟩
abbrev S8x1x4x8192x64 : Shape := ⟨5, ![8, 1, 4, 8192, 64]⟩
abbrev S8x1x4x128x64x64 : Shape := ⟨6, ![8, 1, 4, 128, 64, 64]⟩
abbrev S8x1x4x8320x64 : Shape := ⟨5, ![8, 1, 4, 8320, 64]⟩
abbrev S8x1x4x130x64x64 : Shape := ⟨6, ![8, 1, 4, 130, 64, 64]⟩
abbrev S8x1x4x128x192x64 : Shape := ⟨6, ![8, 1, 4, 128, 192, 64]⟩
abbrev S8x1x4x128x64x192 : Shape := ⟨6, ![8, 1, 4, 128, 64, 192]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S128 : Shape := ⟨1, ![128]⟩
abbrev S128x1x1 : Shape := ⟨3, ![128, 1, 1]⟩
abbrev S1x1x192 : Shape := ⟨3, ![1, 1, 192]⟩
abbrev S128x1x192 : Shape := ⟨3, ![128, 1, 192]⟩
abbrev S1x64x192 : Shape := ⟨3, ![1, 64, 192]⟩
abbrev S128x64x192 : Shape := ⟨3, ![128, 64, 192]⟩
abbrev S64x192x1 : Shape := ⟨3, ![64, 192, 1]⟩
abbrev S4x64x192 : Shape := ⟨3, ![4, 64, 192]⟩
abbrev S4x1x64x192 : Shape := ⟨4, ![4, 1, 64, 192]⟩
abbrev S1x1x4x1x64x192 : Shape := ⟨6, ![1, 1, 4, 1, 64, 192]⟩
abbrev S8x1x4x128x64 : Shape := ⟨5, ![8, 1, 4, 128, 64]⟩
abbrev S8x1x4x128x64x1 : Shape := ⟨6, ![8, 1, 4, 128, 64, 1]⟩
abbrev S8x1x4x8192 : Shape := ⟨4, ![8, 1, 4, 8192]⟩
abbrev S8x8192x1x4 : Shape := ⟨4, ![8, 8192, 1, 4]⟩
abbrev S8x8192x4 : Shape := ⟨3, ![8, 8192, 4]⟩
abbrev S8x8192x256 : Shape := ⟨3, ![8, 8192, 256]⟩
abbrev S8x8192x128 : Shape := ⟨3, ![8, 8192, 128]⟩

abbrev nBuf : Space → Nat
  | .hbm => 142
  | .vmem => 0
  | .smem => 0
  | _ => 0

abbrev hbmTy0_0 (i : Nat) : BufTy := match i % 128 with
  | 0 => ⟨S8x8192x768, .f32⟩
  | 1 => ⟨S8x8192x768, .f32⟩
  | 2 => ⟨S8x8192x768, .f32⟩
  | 3 => ⟨S32x12, .f32⟩
  | 4 => ⟨S129, .i32⟩
  | 5 => ⟨S129, .i1⟩
  | 6 => ⟨S8x8192x12x64, .f32⟩
  | 7 => ⟨S8x8192x4x64, .f32⟩
  | 8 => ⟨S8x8192x12x64, .f32⟩
  | 9 => ⟨S8x8192x4x64, .f32⟩
  | 10 => ⟨S8x8192x12x64, .f32⟩
  | 11 => ⟨S8x8192x4x64, .f32⟩
  | 12 => ⟨S32x4, .f32⟩
  | 13 => ⟨S_, .i32⟩
  | 14 => ⟨S129, .i32⟩
  | 15 => ⟨S129, .i32⟩
  | 16 => ⟨S129, .i32⟩
  | 17 => ⟨S129x1, .i32⟩
  | 18 => ⟨S129x4, .f32⟩
  | 19 => ⟨S4x129, .f32⟩
  | 20 => ⟨S8x8192x1x4x64, .f32⟩
  | 21 => ⟨S8x1x4x8192x64, .f32⟩
  | 22 => ⟨S8x8192x1x4x64, .f32⟩
  | 23 => ⟨S8x1x4x8192x64, .f32⟩
  | 24 => ⟨S8x8192x1x4x64, .f32⟩
  | 25 => ⟨S8x1x4x8192x64, .f32⟩
  | 26 => ⟨S_, .i32⟩
  | 27 => ⟨S_, .f32⟩
  | 28 => ⟨S8x1x4x8192x64, .f32⟩
  | 29 => ⟨S8x1x4x128x64x64, .f32⟩
  | 30 => ⟨S_, .i32⟩
  | 31 => ⟨S_, .f32⟩
  | 32 => ⟨S8x1x4x8320x64, .f32⟩
  | 33 => ⟨S8x1x4x130x64x64, .f32⟩
  | 34 => ⟨S8x1x4x128x64x64, .f32⟩
  | 35 => ⟨S8x1x4x128x64x64, .f32⟩
  | 36 => ⟨S8x1x4x128x64x64, .f32⟩
  | 37 => ⟨S8x1x4x128x192x64, .f32⟩
  | 38 => ⟨S_, .i32⟩
  | 39 => ⟨S_, .f32⟩
  | 40 => ⟨S8x1x4x8320x64, .f32⟩
  | 41 => ⟨S8x1x4x130x64x64, .f32⟩
  | 42 => ⟨S8x1x4x128x64x64, .f32⟩
  | 43 => ⟨S8x1x4x128x64x64, .f32⟩
  | 44 => ⟨S8x1x4x128x64x64, .f32⟩
  | 45 => ⟨S8x1x4x128x192x64, .f32⟩
  | 46 => ⟨S8x1x4x128x64x192, .f32⟩
  | 47 => ⟨S64, .i32⟩
  | 48 => ⟨S64x1, .i32⟩
  | 49 => ⟨S192, .i32⟩
  | 50 => ⟨S1x192, .i32⟩
  | 51 => ⟨S_, .i32⟩
  | 52 => ⟨S1x192, .i32⟩
  | 53 => ⟨S1x192, .i32⟩
  | 54 => ⟨S64x192, .i32⟩
  | 55 => ⟨S64x192, .i32⟩
  | 56 => ⟨S64x192, .i32⟩
  | 57 => ⟨S128, .i32⟩
  | 58 => ⟨S128x1x1, .i32⟩
  | 59 => ⟨S_, .i32⟩
  | 60 => ⟨S128x1x1, .i32⟩
  | 61 => ⟨S128x1x1, .i32⟩
  | 62 => ⟨S_, .i32⟩
  | 63 => ⟨S1x192, .i32⟩
  | 64 => ⟨S1x192, .i32⟩
  | 65 => ⟨S1x1x192, .i32⟩
  | 66 => ⟨S128x1x192, .i32⟩
  | 67 => ⟨S128x1x192, .i32⟩
  | 68 => ⟨S128x1x192, .i32⟩
  | 69 => ⟨S64x192, .i32⟩
  | 70 => ⟨S_, .i32⟩
  | 71 => ⟨S64x192, .i32⟩
  | 72 => ⟨S64x192, .i1⟩
  | 73 => ⟨S1x64x192, .i1⟩
  | 74 => ⟨S_, .i32⟩
  | 75 => ⟨S128x1x192, .i32⟩
  | 76 => ⟨S128x1x192, .i1⟩
  | 77 => ⟨S128x64x192, .i1⟩
  | 78 => ⟨S128x64x192, .i1⟩
  | 79 => ⟨S128x64x192, .i1⟩
  | 80 => ⟨S_, .i32⟩
  | 81 => ⟨S128x1x192, .i32⟩
  | 82 => ⟨S128x1x192, .i1⟩
  | 83 => ⟨S128x64x192, .i1⟩
  | 84 => ⟨S128x64x192, .i1⟩
  | 85 => ⟨S_, .i32⟩
  | 86 => ⟨S64x192, .i32⟩
  | 87 => ⟨S64x192, .i32⟩
  | 88 => ⟨S_, .i32⟩
  | 89 => ⟨S_, .i32⟩
  | 90 => ⟨S_, .i32⟩
  | 91 => ⟨S64x192, .i32⟩
  | 92 => ⟨S64x192, .i32⟩
  | 93 => ⟨S_, .i32⟩
  | 94 => ⟨S64x192, .i32⟩
  | 95 => ⟨S64x192, .i32⟩
  | 96 => ⟨S_, .i32⟩
  | 97 => ⟨S64x192, .i32⟩
  | 98 => ⟨S64x192, .i1⟩
  | 99 => ⟨S_, .i32⟩
  | 100 => ⟨S64x192, .i32⟩
  | 101 => ⟨S64x192, .i32⟩
  | 102 => ⟨S64x192, .i32⟩
  | 103 => ⟨S64x192x1, .i32⟩
  | 104 => ⟨S4x64x192, .f32⟩
  | 105 => ⟨S4x1x64x192, .f32⟩
  | 106 => ⟨S1x1x4x1x64x192, .f32⟩
  | 107 => ⟨S8x1x4x128x64x192, .f32⟩
  | 108 => ⟨S8x1x4x128x64x192, .f32⟩
  | 109 => ⟨S_, .f32⟩
  | 110 => ⟨S_, .f32⟩
  | 111 => ⟨S8x1x4x128x64x192, .i1⟩
  | 112 => ⟨S8x1x4x128x64x192, .f32⟩
  | 113 => ⟨S8x1x4x128x64x192, .f32⟩
  | 114 => ⟨S_, .f32⟩
  | 115 => ⟨S8x1x4x128x64, .f32⟩
  | 116 => ⟨S8x1x4x128x64x1, .f32⟩
  | 117 => ⟨S8x1x4x128x64x192, .f32⟩
  | 118 => ⟨S8x1x4x128x64x192, .f32⟩
  | 119 => ⟨S8x1x4x128x64x192, .f32⟩
  | 120 => ⟨S_, .f32⟩
  | 121 => ⟨S8x1x4x128x64, .f32⟩
  | 122 => ⟨S8x1x4x128x64x1, .f32⟩
  | 123 => ⟨S8x1x4x128x64x64, .f32⟩
  | 124 => ⟨S8x1x4x128x64x64, .f32⟩
  | 125 => ⟨S8x1x4x128x64x64, .f32⟩
  | 126 => ⟨S8x1x4x128x64x1, .f32⟩
  | 127 => ⟨S8x1x4x128x64x1, .f32⟩
  | _ => ⟨S8x8192x768, .f32⟩

abbrev hbmTy0_1 (i : Nat) : BufTy := match i % 128 with
  | 0 => ⟨S8x1x4x128x64, .f32⟩
  | 1 => ⟨S8x1x4x8192x64, .f32⟩
  | 2 => ⟨S8x1x4x8192, .f32⟩
  | 3 => ⟨S8x8192x1x4x64, .f32⟩
  | 4 => ⟨S8x8192x4x64, .f32⟩
  | 5 => ⟨S8x8192x1x4, .f32⟩
  | 6 => ⟨S8x8192x4, .f32⟩
  | 7 => ⟨S8x8192x256, .f32⟩
  | 8 => ⟨S8x8192x4x64, .f32⟩
  | 9 => ⟨S8x8192x256, .f32⟩
  | 10 => ⟨S8x8192x128, .f32⟩
  | 11 => ⟨S8x8192x128, .f32⟩
  | 12 => ⟨S8x8192x128, .f32⟩
  | 13 => ⟨S8x8192x128, .f32⟩
  | _ => ⟨S8x8192x768, .f32⟩

abbrev hbmTy (i : Nat) : BufTy := match i / 128 with
  | 0 => hbmTy0_0 i
  | 1 => hbmTy0_1 i
  | _ => ⟨S8x8192x768, .f32⟩

abbrev bufTy : (tb : Table) → Fin (tcTables nBuf tb) → BufTy
  | .hbm, ⟨i, _⟩ => hbmTy i
  | _, _ => ⟨S8x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_call0_v0 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_call1_v0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_call2_v0 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_c_6 : Ref sig .tc := ⟨.hbm, 59, rfl⟩
abbrev main_v45 : Ref sig .tc := ⟨.hbm, 60, rfl⟩
abbrev main_v46 : Ref sig .tc := ⟨.hbm, 61, rfl⟩
abbrev main_c_7 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_8 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_c_9 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c_10 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_11 : Ref sig .tc := ⟨.hbm, 85, rfl⟩
abbrev main_v66 : Ref sig .tc := ⟨.hbm, 86, rfl⟩
abbrev main_v67 : Ref sig .tc := ⟨.hbm, 87, rfl⟩
abbrev main_c_12 : Ref sig .tc := ⟨.hbm, 88, rfl⟩
abbrev main_c_13 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_v68 : Ref sig .tc := ⟨.hbm, 95, rfl⟩
abbrev main_c_14 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v80 : Ref sig .tc := ⟨.hbm, 113, rfl⟩
abbrev main_cst_16 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_17 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== Merge.lean ====
abbrev S8x8192x1024 : Shape := ⟨3, ![8, 8192, 1024]⟩
abbrev S8x8192x768 : Shape := ⟨3, ![8, 8192, 768]⟩
abbrev S8x8192x4x64 : Shape := ⟨4, ![8, 8192, 4, 64]⟩
abbrev S8x8192x4 : Shape := ⟨3, ![8, 8192, 4]⟩
abbrev S8x8192x2048 : Shape := ⟨3, ![8, 8192, 2048]⟩
abbrev S8x6144 : Shape := ⟨2, ![8, 6144]⟩
abbrev S768 : Shape := ⟨1, ![768]⟩
abbrev S1024 : Shape := ⟨1, ![1024]⟩
abbrev S768x1024 : Shape := ⟨2, ![768, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S8x8192x256 : Shape := ⟨3, ![8, 8192, 256]⟩
abbrev S8x8192x128 : Shape := ⟨3, ![8, 8192, 128]⟩
abbrev S8x1x6144 : Shape := ⟨3, ![8, 1, 6144]⟩
abbrev S1x768 : Shape := ⟨2, ![1, 768]⟩
abbrev S1x1024 : Shape := ⟨2, ![1, 1024]⟩
abbrev S1x256x1024 : Shape := ⟨3, ![1, 256, 1024]⟩
abbrev S1x256x768 : Shape := ⟨3, ![1, 256, 768]⟩
abbrev S1x256x128 : Shape := ⟨3, ![1, 256, 128]⟩
abbrev S1x256x2048 : Shape := ⟨3, ![1, 256, 2048]⟩
abbrev S1x1x6144 : Shape := ⟨3, ![1, 1, 6144]⟩
abbrev S1x6144 : Shape := ⟨2, ![1, 6144]⟩
abbrev S256x128 : Shape := ⟨2, ![256, 128]⟩
abbrev S256x256 : Shape := ⟨2, ![256, 256]⟩
abbrev S256x768 : Shape := ⟨2, ![256, 768]⟩
abbrev S256x2048 : Shape := ⟨2, ![256, 2048]⟩
abbrev S256 : Shape := ⟨1, ![256]⟩
abbrev S256x1 : Shape := ⟨2, ![256, 1]⟩
abbrev S256x4096 : Shape := ⟨2, ![256, 4096]⟩

abbrev nBuf : Space → Nat
  | .hbm => 49
  | .vmem => 45
  | .smem => 0
  | _ => 0

abbrev bufTy : (tb : Table) → Fin (tcTables nBuf tb) → BufTy
  | .hbm, ⟨0, _⟩ => ⟨S8x8192x1024, .f32⟩
  | .hbm, ⟨1, _⟩ => ⟨S8x8192x768, .f32⟩
  | .hbm, ⟨2, _⟩ => ⟨S8x8192x768, .f32⟩
  | .hbm, ⟨3, _⟩ => ⟨S8x8192x768, .f32⟩
  | .hbm, ⟨4, _⟩ => ⟨S8x8192x4x64, .f32⟩
  | .hbm, ⟨5, _⟩ => ⟨S8x8192x4x64, .f32⟩
  | .hbm, ⟨6, _⟩ => ⟨S8x8192x4x64, .f32⟩
  | .hbm, ⟨7, _⟩ => ⟨S8x8192x4, .f32⟩
  | .hbm, ⟨8, _⟩ => ⟨S8x8192x4, .f32⟩
  | .hbm, ⟨9, _⟩ => ⟨S8x8192x4, .f32⟩
  | .hbm, ⟨10, _⟩ => ⟨S8x8192x2048, .f32⟩
  | .hbm, ⟨11, _⟩ => ⟨S8x6144, .f32⟩
  | .hbm, ⟨12, _⟩ => ⟨S768, .f32⟩
  | .hbm, ⟨13, _⟩ => ⟨S1024, .f32⟩
  | .hbm, ⟨14, _⟩ => ⟨S768x1024, .f32⟩
  | .hbm, ⟨15, _⟩ => ⟨S256x1024, .f32⟩
  | .hbm, ⟨16, _⟩ => ⟨S1024x1024, .f32⟩
  | .hbm, ⟨17, _⟩ => ⟨S1024x4096, .f32⟩
  | .hbm, ⟨18, _⟩ => ⟨S4096x1024, .f32⟩
  | .hbm, ⟨19, _⟩ => ⟨S8x8192x256, .f32⟩
  | .hbm, ⟨20, _⟩ => ⟨S8x8192x4x64, .f32⟩
  | .hbm, ⟨21, _⟩ => ⟨S8x8192x256, .f32⟩
  | .hbm, ⟨22, _⟩ => ⟨S8x8192x128, .f32⟩
  | .hbm, ⟨23, _⟩ => ⟨S8x8192x128, .f32⟩
  | .hbm, ⟨24, _⟩ => ⟨S8x8192x128, .f32⟩
  | .hbm, ⟨25, _⟩ => ⟨S8x8192x128, .f32⟩
  | .hbm, ⟨26, _⟩ => ⟨S8x8192x256, .f32⟩
  | .hbm, ⟨27, _⟩ => ⟨S8x8192x4x64, .f32⟩
  | .hbm, ⟨28, _⟩ => ⟨S8x8192x256, .f32⟩
  | .hbm, ⟨29, _⟩ => ⟨S8x8192x128, .f32⟩
  | .hbm, ⟨30, _⟩ => ⟨S8x8192x128, .f32⟩
  | .hbm, ⟨31, _⟩ => ⟨S8x8192x128, .f32⟩
  | .hbm, ⟨32, _⟩ => ⟨S8x8192x128, .f32⟩
  | .hbm, ⟨33, _⟩ => ⟨S8x8192x256, .f32⟩
  | .hbm, ⟨34, _⟩ => ⟨S8x8192x4x64, .f32⟩
  | .hbm, ⟨35, _⟩ => ⟨S8x8192x256, .f32⟩
  | .hbm, ⟨36, _⟩ => ⟨S8x8192x128, .f32⟩
  | .hbm, ⟨37, _⟩ => ⟨S8x8192x128, .f32⟩
  | .hbm, ⟨38, _⟩ => ⟨S8x8192x128, .f32⟩
  | .hbm, ⟨39, _⟩ => ⟨S8x8192x128, .f32⟩
  | .hbm, ⟨40, _⟩ => ⟨S8x1x6144, .f32⟩
  | .hbm, ⟨41, _⟩ => ⟨S768x1024, .bf16⟩
  | .hbm, ⟨42, _⟩ => ⟨S256x1024, .bf16⟩
  | .hbm, ⟨43, _⟩ => ⟨S1024x1024, .bf16⟩
  | .hbm, ⟨44, _⟩ => ⟨S1024x4096, .bf16⟩
  | .hbm, ⟨45, _⟩ => ⟨S4096x1024, .bf16⟩
  | .hbm, ⟨46, _⟩ => ⟨S1x768, .f32⟩
  | .hbm, ⟨47, _⟩ => ⟨S1x1024, .f32⟩
  | .hbm, ⟨48, _⟩ => ⟨S8x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x768, .f32⟩
  | .local _ .vmem, ⟨3, _⟩ => ⟨S1x256x768, .f32⟩
  | .local _ .vmem, ⟨4, _⟩ => ⟨S1x256x768, .f32⟩
  | .local _ .vmem, ⟨5, _⟩ => ⟨S1x256x768, .f32⟩
  | .local _ .vmem, ⟨6, _⟩ => ⟨S1x256x768, .f32⟩
  | .local _ .vmem, ⟨7, _⟩ => ⟨S1x256x768, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | .local _ .vmem, ⟨16, _⟩ => ⟨S1x256x128, .f32⟩
  | .local _ .vmem, ⟨17, _⟩ => ⟨S1x256x128, .f32⟩
  | .local _ .vmem, ⟨18, _⟩ => ⟨S1x256x128, .f32⟩
  | .local _ .vmem, ⟨19, _⟩ => ⟨S1x256x128, .f32⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | .local _ .vmem, ⟨24, _⟩ => ⟨S1x256x128, .f32⟩
  | .local _ .vmem, ⟨25, _⟩ => ⟨S1x256x128, .f32⟩
  | .local _ .vmem, ⟨26, _⟩ => ⟨S1x256x128, .f32⟩
  | .local _ .vmem, ⟨27, _⟩ => ⟨S1x256x128, .f32⟩
  | .local _ .vmem, ⟨28, _⟩ => ⟨S1x256x128, .f32⟩
  | .local _ .vmem, ⟨29, _⟩ => ⟨S1x256x128, .f32⟩
  | .local _ .vmem, ⟨30, _⟩ => ⟨S1x256x128, .f32⟩
  | .local _ .vmem, ⟨31, _⟩ => ⟨S1x256x128, .f32⟩
  | .local _ .vmem, ⟨32, _⟩ => ⟨S1x256x2048, .f32⟩
  | .local _ .vmem, ⟨33, _⟩ => ⟨S1x256x2048, .f32⟩
  | .local _ .vmem, ⟨34, _⟩ => ⟨S1x1x6144, .f32⟩
  | .local _ .vmem, ⟨35, _⟩ => ⟨S1x1x6144, .f32⟩
  | .local _ .vmem, ⟨36, _⟩ => ⟨S1x768, .f32⟩
  | .local _ .vmem, ⟨37, _⟩ => ⟨S1x1024, .f32⟩
  | .local _ .vmem, ⟨38, _⟩ => ⟨S768x1024, .bf16⟩
  | .local _ .vmem, ⟨39, _⟩ => ⟨S256x1024, .bf16⟩
  | .local _ .vmem, ⟨40, _⟩ => ⟨S1024x1024, .bf16⟩
  | .local _ .vmem, ⟨41, _⟩ => ⟨S1024x4096, .bf16⟩
  | .local _ .vmem, ⟨42, _⟩ => ⟨S4096x1024, .bf16⟩
  | .local _ .vmem, ⟨43, _⟩ => ⟨S1x256x1024, .f32⟩
  | .local _ .vmem, ⟨44, _⟩ => ⟨S1x256x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg19_0 : Ref sig .tc := ⟨.vmem, 37, rfl⟩
abbrev cc0_stg20_0 : Ref sig .tc := ⟨.vmem, 38, rfl⟩
abbrev cc0_stg21_0 : Ref sig .tc := ⟨.vmem, 39, rfl⟩
abbrev cc0_stg22_0 : Ref sig .tc := ⟨.vmem, 40, rfl⟩
abbrev cc0_stg23_0 : Ref sig .tc := ⟨.vmem, 41, rfl⟩
abbrev cc0_stg24_0 : Ref sig .tc := ⟨.vmem, 42, rfl⟩
abbrev cc0_stg25_0 : Ref sig .tc := ⟨.vmem, 43, rfl⟩
abbrev cc0_stg25_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem19_0 : DmaSem sig := 37
abbrev cc0_sem20_0 : DmaSem sig := 38
abbrev cc0_sem21_0 : DmaSem sig := 39
abbrev cc0_sem22_0 : DmaSem sig := 40
abbrev cc0_sem23_0 : DmaSem sig := 41
abbrev cc0_sem24_0 : DmaSem sig := 42
abbrev cc0_sem25_0 : DmaSem sig := 43
abbrev cc0_sem25_1 : DmaSem sig := 44

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x2048 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x6144 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S768x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S256x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S1024x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1024x4096 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S4096x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 2 → Memref sig .tc .vmem S1x256x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== MergeRefIdeal.lean ====
abbrev S8x8192x1024 : Shape := ⟨3, ![8, 8192, 1024]⟩
abbrev S8x8192x768 : Shape := ⟨3, ![8, 8192, 768]⟩
abbrev S8x8192x4x64 : Shape := ⟨4, ![8, 8192, 4, 64]⟩
abbrev S8x8192x4 : Shape := ⟨3, ![8, 8192, 4]⟩
abbrev S8x8192x2048 : Shape := ⟨3, ![8, 8192, 2048]⟩
abbrev S8x6144 : Shape := ⟨2, ![8, 6144]⟩
abbrev S768 : Shape := ⟨1, ![768]⟩
abbrev S1024 : Shape := ⟨1, ![1024]⟩
abbrev S768x1024 : Shape := ⟨2, ![768, 1024]⟩
abbrev S256x1024 : Shape := ⟨2, ![256, 1024]⟩
abbrev S1024x1024 : Shape := ⟨2, ![1024, 1024]⟩
abbrev S1024x4096 : Shape := ⟨2, ![1024, 4096]⟩
abbrev S4096x1024 : Shape := ⟨2, ![4096, 1024]⟩
abbrev S8x1x6144 : Shape := ⟨3, ![8, 1, 6144]⟩
abbrev S8x1x1024 : Shape := ⟨3, ![8, 1, 1024]⟩
abbrev S1x1x768 : Shape := ⟨3, ![1, 1, 768]⟩
abbrev S1x8x8192x4 : Shape := ⟨4, ![1, 8, 8192, 4]⟩
abbrev S3x8x8192x4 : Shape := ⟨4, ![3, 8, 8192, 4]⟩
abbrev S_ : Shape := ⟨0, ![]⟩
abbrev S3x8x8192x4x1 : Shape := ⟨5, ![3, 8, 8192, 4, 1]⟩
abbrev S1x8x8192x4x64 : Shape := ⟨5, ![1, 8, 8192, 4, 64]⟩
abbrev S3x8x8192x4x64 : Shape := ⟨5, ![3, 8, 8192, 4, 64]⟩
abbrev S8x8192x256 : Shape := ⟨3, ![8, 8192, 256]⟩
abbrev S8x8192 : Shape := ⟨2, ![8, 8192]⟩
abbrev S8x8192x1 : Shape := ⟨3, ![8, 8192, 1]⟩
abbrev S1x1x1024 : Shape := ⟨3, ![1, 1, 1024]⟩
abbrev S8x8192x4096 : Shape := ⟨3, ![8, 8192, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x768, .f32⟩
  | .hbm, ⟨2, _⟩ => ⟨S8x8192x768, .f32⟩
  | .hbm, ⟨3, _⟩ => ⟨S8x8192x768, .f32⟩
  | .hbm, ⟨4, _⟩ => ⟨S8x8192x4x64, .f32⟩
  | .hbm, ⟨5, _⟩ => ⟨S8x8192x4x64, .f32⟩
  | .hbm, ⟨6, _⟩ => ⟨S8x8192x4x64, .f32⟩
  | .hbm, ⟨7, _⟩ => ⟨S8x8192x4, .f32⟩
  | .hbm, ⟨8, _⟩ => ⟨S8x8192x4, .f32⟩
  | .hbm, ⟨9, _⟩ => ⟨S8x8192x4, .f32⟩
  | .hbm, ⟨10, _⟩ => ⟨S8x8192x2048, .f32⟩
  | .hbm, ⟨11, _⟩ => ⟨S8x6144, .f32⟩
  | .hbm, ⟨12, _⟩ => ⟨S768, .f32⟩
  | .hbm, ⟨13, _⟩ => ⟨S1024, .f32⟩
  | .hbm, ⟨14, _⟩ => ⟨S768x1024, .f32⟩
  | .hbm, ⟨15, _⟩ => ⟨S256x1024, .f32⟩
  | .hbm, ⟨16, _⟩ => ⟨S1024x1024, .f32⟩
  | .hbm, ⟨17, _⟩ => ⟨S1024x4096, .f32⟩
  | .hbm, ⟨18, _⟩ => ⟨S4096x1024, .f32⟩
  | .hbm, ⟨19, _⟩ => ⟨S8x1x6144, .f32⟩
  | .hbm, ⟨20, _⟩ => ⟨S8x1x1024, .f32⟩
  | .hbm, ⟨21, _⟩ => ⟨S8x1x1024, .f32⟩
  | .hbm, ⟨22, _⟩ => ⟨S8x1x1024, .f32⟩
  | .hbm, ⟨23, _⟩ => ⟨S8x1x1024, .f32⟩
  | .hbm, ⟨24, _⟩ => ⟨S8x1x1024, .f32⟩
  | .hbm, ⟨25, _⟩ => ⟨S8x1x1024, .f32⟩
  | .hbm, ⟨26, _⟩ => ⟨S1x1x768, .f32⟩
  | .hbm, ⟨27, _⟩ => ⟨S8x8192x768, .f32⟩
  | .hbm, ⟨28, _⟩ => ⟨S8x8192x768, .f32⟩
  | .hbm, ⟨29, _⟩ => ⟨S8x8192x768, .f32⟩
  | .hbm, ⟨30, _⟩ => ⟨S8x8192x768, .f32⟩
  | .hbm, ⟨31, _⟩ => ⟨S1x8x8192x4, .f32⟩
  | .hbm, ⟨32, _⟩ => ⟨S1x8x8192x4, .f32⟩
  | .hbm, ⟨33, _⟩ => ⟨S1x8x8192x4, .f32⟩
  | .hbm, ⟨34, _⟩ => ⟨S3x8x8192x4, .f32⟩
  | .hbm, ⟨35, _⟩ => ⟨S_, .f32⟩
  | .hbm, ⟨36, _⟩ => ⟨S8x8192x4, .f32⟩
  | .hbm, ⟨37, _⟩ => ⟨S_, .f32⟩
  | .hbm, ⟨38, _⟩ => ⟨S8x8192x4, .f32⟩
  | .hbm, ⟨39, _⟩ => ⟨S8x8192x4, .f32⟩
  | .hbm, ⟨40, _⟩ => ⟨S1x8x8192x4, .f32⟩
  | .hbm, ⟨41, _⟩ => ⟨S3x8x8192x4, .f32⟩
  | .hbm, ⟨42, _⟩ => ⟨S3x8x8192x4, .f32⟩
  | .hbm, ⟨43, _⟩ => ⟨S3x8x8192x4, .f32⟩
  | .hbm, ⟨44, _⟩ => ⟨S_, .f32⟩
  | .hbm, ⟨45, _⟩ => ⟨S8x8192x4, .f32⟩
  | .hbm, ⟨46, _⟩ => ⟨S1x8x8192x4, .f32⟩
  | .hbm, ⟨47, _⟩ => ⟨S3x8x8192x4, .f32⟩
  | .hbm, ⟨48, _⟩ => ⟨S3x8x8192x4, .f32⟩
  | .hbm, ⟨49, _⟩ => ⟨S3x8x8192x4x1, .f32⟩
  | .hbm, ⟨50, _⟩ => ⟨S1x8x8192x4x64, .f32⟩
  | .hbm, ⟨51, _⟩ => ⟨S1x8x8192x4x64, .f32⟩
  | .hbm, ⟨52, _⟩ => ⟨S1x8x8192x4x64, .f32⟩
  | .hbm, ⟨53, _⟩ => ⟨S3x8x8192x4x64, .f32⟩
  | .hbm, ⟨54, _⟩ => ⟨S3x8x8192x4x64, .f32⟩
  | .hbm, ⟨55, _⟩ => ⟨S3x8x8192x4x64, .f32⟩
  | .hbm, ⟨56, _⟩ => ⟨S_, .f32⟩
  | .hbm, ⟨57, _⟩ => ⟨S8x8192x4x64, .f32⟩
  | .hbm, ⟨58, _⟩ => ⟨S8x8192x256, .f32⟩
  | .hbm, ⟨59, _⟩ => ⟨S8x8192x1024, .f32⟩
  | .hbm, ⟨60, _⟩ => ⟨S8x8192x1024, .f32⟩
  | .hbm, ⟨61, _⟩ => ⟨S8x8192x1024, .f32⟩
  | .hbm, ⟨62, _⟩ => ⟨S8x8192x1024, .f32⟩
  | .hbm, ⟨63, _⟩ => ⟨S8x8192x1024, .f32⟩
  | .hbm, ⟨64, _⟩ => ⟨S8x8192x1024, .f32⟩
  | .hbm, ⟨65, _⟩ => ⟨S8x8192x1024, .f32⟩
  | .hbm, ⟨66, _⟩ => ⟨S8x8192x1024, .f32⟩
  | .hbm, ⟨67, _⟩ => ⟨S8x8192x1024, .f32⟩
  | .hbm, ⟨68, _⟩ => ⟨S8x8192x1024, .f32⟩
  | .hbm, ⟨69, _⟩ => ⟨S8x8192x1024, .f32⟩
  | .hbm, ⟨70, _⟩ => ⟨S8x8192x1024, .f32⟩
  | .hbm, ⟨71, _⟩ => ⟨S_, .f32⟩
  | .hbm, ⟨72, _⟩ => ⟨S8x8192, .f32⟩
  | .hbm, ⟨73, _⟩ => ⟨S8x8192x1, .f32⟩
  | .hbm, ⟨74, _⟩ => ⟨S_, .f32⟩
  | .hbm, ⟨75, _⟩ => ⟨S8x8192x1, .f32⟩
  | .hbm, ⟨76, _⟩ => ⟨S8x8192x1, .f32⟩
  | .hbm, ⟨77, _⟩ => ⟨S_, .f32⟩
  | .hbm, ⟨78, _⟩ => ⟨S8x8192x1, .f32⟩
  | .hbm, ⟨79, _⟩ => ⟨S8x8192x1, .f32⟩
  | .hbm, ⟨80, _⟩ => ⟨S8x8192x1, .f32⟩
  | .hbm, ⟨81, _⟩ => ⟨S8x8192x1024, .f32⟩
  | .hbm, ⟨82, _⟩ => ⟨S8x8192x1024, .f32⟩
  | .hbm, ⟨83, _⟩ => ⟨S1x1x1024, .f32⟩
  | .hbm, ⟨84, _⟩ => ⟨S8x8192x1024, .f32⟩
  | .hbm, ⟨85, _⟩ => ⟨S8x8192x1024, .f32⟩
  | .hbm, ⟨86, _⟩ => ⟨S_, .f32⟩
  | .hbm, ⟨87, _⟩ => ⟨S8x1x1024, .f32⟩
  | .hbm, ⟨88, _⟩ => ⟨S8x1x1024, .f32⟩
  | .hbm, ⟨89, _⟩ => ⟨S8x8192x1024, .f32⟩
  | .hbm, ⟨90, _⟩ => ⟨S8x8192x1024, .f32⟩
  | .hbm, ⟨91, _⟩ => ⟨S8x8192x1024, .f32⟩
  | .hbm, ⟨92, _⟩ => ⟨S8x8192x1024, .f32⟩
  | .hbm, ⟨93, _⟩ => ⟨S8x8192x4096, .f32⟩
  | .hbm, ⟨94, _⟩ => ⟨S_, .f32⟩
  | .hbm, ⟨95, _⟩ => ⟨S8x8192x4096, .f32⟩
  | .hbm, ⟨96, _⟩ => ⟨S8x8192x4096, .f32⟩
  | .hbm, ⟨97, _⟩ => ⟨S8x8192x4096, .f32⟩
  | .hbm, ⟨98, _⟩ => ⟨S8x8192x1024, .f32⟩
  | .hbm, ⟨99, _⟩ => ⟨S8x8192x1024, .f32⟩
  | .hbm, ⟨100, _⟩ => ⟨S8x8192x1024, .f32⟩
  | .hbm, ⟨101, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_2 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_3 : Ref sig .tc := ⟨.hbm, 71, rfl⟩
abbrev main_v48 : Ref sig .tc := ⟨.hbm, 72, rfl⟩
abbrev main_v49 : Ref sig .tc := ⟨.hbm, 73, rfl⟩
abbrev main_cst_4 : Ref sig .tc := ⟨.hbm, 74, rfl⟩
abbrev main_v50 : Ref sig .tc := ⟨.hbm, 75, rfl⟩
abbrev main_v51 : Ref sig .tc := ⟨.hbm, 76, rfl⟩
abbrev main_cst_5 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_6 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call0_cst : Ref sig .tc := ⟨.hbm, 94, rfl⟩
abbrev main_call0_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== InProj.lean ====
abbrev S8x8192x1024 : Shape := ⟨3, ![8, 8192, 1024]⟩
abbrev S8x6144 : Shape := ⟨2, ![8, 6144]⟩
abbrev S1024 : Shape := ⟨1, ![1024]⟩
abbrev S1024x6656 : Shape := ⟨2, ![1024, 6656]⟩
abbrev S3x2304 : Shape := ⟨2, ![3, 2304]⟩
abbrev S2304 : Shape := ⟨1, ![2304]⟩
abbrev S12x64 : Shape := ⟨2, ![12, 64]⟩
abbrev S8x1x6144 : Shape := ⟨3, ![8, 1, 6144]⟩
abbrev S12 : Shape := ⟨1, ![12]⟩
abbrev S768 : Shape := ⟨1, ![768]⟩
abbrev S768x1 : Shape := ⟨2, ![768, 1]⟩
abbrev S128 : Shape := ⟨1, ![128]⟩
abbrev S1x128 : Shape := ⟨2, ![1, 128]⟩
abbrev S768x128 : Shape := ⟨2, ![768, 128]⟩
abbrev S_ : Shape := ⟨0, ![]⟩
abbrev S128x768 : Shape := ⟨2, ![128, 768]⟩
abbrev S1x1024 : Shape := ⟨2, ![1, 1024]⟩
abbrev S1x2304 : Shape := ⟨2, ![1, 2304]⟩
abbrev S1x768 : Shape := ⟨2, ![1, 768]⟩
abbrev S8x8192x768 : Shape := ⟨3, ![8, 8192, 768]⟩
abbrev S8x8192x2048 : Shape := ⟨3, ![8, 8192, 2048]⟩
abbrev S1x512x1024 : Shape := ⟨3, ![1, 512, 1024]⟩
abbrev S1x8x1024 : Shape := ⟨3, ![1, 8, 1024]⟩
abbrev S1x1x6144 : Shape := ⟨3, ![1, 1, 6144]⟩
abbrev S1x512x768 : Shape := ⟨3, ![1, 512, 768]⟩
abbrev S1x512x2048 : Shape := ⟨3, ![1, 512, 2048]⟩
abbrev S1x6144 : Shape := ⟨2, ![1, 6144]⟩
abbrev S512x1024 : Shape := ⟨2, ![512, 1024]⟩
abbrev S512 : Shape := ⟨1, ![512]⟩
abbrev S512x1 : Shape := ⟨2, ![512, 1]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S528x1024 : Shape := ⟨2, ![528, 1024]⟩
abbrev S1024x768 : Shape := ⟨2, ![1024, 768]⟩
abbrev S528x768 : Shape := ⟨2, ![528, 768]⟩
abbrev S512x768 : Shape := ⟨2, ![512, 768]⟩
abbrev S16x768 : Shape := ⟨2, ![16, 768]⟩
abbrev S512x128 : Shape := ⟨2, ![512, 128]⟩
abbrev S1024x2048 : Shape := ⟨2, ![1024, 2048]⟩
abbrev S512x2048 : Shape := ⟨2, ![512, 2048]⟩

abbrev nBuf : Space → Nat
  | .hbm => 36
  | .vmem => 28
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S1024, .f32⟩
  | .hbm, ⟨3, _⟩ => ⟨S1024x6656, .f32⟩
  | .hbm, ⟨4, _⟩ => ⟨S3x2304, .f32⟩
  | .hbm, ⟨5, _⟩ => ⟨S2304, .f32⟩
  | .hbm, ⟨6, _⟩ => ⟨S12x64, .f32⟩
  | .hbm, ⟨7, _⟩ => ⟨S12x64, .f32⟩
  | .hbm, ⟨8, _⟩ => ⟨S8x1x6144, .f32⟩
  | .hbm, ⟨9, _⟩ => ⟨S1024x6656, .bf16⟩
  | .hbm, ⟨10, _⟩ => ⟨S12, .i32⟩
  | .hbm, ⟨11, _⟩ => ⟨S12x64, .i32⟩
  | .hbm, ⟨12, _⟩ => ⟨S768, .i32⟩
  | .hbm, ⟨13, _⟩ => ⟨S768x1, .i32⟩
  | .hbm, ⟨14, _⟩ => ⟨S128, .i32⟩
  | .hbm, ⟨15, _⟩ => ⟨S1x128, .i32⟩
  | .hbm, ⟨16, _⟩ => ⟨S768x128, .i32⟩
  | .hbm, ⟨17, _⟩ => ⟨S768x128, .i32⟩
  | .hbm, ⟨18, _⟩ => ⟨S768x128, .i1⟩
  | .hbm, ⟨19, _⟩ => ⟨S768x128, .f32⟩
  | .hbm, ⟨20, _⟩ => ⟨S_, .f32⟩
  | .hbm, ⟨21, _⟩ => ⟨S768x128, .f32⟩
  | .hbm, ⟨22, _⟩ => ⟨S768x128, .f32⟩
  | .hbm, ⟨23, _⟩ => ⟨S768x128, .bf16⟩
  | .hbm, ⟨24, _⟩ => ⟨S128x768, .f32⟩
  | .hbm, ⟨25, _⟩ => ⟨S128x768, .bf16⟩
  | .hbm, ⟨26, _⟩ => ⟨S1x1024, .f32⟩
  | .hbm, ⟨27, _⟩ => ⟨S1x2304, .f32⟩
  | .hbm, ⟨28, _⟩ => ⟨S1x768, .f32⟩
  | .hbm, ⟨29, _⟩ => ⟨S1x768, .f32⟩
  | .hbm, ⟨30, _⟩ => ⟨S8x8192x768, .f32⟩
  | .hbm, ⟨31, _⟩ => ⟨S8x8192x768, .f32⟩
  | .hbm, ⟨32, _⟩ => ⟨S8x8192x768, .f32⟩
  | .hbm, ⟨33, _⟩ => ⟨S8x8192x768, .f32⟩
  | .hbm, ⟨34, _⟩ => ⟨S8x8192x768, .f32⟩
  | .hbm, ⟨35, _⟩ => ⟨S8x8192x2048, .f32⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1024, .f32⟩
  | .local _ .vmem, ⟨9, _⟩ => ⟨S1024x6656, .bf16⟩
  | .local _ .vmem, ⟨10, _⟩ => ⟨S3x2304, .f32⟩
  | .local _ .vmem, ⟨11, _⟩ => ⟨S1x2304, .f32⟩
  | .local _ .vmem, ⟨12, _⟩ => ⟨S1x768, .f32⟩
  | .local _ .vmem, ⟨13, _⟩ => ⟨S1x768, .f32⟩
  | .local _ .vmem, ⟨14, _⟩ => ⟨S768x128, .bf16⟩
  | .local _ .vmem, ⟨15, _⟩ => ⟨S128x768, .bf16⟩
  | .local _ .vmem, ⟨16, _⟩ => ⟨S1x512x768, .f32⟩
  | .local _ .vmem, ⟨17, _⟩ => ⟨S1x512x768, .f32⟩
  | .local _ .vmem, ⟨18, _⟩ => ⟨S1x512x768, .f32⟩
  | .local _ .vmem, ⟨19, _⟩ => ⟨S1x512x768, .f32⟩
  | .local _ .vmem, ⟨20, _⟩ => ⟨S1x512x768, .f32⟩
  | .local _ .vmem, ⟨21, _⟩ => ⟨S1x512x768, .f32⟩
  | .local _ .vmem, ⟨22, _⟩ => ⟨S1x512x768, .f32⟩
  | .local _ .vmem, ⟨23, _⟩ => ⟨S1x512x768, .f32⟩
  | .local _ .vmem, ⟨24, _⟩ => ⟨S1x512x768, .f32⟩
  | .local _ .vmem, ⟨25, _⟩ => ⟨S1x512x768, .f32⟩
  | .local _ .vmem, ⟨26, _⟩ => ⟨S1x512x2048, .f32⟩
  | .local _ .vmem, ⟨27, _⟩ => ⟨S1x512x2048, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x6656 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x2304 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S768x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x768 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x768 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x2048 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== InProjRefIdeal.lean ====
abbrev S8x8192x1024 : Shape := ⟨3, ![8, 8192, 1024]⟩
abbrev S8x6144 : Shape := ⟨2, ![8, 6144]⟩
abbrev S1024 : Shape := ⟨1, ![1024]⟩
abbrev S1024x6656 : Shape := ⟨2, ![1024, 6656]⟩
abbrev S3x2304 : Shape := ⟨2, ![3, 2304]⟩
abbrev S2304 : Shape := ⟨1, ![2304]⟩
abbrev S12x64 : Shape := ⟨2, ![12, 64]⟩
abbrev S8x1x6144 : Shape := ⟨3, ![8, 1, 6144]⟩
abbrev S8x1x1024 : Shape := ⟨3, ![8, 1, 1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x6656 : Shape := ⟨3, ![8, 8192, 6656]⟩
abbrev S8x8192x2304 : Shape := ⟨3, ![8, 8192, 2304]⟩
abbrev S8x8192x768 : Shape := ⟨3, ![8, 8192, 768]⟩
abbrev S8x8192x2048 : Shape := ⟨3, ![8, 8192, 2048]⟩
abbrev S8x8194x2304 : Shape := ⟨3, ![8, 8194, 2304]⟩
abbrev S1x2304 : Shape := ⟨2, ![1, 2304]⟩
abbrev S1x1x2304 : Shape := ⟨3, ![1, 1, 2304]⟩
abbrev S8x8192x12x64 : Shape := ⟨4, ![8, 8192, 12, 64]⟩
abbrev S8x8192x12 : Shape := ⟨3, ![8, 8192, 12]⟩
abbrev S8x8192x12x1 : Shape := ⟨4, ![8, 8192, 12, 1]⟩
abbrev S1x1x12x64 : Shape := ⟨4, ![1, 1, 12, 64]⟩

abbrev nBuf : Space → Nat
  | .hbm => 121
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x6144, .f32⟩
  | .hbm, ⟨2, _⟩ => ⟨S1024, .f32⟩
  | .hbm, ⟨3, _⟩ => ⟨S1024x6656, .f32⟩
  | .hbm, ⟨4, _⟩ => ⟨S3x2304, .f32⟩
  | .hbm, ⟨5, _⟩ => ⟨S2304, .f32⟩
  | .hbm, ⟨6, _⟩ => ⟨S12x64, .f32⟩
  | .hbm, ⟨7, _⟩ => ⟨S12x64, .f32⟩
  | .hbm, ⟨8, _⟩ => ⟨S8x1x6144, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x8192x1024, .f32⟩
  | .hbm, ⟨16, _⟩ => ⟨S_, .f32⟩
  | .hbm, ⟨17, _⟩ => ⟨S8x8192, .f32⟩
  | .hbm, ⟨18, _⟩ => ⟨S8x8192x1, .f32⟩
  | .hbm, ⟨19, _⟩ => ⟨S_, .f32⟩
  | .hbm, ⟨20, _⟩ => ⟨S8x8192x1, .f32⟩
  | .hbm, ⟨21, _⟩ => ⟨S8x8192x1, .f32⟩
  | .hbm, ⟨22, _⟩ => ⟨S_, .f32⟩
  | .hbm, ⟨23, _⟩ => ⟨S8x8192x1, .f32⟩
  | .hbm, ⟨24, _⟩ => ⟨S8x8192x1, .f32⟩
  | .hbm, ⟨25, _⟩ => ⟨S8x8192x1, .f32⟩
  | .hbm, ⟨26, _⟩ => ⟨S8x8192x1024, .f32⟩
  | .hbm, ⟨27, _⟩ => ⟨S8x8192x1024, .f32⟩
  | .hbm, ⟨28, _⟩ => ⟨S1x1x1024, .f32⟩
  | .hbm, ⟨29, _⟩ => ⟨S8x8192x1024, .f32⟩
  | .hbm, ⟨30, _⟩ => ⟨S8x8192x1024, .f32⟩
  | .hbm, ⟨31, _⟩ => ⟨S_, .f32⟩
  | .hbm, ⟨32, _⟩ => ⟨S8x1x1024, .f32⟩
  | .hbm, ⟨33, _⟩ => ⟨S8x1x1024, .f32⟩
  | .hbm, ⟨34, _⟩ => ⟨S8x8192x1024, .f32⟩
  | .hbm, ⟨35, _⟩ => ⟨S8x8192x1024, .f32⟩
  | .hbm, ⟨36, _⟩ => ⟨S8x8192x1024, .f32⟩
  | .hbm, ⟨37, _⟩ => ⟨S8x8192x1024, .f32⟩
  | .hbm, ⟨38, _⟩ => ⟨S8x8192x6656, .f32⟩
  | .hbm, ⟨39, _⟩ => ⟨S8x8192x2304, .f32⟩
  | .hbm, ⟨40, _⟩ => ⟨S8x8192x768, .f32⟩
  | .hbm, ⟨41, _⟩ => ⟨S8x8192x768, .f32⟩
  | .hbm, ⟨42, _⟩ => ⟨S8x8192x768, .f32⟩
  | .hbm, ⟨43, _⟩ => ⟨S8x8192x2048, .f32⟩
  | .hbm, ⟨44, _⟩ => ⟨S_, .i32⟩
  | .hbm, ⟨45, _⟩ => ⟨S_, .f32⟩
  | .hbm, ⟨46, _⟩ => ⟨S8x8194x2304, .f32⟩
  | .hbm, ⟨47, _⟩ => ⟨S8x8192x2304, .f32⟩
  | .hbm, ⟨48, _⟩ => ⟨S1x2304, .f32⟩
  | .hbm, ⟨49, _⟩ => ⟨S2304, .f32⟩
  | .hbm, ⟨50, _⟩ => ⟨S1x1x2304, .f32⟩
  | .hbm, ⟨51, _⟩ => ⟨S8x8192x2304, .f32⟩
  | .hbm, ⟨52, _⟩ => ⟨S8x8192x2304, .f32⟩
  | .hbm, ⟨53, _⟩ => ⟨S8x8192x2304, .f32⟩
  | .hbm, ⟨54, _⟩ => ⟨S1x2304, .f32⟩
  | .hbm, ⟨55, _⟩ => ⟨S2304, .f32⟩
  | .hbm, ⟨56, _⟩ => ⟨S1x1x2304, .f32⟩
  | .hbm, ⟨57, _⟩ => ⟨S8x8192x2304, .f32⟩
  | .hbm, ⟨58, _⟩ => ⟨S8x8192x2304, .f32⟩
  | .hbm, ⟨59, _⟩ => ⟨S8x8192x2304, .f32⟩
  | .hbm, ⟨60, _⟩ => ⟨S8x8192x2304, .f32⟩
  | .hbm, ⟨61, _⟩ => ⟨S1x2304, .f32⟩
  | .hbm, ⟨62, _⟩ => ⟨S2304, .f32⟩
  | .hbm, ⟨63, _⟩ => ⟨S1x1x2304, .f32⟩
  | .hbm, ⟨64, _⟩ => ⟨S8x8192x2304, .f32⟩
  | .hbm, ⟨65, _⟩ => ⟨S8x8192x2304, .f32⟩
  | .hbm, ⟨66, _⟩ => ⟨S8x8192x2304, .f32⟩
  | .hbm, ⟨67, _⟩ => ⟨S1x1x2304, .f32⟩
  | .hbm, ⟨68, _⟩ => ⟨S8x8192x2304, .f32⟩
  | .hbm, ⟨69, _⟩ => ⟨S8x8192x2304, .f32⟩
  | .hbm, ⟨70, _⟩ => ⟨S8x8192x768, .f32⟩
  | .hbm, ⟨71, _⟩ => ⟨S8x8192x768, .f32⟩
  | .hbm, ⟨72, _⟩ => ⟨S8x8192x768, .f32⟩
  | .hbm, ⟨73, _⟩ => ⟨S8x8192x12x64, .f32⟩
  | .hbm, ⟨74, _⟩ => ⟨S8x8192x12x64, .f32⟩
  | .hbm, ⟨75, _⟩ => ⟨S_, .f32⟩
  | .hbm, ⟨76, _⟩ => ⟨S8x8192x12, .f32⟩
  | .hbm, ⟨77, _⟩ => ⟨S8x8192x12x1, .f32⟩
  | .hbm, ⟨78, _⟩ => ⟨S_, .f32⟩
  | .hbm, ⟨79, _⟩ => ⟨S8x8192x12x1, .f32⟩
  | .hbm, ⟨80, _⟩ => ⟨S8x8192x12x1, .f32⟩
  | .hbm, ⟨81, _⟩ => ⟨S_, .f32⟩
  | .hbm, ⟨82, _⟩ => ⟨S8x8192x12x1, .f32⟩
  | .hbm, ⟨83, _⟩ => ⟨S8x8192x12x1, .f32⟩
  | .hbm, ⟨84, _⟩ => ⟨S8x8192x12x1, .f32⟩
  | .hbm, ⟨85, _⟩ => ⟨S8x8192x12x64, .f32⟩
  | .hbm, ⟨86, _⟩ => ⟨S8x8192x12x64, .f32⟩
  | .hbm, ⟨87, _⟩ => ⟨S1x1x12x64, .f32⟩
  | .hbm, ⟨88, _⟩ => ⟨S8x8192x12x64, .f32⟩
  | .hbm, ⟨89, _⟩ => ⟨S8x8192x12x64, .f32⟩
  | .hbm, ⟨90, _⟩ => ⟨S_, .f32⟩
  | .hbm, ⟨91, _⟩ => ⟨S8x8192x12x64, .f32⟩
  | .hbm, ⟨92, _⟩ => ⟨S8x8192x12x64, .f32⟩
  | .hbm, ⟨93, _⟩ => ⟨S8x8192x12x64, .f32⟩
  | .hbm, ⟨94, _⟩ => ⟨S8x8192x12x64, .f32⟩
  | .hbm, ⟨95, _⟩ => ⟨S_, .f32⟩
  | .hbm, ⟨96, _⟩ => ⟨S8x8192x12, .f32⟩
  | .hbm, ⟨97, _⟩ => ⟨S8x8192x12x1, .f32⟩
  | .hbm, ⟨98, _⟩ => ⟨S_, .f32⟩
  | .hbm, ⟨99, _⟩ => ⟨S8x8192x12x1, .f32⟩
  | .hbm, ⟨100, _⟩ => ⟨S8x8192x12x1, .f32⟩
  | .hbm, ⟨101, _⟩ => ⟨S_, .f32⟩
  | .hbm, ⟨102, _⟩ => ⟨S8x8192x12x1, .f32⟩
  | .hbm, ⟨103, _⟩ => ⟨S8x8192x12x1, .f32⟩
  | .hbm, ⟨104, _⟩ => ⟨S8x8192x12x1, .f32⟩
  | .hbm, ⟨105, _⟩ => ⟨S8x8192x12x64, .f32⟩
  | .hbm, ⟨106, _⟩ => ⟨S8x8192x12x64, .f32⟩
  | .hbm, ⟨107, _⟩ => ⟨S1x1x12x64, .f32⟩
  | .hbm, ⟨108, _⟩ => ⟨S8x8192x12x64, .f32⟩
  | .hbm, ⟨109, _⟩ => ⟨S8x8192x12x64, .f32⟩
  | .hbm, ⟨110, _⟩ => ⟨S8x8192x768, .f32⟩
  | .hbm, ⟨111, _⟩ => ⟨S8x8192x768, .f32⟩
  | .hbm, ⟨112, _⟩ => ⟨S8x8192x768, .f32⟩
  | .hbm, ⟨113, _⟩ => ⟨S8x8192x2048, .f32⟩
  | .hbm, ⟨114, _⟩ => ⟨S8x8192x2048, .f32⟩
  | .hbm, ⟨115, _⟩ => ⟨S_, .f32⟩
  | .hbm, ⟨116, _⟩ => ⟨S8x8192x2048, .f32⟩
  | .hbm, ⟨117, _⟩ => ⟨S8x8192x2048, .f32⟩
  | .hbm, ⟨118, _⟩ => ⟨S_, .f32⟩
  | .hbm, ⟨119, _⟩ => ⟨S8x8192x2048, .f32⟩
  | .hbm, ⟨120, _⟩ => ⟨S8x8192x2048, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_v63 : Ref sig .tc := ⟨.hbm, 79, rfl⟩
abbrev main_v64 : Ref sig .tc := ⟨.hbm, 80, rfl⟩
abbrev main_cst_5 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_cst_7 : Ref sig .tc := ⟨.hbm, 95, rfl⟩
abbrev main_v77 : Ref sig .tc := ⟨.hbm, 96, rfl⟩
abbrev main_v78 : Ref sig .tc := ⟨.hbm, 97, rfl⟩
abbrev main_cst_8 : Ref sig .tc := ⟨.hbm, 98, rfl⟩
abbrev main_v79 : Ref sig .tc := ⟨.hbm, 99, rfl⟩
abbrev main_v80 : Ref sig .tc := ⟨.hbm, 100, rfl⟩
abbrev main_cst_9 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_10 : Ref sig .tc := ⟨.hbm, 115, rfl⟩
abbrev main_v94 : Ref sig .tc := ⟨.hbm, 116, rfl⟩
abbrev main_v95 : Ref sig .tc := ⟨.hbm, 117, rfl⟩
abbrev main_cst_11 : Ref sig .tc := ⟨.hbm, 118, rfl⟩
abbrev main_v96 : Ref sig .tc := ⟨.hbm, 119, rfl⟩
abbrev main_v97 : Ref sig .tc := ⟨.hbm, 120, rfl⟩

abbrev nD : Nat := 1
abbrev τ : Topo := Topo.v7x

variable {F : FTy → Type} [FloatOps F]
-- ==== Proof.MergeBody.lean ====
/- The merge call's body run once on its staged blocks, the pipeline's run over all grid points, and the frame. The
   call stages twenty-five input blocks and one output block at each of its 256 points; every statement here holds over
   any value carrier. -/
module

public import proofs.«01_k».proof.Proof.Gen.MergeIdeal.Frame
public import proofs.«01_k».proof.Proof.Gen.MergeIdeal.Skeleton
public import Idealize.ShloMosaic.Lib.Pipeline.Value
public import Idealize.ShloMosaic.Lib.Exec
public import Idealize.ShloMosaic.Lib.Claim

@[expose] public section

set_option maxRecDepth 16384

noncomputable section

namespace Cert.MergeBody

open Cert.MergeIdeal Cert.MergeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one block computes -/

/-- The whole of a staged 1x256x1024 block. -/
abbrev all1x256x1024 : Rect S1x256x1024 := Rect.unit (s := S1x256x1024) ![0, 0, 0] S1x256x1024.size inb_S1x256x1024_S1x256x1024_0_0_0
/-- The whole of a staged 1x256x768 block. -/
abbrev all1x256x768 : Rect S1x256x768 := Rect.unit (s := S1x256x768) ![0, 0, 0] S1x256x768.size inb_S1x256x768_S1x256x768_0_0_0
/-- The whole of a staged 1x256x128 block. -/
abbrev all1x256x128 : Rect S1x256x128 := Rect.unit (s := S1x256x128) ![0, 0, 0] S1x256x128.size inb_S1x256x128_S1x256x128_0_0_0
/-- The whole of a staged 1x256x2048 block. -/
abbrev all1x256x2048 : Rect S1x256x2048 := Rect.unit (s := S1x256x2048) ![0, 0, 0] S1x256x2048.size inb_S1x256x2048_S1x256x2048_0_0_0
/-- The whole of a staged 1x1x6144 block. -/
abbrev all1x1x6144 : Rect S1x1x6144 := Rect.unit (s := S1x1x6144) ![0, 0, 0] S1x1x6144.size inb_S1x1x6144_S1x1x6144_0_0_0
/-- The whole of a staged 1x768 block. -/
abbrev all1x768 : Rect S1x768 := Rect.unit (s := S1x768) ![0, 0] S1x768.size inb_S1x768_S1x768_0_0
/-- The whole of a staged 1x1024 block. -/
abbrev all1x1024 : Rect S1x1024 := Rect.unit (s := S1x1024) ![0, 0] S1x1024.size inb_S1x1024_S1x1024_0_0
/-- The whole of a staged 768x1024 block. -/
abbrev all768x1024 : Rect S768x1024 := Rect.unit (s := S768x1024) ![0, 0] S768x1024.size inb_S768x1024_S768x1024_0_0
/-- The whole of a staged 256x1024 block. -/
abbrev all256x1024 : Rect S256x1024 := Rect.unit (s := S256x1024) ![0, 0] S256x1024.size inb_S256x1024_S256x1024_0_0
/-- The whole of a staged 1024x1024 block. -/
abbrev all1024x1024 : Rect S1024x1024 := Rect.unit (s := S1024x1024) ![0, 0] S1024x1024.size inb_S1024x1024_S1024x1024_0_0
/-- The whole of a staged 1024x4096 block. -/
abbrev all1024x4096 : Rect S1024x4096 := Rect.unit (s := S1024x4096) ![0, 0] S1024x4096.size inb_S1024x4096_S1024x4096_0_0
/-- The whole of a staged 4096x1024 block. -/
abbrev all4096x1024 : Rect S4096x1024 := Rect.unit (s := S4096x1024) ![0, 0] S4096x1024.size inb_S4096x1024_S4096x1024_0_0

/-- The two halves of the attention branch's row block, from the three groups' log-denominators and outputs. -/
def branch (la0 la1 lb0 lb1 lc0 lc1 oa0 oa1 ob0 ob1 oc0 oc1 : FVec F S1x256x128 .f32) : FVec F S256x256 .f32 :=
  k0_pay16 (k0_pay12 la0 lb0 lc0) (k0_pay13 la0 lb0 lc0) (k0_pay14 la0 lb0 lc0 oa0 ob0 oc0) (k0_pay15 la0 lb0 lc0)
    la1 lb1 lc1 oa1 ob1 oc1

/-- The stored block, from the attention branch and the other loaded blocks: the residual stream, its squares, and the
    feed-forward on them. -/
def block (att : FVec F S256x256 .f32) (x : FVec F S1x256x1024 .f32) (conv w x0 : FVec F S1x256x768 .f32)
    (gates : FVec F S1x256x2048 .f32) (mod : FVec F S1x1x6144 .f32) (d : FVec F S1x768 .f32) (g : FVec F S1x1024 .f32)
    (wh : FVec F S768x1024 .bf16) (wa : FVec F S256x1024 .bf16) (wo : FVec F S1024x1024 .bf16)
    (up : FVec F S1024x4096 .bf16) (dn : FVec F S4096x1024 .bf16) : FVec F S1x256x1024 .f32 :=
  k0_pay1 (k0_pay4 mod) (k0_pay5 mod) (k0_pay6 mod) (k0_pay17 (k0_pay3 mod) att x0 conv w d gates wh wa x wo)
    (k0_pay18 (k0_pay3 mod) att x0 conv w d gates wh wa x wo) g up dn

/-- What the output's staging buffer holds after the body: the one stored block over the whole buffer. -/
def staged (x0 : Vec F S1x256x1024 .f32) (x1 : Vec F S1x256x768 .f32) (x2 : Vec F S1x256x768 .f32) (x3 : Vec F S1x256x768 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x2048 .f32) (x17 : Vec F S1x1x6144 .f32) (x18 : Vec F S1x768 .f32) (x19 : Vec F S1x1024 .f32) (x20 : Vec F S768x1024 .bf16) (x21 : Vec F S256x1024 .bf16) (x22 : Vec F S1024x1024 .bf16) (x23 : Vec F S1024x4096 .bf16) (x24 : Vec F S4096x1024 .bf16) : Vec F S1x256x1024 .f32 :=
  View.canon [⟨all1x256x1024, block (branch (View.ld x10 all1x256x128) (View.ld x11 all1x256x128) (View.ld x12 all1x256x128) (View.ld x13 all1x256x128) (View.ld x14 all1x256x128) (View.ld x15 all1x256x128) (View.ld x4 all1x256x128) (View.ld x5 all1x256x128) (View.ld x6 all1x256x128) (View.ld x7 all1x256x128) (View.ld x8 all1x256x128) (View.ld x9 all1x256x128))
    (View.ld x0 all1x256x1024) (View.ld x1 all1x256x768) (View.ld x2 all1x256x768) (View.ld x3 all1x256x768) (View.ld x16 all1x256x2048) (View.ld x17 all1x1x6144) (View.ld x18 all1x768) (View.ld x19 all1x1024) (View.ld x20 all768x1024) (View.ld x21 all256x1024) (View.ld x22 all1024x1024) (View.ld x23 all1024x4096) (View.ld x24 all4096x1024)⟩]

/-- The one store fills the staging buffer. -/
theorem staged_full (p : Vec F S1x256x1024 .f32) (y : S1x256x1024.Idx) :
    ∃ q ∈ ([⟨all1x256x1024, p⟩] : List (View.Piece (Elt F) S1x256x1024 .f32)), y ∈ q.1.set :=
  View.cover_of_tiled [⟨all1x256x1024, p⟩] S1x256x1024.size (by rfl) y

/-! ## The body's triple -/

set_option maxHeartbeats 2000000 in
/-- The body, run on whole staging buffers whose inputs read `x0 … x24`, leaves the inputs as they were and the output's
    buffer at `staged` of them. -/
theorem body_run (c : Dev nD) (E : Set ℕ) (i : grid0.Coords) (a0 : Memref sig .tc .vmem S1x256x1024 .f32) (ha0 : a0.IsWhole) (a1 : Memref sig .tc .vmem S1x256x768 .f32) (ha1 : a1.IsWhole) (a2 : Memref sig .tc .vmem S1x256x768 .f32) (ha2 : a2.IsWhole) (a3 : Memref sig .tc .vmem S1x256x768 .f32) (ha3 : a3.IsWhole) (a4 : Memref sig .tc .vmem S1x256x128 .f32) (ha4 : a4.IsWhole) (a5 : Memref sig .tc .vmem S1x256x128 .f32) (ha5 : a5.IsWhole) (a6 : Memref sig .tc .vmem S1x256x128 .f32) (ha6 : a6.IsWhole) (a7 : Memref sig .tc .vmem S1x256x128 .f32) (ha7 : a7.IsWhole) (a8 : Memref sig .tc .vmem S1x256x128 .f32) (ha8 : a8.IsWhole) (a9 : Memref sig .tc .vmem S1x256x128 .f32) (ha9 : a9.IsWhole) (a10 : Memref sig .tc .vmem S1x256x128 .f32) (ha10 : a10.IsWhole) (a11 : Memref sig .tc .vmem S1x256x128 .f32) (ha11 : a11.IsWhole) (a12 : Memref sig .tc .vmem S1x256x128 .f32) (ha12 : a12.IsWhole) (a13 : Memref sig .tc .vmem S1x256x128 .f32) (ha13 : a13.IsWhole) (a14 : Memref sig .tc .vmem S1x256x128 .f32) (ha14 : a14.IsWhole) (a15 : Memref sig .tc .vmem S1x256x128 .f32) (ha15 : a15.IsWhole) (a16 : Memref sig .tc .vmem S1x256x2048 .f32) (ha16 : a16.IsWhole) (a17 : Memref sig .tc .vmem S1x1x6144 .f32) (ha17 : a17.IsWhole) (a18 : Memref sig .tc .vmem S1x768 .f32) (ha18 : a18.IsWhole) (a19 : Memref sig .tc .vmem S1x1024 .f32) (ha19 : a19.IsWhole) (a20 : Memref sig .tc .vmem S768x1024 .bf16) (ha20 : a20.IsWhole) (a21 : Memref sig .tc .vmem S256x1024 .bf16) (ha21 : a21.IsWhole) (a22 : Memref sig .tc .vmem S1024x1024 .bf16) (ha22 : a22.IsWhole) (a23 : Memref sig .tc .vmem S1024x4096 .bf16) (ha23 : a23.IsWhole) (a24 : Memref sig .tc .vmem S4096x1024 .bf16) (ha24 : a24.IsWhole) (a25 : Memref sig .tc .vmem S1x256x1024 .f32) (ha25 : a25.IsWhole)
    (x0 : Vec F S1x256x1024 .f32) (x1 : Vec F S1x256x768 .f32) (x2 : Vec F S1x256x768 .f32) (x3 : Vec F S1x256x768 .f32) (x4 : Vec F S1x256x128 .f32) (x5 : Vec F S1x256x128 .f32) (x6 : Vec F S1x256x128 .f32) (x7 : Vec F S1x256x128 .f32) (x8 : Vec F S1x256x128 .f32) (x9 : Vec F S1x256x128 .f32) (x10 : Vec F S1x256x128 .f32) (x11 : Vec F S1x256x128 .f32) (x12 : Vec F S1x256x128 .f32) (x13 : Vec F S1x256x128 .f32) (x14 : Vec F S1x256x128 .f32) (x15 : Vec F S1x256x128 .f32) (x16 : Vec F S1x256x2048 .f32) (x17 : Vec F S1x1x6144 .f32) (x18 : Vec F S1x768 .f32) (x19 : Vec F S1x1024 .f32) (x20 : Vec F S768x1024 .bf16) (x21 : Vec F S256x1024 .bf16) (x22 : Vec F S1024x1024 .bf16) (x23 : Vec F S1024x4096 .bf16) (x24 : Vec F S4096x1024 .bf16) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ (∃ d, owns (c : Thread nD τ) a25 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14 ∗ owns (c : Thread nD τ) a15 fullShare x15 ∗ owns (c : Thread nD τ) a16 fullShare x16 ∗ owns (c : Thread nD τ) a17 fullShare x17 ∗ owns (c : Thread nD τ) a18 fullShare x18 ∗ owns (c : Thread nD τ) a19 fullShare x19 ∗ owns (c : Thread nD τ) a20 fullShare x20 ∗ owns (c : Thread nD τ) a21 fullShare x21 ∗ owns (c : Thread nD τ) a22 fullShare x22 ∗ owns (c : Thread nD τ) a23 fullShare x23 ∗ owns (c : Thread nD τ) a24 fullShare x24 ∗ owns (c : Thread nD τ) a25 fullShare (staged x0 x1 x2 x3 x4 x5 x6 x7 x8 x9 x10 x11 x12 x13 x14 x15 x16 x17 x18 x19 x20 x21 x22 x23 x24)) -∗ K ⟨⟩))
      ⊢ wp frame (wpE (defs₀ (F := F)) Variants.none c none) E (cc0_merge_mlp i a0 ha0 a1 ha1 a2 ha2 a3 ha3 a4 ha4 a5 ha5 a6 ha6 a7 ha7 a8 ha8 a9 ha9 a10 ha10 a11 ha11 a12 ha12 a13 ha13 a14 ha14 a15 ha15 a16 ha16 a17 ha17 a18 ha18 a19 ha19 a20 ha20 a21 ha21 a22 ha22 a23 ha23 a24 ha24 a25 ha25) K := by
  simp only [cc0_merge_mlp_eq_skeleton]; unfold cc0_merge_mlp_skel
  simp only [k0_part1_eq_skeleton, k0_part2_eq_skeleton, k0_part3_eq_skeleton]
  unfold owns
  iintro ⟨⟨%f0, %h0, B0⟩, ⟨%f1, %h1, B1⟩, ⟨%f2, %h2, B2⟩, ⟨%f3, %h3, B3⟩, ⟨%f4, %h4, B4⟩, ⟨%f5, %h5, B5⟩, ⟨%f6, %h6, B6⟩, ⟨%f7, %h7, B7⟩, ⟨%f8, %h8, B8⟩, ⟨%f9, %h9, B9⟩, ⟨%f10, %h10, B10⟩, ⟨%f11, %h11, B11⟩, ⟨%f12, %h12, B12⟩, ⟨%f13, %h13, B13⟩, ⟨%f14, %h14, B14⟩, ⟨%f15, %h15, B15⟩, ⟨%f16, %h16, B16⟩, ⟨%f17, %h17, B17⟩, ⟨%f18, %h18, B18⟩, ⟨%f19, %h19, B19⟩, ⟨%f20, %h20, B20⟩, ⟨%f21, %h21, B21⟩, ⟨%f22, %h22, B22⟩, ⟨%f23, %h23, B23⟩, ⟨%f24, %h24, B24⟩, ⟨%d, %fo, -, Bo⟩, Hk⟩
  subst h0 h1 h2 h3 h4 h5 h6 h7 h8 h9 h10 h11 h12 h13 h14 h15 h16 h17 h18 h19 h20 h21 h22 h23 h24
  sl_exec
  sl_step
  iapply Hk
  isplitl [B0]; · iexists f0; isplitr; (· ipureintro; rfl); iexact B0
  isplitl [B1]; · iexists f1; isplitr; (· ipureintro; rfl); iexact B1
  isplitl [B2]; · iexists f2; isplitr; (· ipureintro; rfl); iexact B2
  isplitl [B3]; · iexists f3; isplitr; (· ipureintro; rfl); iexact B3
  isplitl [B4]; · iexists f4; isplitr; (· ipureintro; rfl); iexact B4
  isplitl [B5]; · iexists f5; isplitr; (· ipureintro; rfl); iexact B5
  isplitl [B6]; · iexists f6; isplitr; (· ipureintro; rfl); iexact B6
  isplitl [B7]; · iexists f7; isplitr; (· ipureintro; rfl); iexact B7
  isplitl [B8]; · iexists f8; isplitr; (· ipureintro; rfl); iexact B8
  isplitl [B9]; · iexists f9; isplitr; (· ipureintro; rfl); iexact B9
  isplitl [B10]; · iexists f10; isplitr; (· ipureintro; rfl); iexact B10
  isplitl [B11]; · iexists f11; isplitr; (· ipureintro; rfl); iexact B11
  isplitl [B12]; · iexists f12; isplitr; (· ipureintro; rfl); iexact B12
  isplitl [B13]; · iexists f13; isplitr; (· ipureintro; rfl); iexact B13
  isplitl [B14]; · iexists f14; isplitr; (· ipureintro; rfl); iexact B14
  isplitl [B15]; · iexists f15; isplitr; (· ipureintro; rfl); iexact B15
  isplitl [B16]; · iexists f16; isplitr; (· ipureintro; rfl); iexact B16
  isplitl [B17]; · iexists f17; isplitr; (· ipureintro; rfl); iexact B17
  isplitl [B18]; · iexists f18; isplitr; (· ipureintro; rfl); iexact B18
  isplitl [B19]; · iexists f19; isplitr; (· ipureintro; rfl); iexact B19
  isplitl [B20]; · iexists f20; isplitr; (· ipureintro; rfl); iexact B20
  isplitl [B21]; · iexists f21; isplitr; (· ipureintro; rfl); iexact B21
  isplitl [B22]; · iexists f22; isplitr; (· ipureintro; rfl); iexact B22
  isplitl [B23]; · iexists f23; isplitr; (· ipureintro; rfl); iexact B23
  isplitl [B24]; · iexists f24; isplitr; (· ipureintro; rfl); iexact B24
  iexists _; isplitr
  swap; · iexact Bo
  ipureintro
  exact (View.read_writes_eq_canon _ _ _ (staged_full _)).trans rfl

/-! ## The pipeline's data -/

variable (m : (ℓ : Loc nD τ sig) → Buf (Elt F) ℓ) (ρ : Dev nD → PrngReg)

/-- What the output's buffer holds after the body at grid point `t`: `staged` of the point's input blocks. -/
abbrev stagedAt (c : Dev nD) (t : Fin cfg0.N) : Vec F S1x256x1024 .f32 :=
  staged (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t)

/-- The pipeline's data on core `c`: the arrays as the launch's host operations leave them, each input's buffer its own
    block after every point, the output's `stagedAt`; nothing else is touched and nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => stagedAt m c t
    | ⟨_ + 26, h⟩ => absurd h (Nat.not_lt.2 (Nat.le_add_left _ _))
  Φ _ := Pipeline.ΦA spec0 c
  q _ := fullShare
  owed _ := 0

/-- The data's arrays are the contents the region finds. -/
theorem A_eq (c : Dev nD) (w : Fin cfg0.W) : (dats m 0 c).A w = V m c (Pipeline.arrRef spec0 w) := by
  dsimp only [dats]

theorem left0 (c : Dev nD) (t : Fin cfg0.N) : (dats m 0 c).after 0 t = iblk m c 0 t := by dsimp only [dats]
theorem left1 (c : Dev nD) (t : Fin cfg0.N) : (dats m 0 c).after 1 t = iblk m c 1 t := by dsimp only [dats]
theorem left2 (c : Dev nD) (t : Fin cfg0.N) : (dats m 0 c).after 2 t = iblk m c 2 t := by dsimp only [dats]
theorem left3 (c : Dev nD) (t : Fin cfg0.N) : (dats m 0 c).after 3 t = iblk m c 3 t := by dsimp only [dats]
theorem left4 (c : Dev nD) (t : Fin cfg0.N) : (dats m 0 c).after 4 t = iblk m c 4 t := by dsimp only [dats]
theorem left5 (c : Dev nD) (t : Fin cfg0.N) : (dats m 0 c).after 5 t = iblk m c 5 t := by dsimp only [dats]
theorem left6 (c : Dev nD) (t : Fin cfg0.N) : (dats m 0 c).after 6 t = iblk m c 6 t := by dsimp only [dats]
theorem left7 (c : Dev nD) (t : Fin cfg0.N) : (dats m 0 c).after 7 t = iblk m c 7 t := by dsimp only [dats]
theorem left8 (c : Dev nD) (t : Fin cfg0.N) : (dats m 0 c).after 8 t = iblk m c 8 t := by dsimp only [dats]
theorem left9 (c : Dev nD) (t : Fin cfg0.N) : (dats m 0 c).after 9 t = iblk m c 9 t := by dsimp only [dats]
theorem left10 (c : Dev nD) (t : Fin cfg0.N) : (dats m 0 c).after 10 t = iblk m c 10 t := by dsimp only [dats]
theorem left11 (c : Dev nD) (t : Fin cfg0.N) : (dats m 0 c).after 11 t = iblk m c 11 t := by dsimp only [dats]
theorem left12 (c : Dev nD) (t : Fin cfg0.N) : (dats m 0 c).after 12 t = iblk m c 12 t := by dsimp only [dats]
theorem left13 (c : Dev nD) (t : Fin cfg0.N) : (dats m 0 c).after 13 t = iblk m c 13 t := by dsimp only [dats]
theorem left14 (c : Dev nD) (t : Fin cfg0.N) : (dats m 0 c).after 14 t = iblk m c 14 t := by dsimp only [dats]
theorem left15 (c : Dev nD) (t : Fin cfg0.N) : (dats m 0 c).after 15 t = iblk m c 15 t := by dsimp only [dats]
theorem left16 (c : Dev nD) (t : Fin cfg0.N) : (dats m 0 c).after 16 t = iblk m c 16 t := by dsimp only [dats]
theorem left17 (c : Dev nD) (t : Fin cfg0.N) : (dats m 0 c).after 17 t = iblk m c 17 t := by dsimp only [dats]
theorem left18 (c : Dev nD) (t : Fin cfg0.N) : (dats m 0 c).after 18 t = iblk m c 18 t := by dsimp only [dats]
theorem left19 (c : Dev nD) (t : Fin cfg0.N) : (dats m 0 c).after 19 t = iblk m c 19 t := by dsimp only [dats]
theorem left20 (c : Dev nD) (t : Fin cfg0.N) : (dats m 0 c).after 20 t = iblk m c 20 t := by dsimp only [dats]
theorem left21 (c : Dev nD) (t : Fin cfg0.N) : (dats m 0 c).after 21 t = iblk m c 21 t := by dsimp only [dats]
theorem left22 (c : Dev nD) (t : Fin cfg0.N) : (dats m 0 c).after 22 t = iblk m c 22 t := by dsimp only [dats]
theorem left23 (c : Dev nD) (t : Fin cfg0.N) : (dats m 0 c).after 23 t = iblk m c 23 t := by dsimp only [dats]
theorem left24 (c : Dev nD) (t : Fin cfg0.N) : (dats m 0 c).after 24 t = iblk m c 24 t := by dsimp only [dats]
/-- After the body at `t` the output's buffer holds `stagedAt`. -/
theorem after0_25 (c : Dev nD) (t : Fin cfg0.N) : (dats m 0 c).after 25 t = stagedAt m c t := by dsimp only [dats]

theorem found0 (c : Dev nD) (t : Fin cfg0.N) (d) : (dats m 0 c).before 0 t d = iblk m c 0 t :=
  before0_0_of m (dats m 0 c) (A_eq m c 0) (left0 m c) t d
theorem found1 (c : Dev nD) (t : Fin cfg0.N) (d) : (dats m 0 c).before 1 t d = iblk m c 1 t :=
  before0_1_of m (dats m 0 c) (A_eq m c 1) (left1 m c) t d
theorem found2 (c : Dev nD) (t : Fin cfg0.N) (d) : (dats m 0 c).before 2 t d = iblk m c 2 t :=
  before0_2_of m (dats m 0 c) (A_eq m c 2) (left2 m c) t d
theorem found3 (c : Dev nD) (t : Fin cfg0.N) (d) : (dats m 0 c).before 3 t d = iblk m c 3 t :=
  before0_3_of m (dats m 0 c) (A_eq m c 3) (left3 m c) t d
theorem found4 (c : Dev nD) (t : Fin cfg0.N) (d) : (dats m 0 c).before 4 t d = iblk m c 4 t :=
  before0_4_of m (dats m 0 c) (A_eq m c 4) (left4 m c) t d
theorem found5 (c : Dev nD) (t : Fin cfg0.N) (d) : (dats m 0 c).before 5 t d = iblk m c 5 t :=
  before0_5_of m (dats m 0 c) (A_eq m c 5) (left5 m c) t d
theorem found6 (c : Dev nD) (t : Fin cfg0.N) (d) : (dats m 0 c).before 6 t d = iblk m c 6 t :=
  before0_6_of m (dats m 0 c) (A_eq m c 6) (left6 m c) t d
theorem found7 (c : Dev nD) (t : Fin cfg0.N) (d) : (dats m 0 c).before 7 t d = iblk m c 7 t :=
  before0_7_of m (dats m 0 c) (A_eq m c 7) (left7 m c) t d
theorem found8 (c : Dev nD) (t : Fin cfg0.N) (d) : (dats m 0 c).before 8 t d = iblk m c 8 t :=
  before0_8_of m (dats m 0 c) (A_eq m c 8) (left8 m c) t d
theorem found9 (c : Dev nD) (t : Fin cfg0.N) (d) : (dats m 0 c).before 9 t d = iblk m c 9 t :=
  before0_9_of m (dats m 0 c) (A_eq m c 9) (left9 m c) t d
theorem found10 (c : Dev nD) (t : Fin cfg0.N) (d) : (dats m 0 c).before 10 t d = iblk m c 10 t :=
  before0_10_of m (dats m 0 c) (A_eq m c 10) (left10 m c) t d
theorem found11 (c : Dev nD) (t : Fin cfg0.N) (d) : (dats m 0 c).before 11 t d = iblk m c 11 t :=
  before0_11_of m (dats m 0 c) (A_eq m c 11) (left11 m c) t d
theorem found12 (c : Dev nD) (t : Fin cfg0.N) (d) : (dats m 0 c).before 12 t d = iblk m c 12 t :=
  before0_12_of m (dats m 0 c) (A_eq m c 12) (left12 m c) t d
theorem found13 (c : Dev nD) (t : Fin cfg0.N) (d) : (dats m 0 c).before 13 t d = iblk m c 13 t :=
  before0_13_of m (dats m 0 c) (A_eq m c 13) (left13 m c) t d
theorem found14 (c : Dev nD) (t : Fin cfg0.N) (d) : (dats m 0 c).before 14 t d = iblk m c 14 t :=
  before0_14_of m (dats m 0 c) (A_eq m c 14) (left14 m c) t d
theorem found15 (c : Dev nD) (t : Fin cfg0.N) (d) : (dats m 0 c).before 15 t d = iblk m c 15 t :=
  before0_15_of m (dats m 0 c) (A_eq m c 15) (left15 m c) t d
theorem found16 (c : Dev nD) (t : Fin cfg0.N) (d) : (dats m 0 c).before 16 t d = iblk m c 16 t :=
  before0_16_of m (dats m 0 c) (A_eq m c 16) (left16 m c) t d
theorem found17 (c : Dev nD) (t : Fin cfg0.N) (d) : (dats m 0 c).before 17 t d = iblk m c 17 t :=
  before0_17_of m (dats m 0 c) (A_eq m c 17) (left17 m c) t d
theorem found18 (c : Dev nD) (t : Fin cfg0.N) (d) : (dats m 0 c).before 18 t d = iblk m c 18 t :=
  before0_18_of m (dats m 0 c) (A_eq m c 18) (left18 m c) t d
theorem found19 (c : Dev nD) (t : Fin cfg0.N) (d) : (dats m 0 c).before 19 t d = iblk m c 19 t :=
  before0_19_of m (dats m 0 c) (A_eq m c 19) (left19 m c) t d
theorem found20 (c : Dev nD) (t : Fin cfg0.N) (d) : (dats m 0 c).before 20 t d = iblk m c 20 t :=
  before0_20_of m (dats m 0 c) (A_eq m c 20) (left20 m c) t d
theorem found21 (c : Dev nD) (t : Fin cfg0.N) (d) : (dats m 0 c).before 21 t d = iblk m c 21 t :=
  before0_21_of m (dats m 0 c) (A_eq m c 21) (left21 m c) t d
theorem found22 (c : Dev nD) (t : Fin cfg0.N) (d) : (dats m 0 c).before 22 t d = iblk m c 22 t :=
  before0_22_of m (dats m 0 c) (A_eq m c 22) (left22 m c) t d
theorem found23 (c : Dev nD) (t : Fin cfg0.N) (d) : (dats m 0 c).before 23 t d = iblk m c 23 t :=
  before0_23_of m (dats m 0 c) (A_eq m c 23) (left23 m c) t d
theorem found24 (c : Dev nD) (t : Fin cfg0.N) (d) : (dats m 0 c).before 24 t d = iblk m c 24 t :=
  before0_24_of m (dats m 0 c) (A_eq m c 24) (left24 m c) t d

/-! ## The body at a grid point -/

/-- The body's precondition at `t`, window by window. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d)))

/-- The body's postcondition at `t`, window by window. -/
def yielded (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t))

set_option maxHeartbeats 1000000 in
/-- At every grid point the body takes `given` to `yielded`. -/
theorem body_at (c : Dev nD) (t : Fin cfg0.N) :
    given m c t ⊢ wp frame (wpE (defs₀ (F := F)) Variants.none c none) Set.univ (bodyAt0 t) (fun _ => yielded m c t) := by
  unfold given yielded bodyAt0
  simp only [found0, found1, found2, found3, found4, found5, found6, found7, found8, found9, found10, found11, found12, found13, found14, found15, found16, found17, found18, found19, found20, found21, found22, found23, found24]
  rw [show (dats m 0 c).Φ t.succ = (dats m 0 c).Φ t.castSucc from rfl,
    show (dats m 0 c).owesAt () t.succ = (dats m 0 c).owesAt () t.castSucc from rfl,
    left0, left1, left2, left3, left4, left5, left6, left7, left8, left9, left10, left11, left12, left13, left14, left15, left16, left17, left18, left19, left20, left21, left22, left23, left24, after0_25]
  iintro ⟨HΦ, Ho, ⟨%d0, B0⟩, ⟨%d1, B1⟩, ⟨%d2, B2⟩, ⟨%d3, B3⟩, ⟨%d4, B4⟩, ⟨%d5, B5⟩, ⟨%d6, B6⟩, ⟨%d7, B7⟩, ⟨%d8, B8⟩, ⟨%d9, B9⟩, ⟨%d10, B10⟩, ⟨%d11, B11⟩, ⟨%d12, B12⟩, ⟨%d13, B13⟩, ⟨%d14, B14⟩, ⟨%d15, B15⟩, ⟨%d16, B16⟩, ⟨%d17, B17⟩, ⟨%d18, B18⟩, ⟨%d19, B19⟩, ⟨%d20, B20⟩, ⟨%d21, B21⟩, ⟨%d22, B22⟩, ⟨%d23, B23⟩, ⟨%d24, B24⟩, ⟨%d25, B25⟩⟩
  iapply (body_run c Set.univ (grid0.coords t) _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [B21]; · iexact B21
  isplitl [B22]; · iexact B22
  isplitl [B23]; · iexact B23
  isplitl [B24]; · iexact B24
  isplitl [B25]; · iexists _; iexact B25
  iintro ⟨B0, B1, B2, B3, B4, B5, B6, B7, B8, B9, B10, B11, B12, B13, B14, B15, B16, B17, B18, B19, B20, B21, B22, B23, B24, B25⟩
  isplitl [HΦ]; · iexact HΦ
  isplitl [Ho]; · iexact Ho
  isplitl [B0]; · iexact B0
  isplitl [B1]; · iexact B1
  isplitl [B2]; · iexact B2
  isplitl [B3]; · iexact B3
  isplitl [B4]; · iexact B4
  isplitl [B5]; · iexact B5
  isplitl [B6]; · iexact B6
  isplitl [B7]; · iexact B7
  isplitl [B8]; · iexact B8
  isplitl [B9]; · iexact B9
  isplitl [B10]; · iexact B10
  isplitl [B11]; · iexact B11
  isplitl [B12]; · iexact B12
  isplitl [B13]; · iexact B13
  isplitl [B14]; · iexact B14
  isplitl [B15]; · iexact B15
  isplitl [B16]; · iexact B16
  isplitl [B17]; · iexact B17
  isplitl [B18]; · iexact B18
  isplitl [B19]; · iexact B19
  isplitl [B20]; · iexact B20
  isplitl [B21]; · iexact B21
  isplitl [B22]; · iexact B22
  isplitl [B23]; · iexact B23
  isplitl [B24]; · iexact B24
  iexact B25

/-- The table's row for the body at point `t` is the body at `t`. -/
theorem table_row (t : Fin cfg0.N) : defs₀ (F := F) .tc cfg0.body (cfg0.bodyArgs t (cfg0.slots t)) = bodyAt0 t := by
  unfold defs₀; rw [Defs.onTc_tc]

set_option maxHeartbeats 1000000 in
/-- The pipeline's obligation on the body, at every point. -/
theorem obligation (c : Dev nD) : BodyObligation (dats (F := F) m 0 c) (defs₀ (F := F)) Variants.none () Set.univ := fun t => by
  rw [bigSep_W0, bigSep_W0, table_row]
  exact triple_restated (body_at m c t) rfl .rfl fun _ => .rfl

/-! ## The run and the frame -/

set_option backward.isDefEq.respectTransparency.types false in
set_option maxHeartbeats 1000000 in
/-- The whole program terminates with every array of the pipeline as its data say, and every counter at zero. -/
theorem run_quiet : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_quiet m ρ)

/-- The frame: the program terminates, leaves every argument array as launched, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) ∧ r.2.sem = fun _ => 0) :=
  θ_run_and (frame_of m ρ (dats m) (A_eq m) (run_main m ρ))
    ((θ_run defs _ _).mono (fun _ h => h.2) (run_quiet m ρ))

/-- The run with the result array named: the pipeline's output array after the last point. -/
theorem run : θ_run defs (onTc (τ := τ) (main (F := F))) ⟨m, fun _ => 0, ρ⟩ (fun r => ∀ c : Dev nD,
      r.2.mem ((c : Thread nD τ).loc main_v29) = (dats m 0 c).arrAt 25 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨(h.1 c).1 25, h.2 c⟩)
    (θ_run_and (run_main m ρ)
      (frame_of m ρ (dats m) (A_eq m) (run_main m ρ)))

end Cert.MergeBody
-- ==== Proof.MergeBlocks.lean ====
/- The merge call's staged blocks read back as entries of the argument arrays: grid point `t` takes batch `t / 32` and the
   256 positions from `256 * (t % 32)`. -/
module

public import proofs.«01_k».proof.Proof.MergeBody
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MergeBlocks
open Cert.MergeIdeal Cert.MergeIdeal.Gen Cert.MergeBody

variable (m : (ℓ : Loc nD τ sig) → Buf (Elt Ideal) ℓ)
/-- Where the blocks of windows 0 to 8 sit at grid point `t`. -/
theorem idxA : ∀ t : Fin cfg0.N,
    win0_0.index t = ![t.val / 32, t.val % 32, 0]
    ∧ win0_1.index t = ![t.val / 32, t.val % 32, 0]
    ∧ win0_2.index t = ![t.val / 32, t.val % 32, 0]
    ∧ win0_3.index t = ![t.val / 32, t.val % 32, 0]
    ∧ win0_4.index t = ![t.val / 32, t.val % 32, 0]
    ∧ win0_5.index t = ![t.val / 32, t.val % 32, 0]
    ∧ win0_6.index t = ![t.val / 32, t.val % 32, 0]
    ∧ win0_7.index t = ![t.val / 32, t.val % 32, 0]
    ∧ win0_8.index t = ![t.val / 32, t.val % 32, 0] :=
  (by decide +kernel : ∀ t : Fin grid0.N, _)

/-- Where the blocks of windows 9 to 17 sit at grid point `t`. -/
theorem idxB : ∀ t : Fin cfg0.N,
    win0_9.index t = ![t.val / 32, t.val % 32, 0]
    ∧ win0_10.index t = ![t.val / 32, t.val % 32, 0]
    ∧ win0_11.index t = ![t.val / 32, t.val % 32, 0]
    ∧ win0_12.index t = ![t.val / 32, t.val % 32, 0]
    ∧ win0_13.index t = ![t.val / 32, t.val % 32, 0]
    ∧ win0_14.index t = ![t.val / 32, t.val % 32, 0]
    ∧ win0_15.index t = ![t.val / 32, t.val % 32, 0]
    ∧ win0_16.index t = ![t.val / 32, t.val % 32, 0]
    ∧ win0_17.index t = ![t.val / 32, 0, 0] :=
  (by decide +kernel : ∀ t : Fin grid0.N, _)

/-- Where the blocks of windows 18 to 25 sit at grid point `t`. -/
theorem idxC : ∀ t : Fin cfg0.N,
    win0_18.index t = ![0, 0]
    ∧ win0_19.index t = ![0, 0]
    ∧ win0_20.index t = ![0, 0]
    ∧ win0_21.index t = ![0, 0]
    ∧ win0_22.index t = ![0, 0]
    ∧ win0_23.index t = ![0, 0]
    ∧ win0_24.index t = ![0, 0]
    ∧ win0_25.index t = ![t.val / 32, t.val % 32, 0] :=
  (by decide +kernel : ∀ t : Fin grid0.N, _)

/-- The batch of grid point `t`. -/
abbrev bat (t : Fin cfg0.N) : Fin 8 := ⟨t.val / 32, by have h : t.val < 256 := t.isLt; omega⟩
/-- The position of row `r` of grid point `t`. -/
abbrev pos (t : Fin cfg0.N) (r : Fin 256) : Fin 8192 := ⟨t.val % 32 * 256 + r.val, by omega⟩

/-- Window 0's block at point `t`. -/
abbrev x (c : Dev nD) (t : Fin cfg0.N) : FVec Ideal S1x256x1024 .f32 := iblk m c 0 t
/-- Window 1's block at point `t`. -/
abbrev conv (c : Dev nD) (t : Fin cfg0.N) : FVec Ideal S1x256x768 .f32 := iblk m c 1 t
/-- Window 2's block at point `t`. -/
abbrev filt (c : Dev nD) (t : Fin cfg0.N) : FVec Ideal S1x256x768 .f32 := iblk m c 2 t
/-- Window 3's block at point `t`. -/
abbrev gate0 (c : Dev nD) (t : Fin cfg0.N) : FVec Ideal S1x256x768 .f32 := iblk m c 3 t
/-- Window 4's block at point `t`. -/
abbrev outA0 (c : Dev nD) (t : Fin cfg0.N) : FVec Ideal S1x256x128 .f32 := iblk m c 4 t
/-- Window 5's block at point `t`. -/
abbrev outA1 (c : Dev nD) (t : Fin cfg0.N) : FVec Ideal S1x256x128 .f32 := iblk m c 5 t
/-- Window 6's block at point `t`. -/
abbrev outB0 (c : Dev nD) (t : Fin cfg0.N) : FVec Ideal S1x256x128 .f32 := iblk m c 6 t
/-- Window 7's block at point `t`. -/
abbrev outB1 (c : Dev nD) (t : Fin cfg0.N) : FVec Ideal S1x256x128 .f32 := iblk m c 7 t
/-- Window 8's block at point `t`. -/
abbrev outC0 (c : Dev nD) (t : Fin cfg0.N) : FVec Ideal S1x256x128 .f32 := iblk m c 8 t
/-- Window 9's block at point `t`. -/
abbrev outC1 (c : Dev nD) (t : Fin cfg0.N) : FVec Ideal S1x256x128 .f32 := iblk m c 9 t
/-- Window 10's block at point `t`. -/
abbrev lseA0 (c : Dev nD) (t : Fin cfg0.N) : FVec Ideal S1x256x128 .f32 := iblk m c 10 t
/-- Window 11's block at point `t`. -/
abbrev lseA1 (c : Dev nD) (t : Fin cfg0.N) : FVec Ideal S1x256x128 .f32 := iblk m c 11 t
/-- Window 12's block at point `t`. -/
abbrev lseB0 (c : Dev nD) (t : Fin cfg0.N) : FVec Ideal S1x256x128 .f32 := iblk m c 12 t
/-- Window 13's block at point `t`. -/
abbrev lseB1 (c : Dev nD) (t : Fin cfg0.N) : FVec Ideal S1x256x128 .f32 := iblk m c 13 t
/-- Window 14's block at point `t`. -/
abbrev lseC0 (c : Dev nD) (t : Fin cfg0.N) : FVec Ideal S1x256x128 .f32 := iblk m c 14 t
/-- Window 15's block at point `t`. -/
abbrev lseC1 (c : Dev nD) (t : Fin cfg0.N) : FVec Ideal S1x256x128 .f32 := iblk m c 15 t
/-- Window 16's block at point `t`. -/
abbrev gates (c : Dev nD) (t : Fin cfg0.N) : FVec Ideal S1x256x2048 .f32 := iblk m c 16 t
/-- Window 17's block at point `t`. -/
abbrev mods (c : Dev nD) (t : Fin cfg0.N) : FVec Ideal S1x1x6144 .f32 := iblk m c 17 t
/-- Window 18's block at point `t`. -/
abbrev skip (c : Dev nD) (t : Fin cfg0.N) : FVec Ideal S1x768 .f32 := iblk m c 18 t
/-- Window 19's block at point `t`. -/
abbrev norm (c : Dev nD) (t : Fin cfg0.N) : FVec Ideal S1x1024 .f32 := iblk m c 19 t
/-- Window 20's block at point `t`. -/
abbrev wHy (c : Dev nD) (t : Fin cfg0.N) : FVec Ideal S768x1024 .bf16 := iblk m c 20 t
/-- Window 21's block at point `t`. -/
abbrev wAt (c : Dev nD) (t : Fin cfg0.N) : FVec Ideal S256x1024 .bf16 := iblk m c 21 t
/-- Window 22's block at point `t`. -/
abbrev wOut (c : Dev nD) (t : Fin cfg0.N) : FVec Ideal S1024x1024 .bf16 := iblk m c 22 t
/-- Window 23's block at point `t`. -/
abbrev wUp (c : Dev nD) (t : Fin cfg0.N) : FVec Ideal S1024x4096 .bf16 := iblk m c 23 t
/-- Window 24's block at point `t`. -/
abbrev wDn (c : Dev nD) (t : Fin cfg0.N) : FVec Ideal S4096x1024 .bf16 := iblk m c 24 t

/-- Argument 0 as launched. -/
abbrev arg0 (c : Dev nD) : FVec Ideal S8x8192x1024 .f32 := m ((c : Thread nD τ).loc main_arg0)
/-- Argument 1 as launched. -/
abbrev arg1 (c : Dev nD) : FVec Ideal S8x8192x768 .f32 := m ((c : Thread nD τ).loc main_arg1)
/-- Argument 2 as launched. -/
abbrev arg2 (c : Dev nD) : FVec Ideal S8x8192x768 .f32 := m ((c : Thread nD τ).loc main_arg2)
/-- Argument 3 as launched. -/
abbrev arg3 (c : Dev nD) : FVec Ideal S8x8192x768 .f32 := m ((c : Thread nD τ).loc main_arg3)
/-- Argument 4 as launched. -/
abbrev arg4 (c : Dev nD) : FVec Ideal S8x8192x4x64 .f32 := m ((c : Thread nD τ).loc main_arg4)
/-- Argument 5 as launched. -/
abbrev arg5 (c : Dev nD) : FVec Ideal S8x8192x4x64 .f32 := m ((c : Thread nD τ).loc main_arg5)
/-- Argument 6 as launched. -/
abbrev arg6 (c : Dev nD) : FVec Ideal S8x8192x4x64 .f32 := m ((c : Thread nD τ).loc main_arg6)
/-- Argument 7 as launched. -/
abbrev arg7 (c : Dev nD) : FVec Ideal S8x8192x4 .f32 := m ((c : Thread nD τ).loc main_arg7)
/-- Argument 8 as launched. -/
abbrev arg8 (c : Dev nD) : FVec Ideal S8x8192x4 .f32 := m ((c : Thread nD τ).loc main_arg8)
/-- Argument 9 as launched. -/
abbrev arg9 (c : Dev nD) : FVec Ideal S8x8192x4 .f32 := m ((c : Thread nD τ).loc main_arg9)
/-- Argument 10 as launched. -/
abbrev arg10 (c : Dev nD) : FVec Ideal S8x8192x2048 .f32 := m ((c : Thread nD τ).loc main_arg10)
/-- Argument 11 as launched. -/
abbrev arg11 (c : Dev nD) : FVec Ideal S8x6144 .f32 := m ((c : Thread nD τ).loc main_arg11)
/-- Argument 12 as launched. -/
abbrev arg12 (c : Dev nD) : FVec Ideal S768 .f32 := m ((c : Thread nD τ).loc main_arg12)
/-- Argument 13 as launched. -/
abbrev arg13 (c : Dev nD) : FVec Ideal S1024 .f32 := m ((c : Thread nD τ).loc main_arg13)
/-- Argument 14 as launched. -/
abbrev arg14 (c : Dev nD) : FVec Ideal S768x1024 .f32 := m ((c : Thread nD τ).loc main_arg14)
/-- Argument 15 as launched. -/
abbrev arg15 (c : Dev nD) : FVec Ideal S256x1024 .f32 := m ((c : Thread nD τ).loc main_arg15)
/-- Argument 16 as launched. -/
abbrev arg16 (c : Dev nD) : FVec Ideal S1024x1024 .f32 := m ((c : Thread nD τ).loc main_arg16)
/-- Argument 17 as launched. -/
abbrev arg17 (c : Dev nD) : FVec Ideal S1024x4096 .f32 := m ((c : Thread nD τ).loc main_arg17)
/-- Argument 18 as launched. -/
abbrev arg18 (c : Dev nD) : FVec Ideal S4096x1024 .f32 := m ((c : Thread nD τ).loc main_arg18)

theorem x_read (c : Dev nD) (t : Fin cfg0.N) (r : Fin 256) (k : Fin 1024) :
    x m c t (ix3 0 r k) = arg0 m c (ix3 (bat t) (pos t r) k) := by
  blk_point [iblk, V, idxA t]

theorem conv_read (c : Dev nD) (t : Fin cfg0.N) (r : Fin 256) (k : Fin 768) :
    conv m c t (ix3 0 r k) = arg1 m c (ix3 (bat t) (pos t r) k) := by
  blk_point [iblk, V, idxA t]

theorem filt_read (c : Dev nD) (t : Fin cfg0.N) (r : Fin 256) (k : Fin 768) :
    filt m c t (ix3 0 r k) = arg2 m c (ix3 (bat t) (pos t r) k) := by
  blk_point [iblk, V, idxA t]

theorem gate0_read (c : Dev nD) (t : Fin cfg0.N) (r : Fin 256) (k : Fin 768) :
    gate0 m c t (ix3 0 r k) = arg3 m c (ix3 (bat t) (pos t r) k) := by
  blk_point [iblk, V, idxA t]

theorem gates_read (c : Dev nD) (t : Fin cfg0.N) (r : Fin 256) (k : Fin 2048) :
    gates m c t (ix3 0 r k) = arg10 m c (ix3 (bat t) (pos t r) k) := by
  blk_point [iblk, V, idxB t]

/-- The array window 4 stages, at an index. -/
theorem outA0_entry (c : Dev nD) (b : Fin 8) (p : Fin 8192) (j : Fin 128) :
    (show FVec Ideal S8x8192x128 .f32 from V m c main_v3) (ix3 b p j) = arg4 m c (ix4 b p ⟨j.val / 64, by omega⟩ ⟨j.val % 64, by omega⟩) := by
  show (V m c main_v3) (ix3 b p j) = _
  entry_read
  pointwise

theorem outA0_read (c : Dev nD) (t : Fin cfg0.N) (r : Fin 256) (j : Fin 128) :
    outA0 m c t (ix3 0 r j) = arg4 m c (ix4 (bat t) (pos t r) ⟨j.val / 64, by omega⟩ ⟨j.val % 64, by omega⟩) := by
  refine Eq.trans ?_ (outA0_entry m c (bat t) (pos t r) j)
  blk_point [iblk, idxA t]

/-- The array window 10 stages, at an index. -/
theorem lseA0_entry (c : Dev nD) (b : Fin 8) (p : Fin 8192) (j : Fin 128) :
    (show FVec Ideal S8x8192x128 .f32 from V m c main_v5) (ix3 b p j) = arg7 m c (ix3 b p ⟨j.val / 64, by omega⟩) := by
  show (V m c main_v5) (ix3 b p j) = _
  entry_read
  pointwise

theorem lseA0_read (c : Dev nD) (t : Fin cfg0.N) (r : Fin 256) (j : Fin 128) :
    lseA0 m c t (ix3 0 r j) = arg7 m c (ix3 (bat t) (pos t r) ⟨j.val / 64, by omega⟩) := by
  refine Eq.trans ?_ (lseA0_entry m c (bat t) (pos t r) j)
  blk_point [iblk, idxB t]

/-- The array window 5 stages, at an index. -/
theorem outA1_entry (c : Dev nD) (b : Fin 8) (p : Fin 8192) (j : Fin 128) :
    (show FVec Ideal S8x8192x128 .f32 from V m c main_v4) (ix3 b p j) = arg4 m c (ix4 b p ⟨(128 + j.val) / 64, by omega⟩ ⟨(128 + j.val) % 64, by omega⟩) := by
  show (V m c main_v4) (ix3 b p j) = _
  entry_read
  pointwise

theorem outA1_read (c : Dev nD) (t : Fin cfg0.N) (r : Fin 256) (j : Fin 128) :
    outA1 m c t (ix3 0 r j) = arg4 m c (ix4 (bat t) (pos t r) ⟨(128 + j.val) / 64, by omega⟩ ⟨(128 + j.val) % 64, by omega⟩) := by
  refine Eq.trans ?_ (outA1_entry m c (bat t) (pos t r) j)
  blk_point [iblk, idxA t]

/-- The array window 11 stages, at an index. -/
theorem lseA1_entry (c : Dev nD) (b : Fin 8) (p : Fin 8192) (j : Fin 128) :
    (show FVec Ideal S8x8192x128 .f32 from V m c main_v6) (ix3 b p j) = arg7 m c (ix3 b p ⟨(128 + j.val) / 64, by omega⟩) := by
  show (V m c main_v6) (ix3 b p j) = _
  entry_read
  pointwise

theorem lseA1_read (c : Dev nD) (t : Fin cfg0.N) (r : Fin 256) (j : Fin 128) :
    lseA1 m c t (ix3 0 r j) = arg7 m c (ix3 (bat t) (pos t r) ⟨(128 + j.val) / 64, by omega⟩) := by
  refine Eq.trans ?_ (lseA1_entry m c (bat t) (pos t r) j)
  blk_point [iblk, idxB t]

/-- The array window 6 stages, at an index. -/
theorem outB0_entry (c : Dev nD) (b : Fin 8) (p : Fin 8192) (j : Fin 128) :
    (show FVec Ideal S8x8192x128 .f32 from V m c main_v10) (ix3 b p j) = arg5 m c (ix4 b p ⟨j.val / 64, by omega⟩ ⟨j.val % 64, by omega⟩) := by
  show (V m c main_v10) (ix3 b p j) = _
  entry_read
  pointwise

theorem outB0_read (c : Dev nD) (t : Fin cfg0.N) (r : Fin 256) (j : Fin 128) :
    outB0 m c t (ix3 0 r j) = arg5 m c (ix4 (bat t) (pos t r) ⟨j.val / 64, by omega⟩ ⟨j.val % 64, by omega⟩) := by
  refine Eq.trans ?_ (outB0_entry m c (bat t) (pos t r) j)
  blk_point [iblk, idxA t]

/-- The array window 12 stages, at an index. -/
theorem lseB0_entry (c : Dev nD) (b : Fin 8) (p : Fin 8192) (j : Fin 128) :
    (show FVec Ideal S8x8192x128 .f32 from V m c main_v12) (ix3 b p j) = arg8 m c (ix3 b p ⟨j.val / 64, by omega⟩) := by
  show (V m c main_v12) (ix3 b p j) = _
  entry_read
  pointwise

theorem lseB0_read (c : Dev nD) (t : Fin cfg0.N) (r : Fin 256) (j : Fin 128) :
    lseB0 m c t (ix3 0 r j) = arg8 m c (ix3 (bat t) (pos t r) ⟨j.val / 64, by omega⟩) := by
  refine Eq.trans ?_ (lseB0_entry m c (bat t) (pos t r) j)
  blk_point [iblk, idxB t]

/-- The array window 7 stages, at an index. -/
theorem outB1_entry (c : Dev nD) (b : Fin 8) (p : Fin 8192) (j : Fin 128) :
    (show FVec Ideal S8x8192x128 .f32 from V m c main_v11) (ix3 b p j) = arg5 m c (ix4 b p ⟨(128 + j.val) / 64, by omega⟩ ⟨(128 + j.val) % 64, by omega⟩) := by
  show (V m c main_v11) (ix3 b p j) = _
  entry_read
  pointwise

theorem outB1_read (c : Dev nD) (t : Fin cfg0.N) (r : Fin 256) (j : Fin 128) :
    outB1 m c t (ix3 0 r j) = arg5 m c (ix4 (bat t) (pos t r) ⟨(128 + j.val) / 64, by omega⟩ ⟨(128 + j.val) % 64, by omega⟩) := by
  refine Eq.trans ?_ (outB1_entry m c (bat t) (pos t r) j)
  blk_point [iblk, idxA t]

/-- The array window 13 stages, at an index. -/
theorem lseB1_entry (c : Dev nD) (b : Fin 8) (p : Fin 8192) (j : Fin 128) :
    (show FVec Ideal S8x8192x128 .f32 from V m c main_v13) (ix3 b p j) = arg8 m c (ix3 b p ⟨(128 + j.val) / 64, by omega⟩) := by
  show (V m c main_v13) (ix3 b p j) = _
  entry_read
  pointwise

theorem lseB1_read (c : Dev nD) (t : Fin cfg0.N) (r : Fin 256) (j : Fin 128) :
    lseB1 m c t (ix3 0 r j) = arg8 m c (ix3 (bat t) (pos t r) ⟨(128 + j.val) / 64, by omega⟩) := by
  refine Eq.trans ?_ (lseB1_entry m c (bat t) (pos t r) j)
  blk_point [iblk, idxB t]

/-- The array window 8 stages, at an index. -/
theorem outC0_entry (c : Dev nD) (b : Fin 8) (p : Fin 8192) (j : Fin 128) :
    (show FVec Ideal S8x8192x128 .f32 from V m c main_v17) (ix3 b p j) = arg6 m c (ix4 b p ⟨j.val / 64, by omega⟩ ⟨j.val % 64, by omega⟩) := by
  show (V m c main_v17) (ix3 b p j) = _
  entry_read
  pointwise

theorem outC0_read (c : Dev nD) (t : Fin cfg0.N) (r : Fin 256) (j : Fin 128) :
    outC0 m c t (ix3 0 r j) = arg6 m c (ix4 (bat t) (pos t r) ⟨j.val / 64, by omega⟩ ⟨j.val % 64, by omega⟩) := by
  refine Eq.trans ?_ (outC0_entry m c (bat t) (pos t r) j)
  blk_point [iblk, idxA t]

/-- The array window 14 stages, at an index. -/
theorem lseC0_entry (c : Dev nD) (b : Fin 8) (p : Fin 8192) (j : Fin 128) :
    (show FVec Ideal S8x8192x128 .f32 from V m c main_v19) (ix3 b p j) = arg9 m c (ix3 b p ⟨j.val / 64, by omega⟩) := by
  show (V m c main_v19) (ix3 b p j) = _
  entry_read
  pointwise

theorem lseC0_read (c : Dev nD) (t : Fin cfg0.N) (r : Fin 256) (j : Fin 128) :
    lseC0 m c t (ix3 0 r j) = arg9 m c (ix3 (bat t) (pos t r) ⟨j.val / 64, by omega⟩) := by
  refine Eq.trans ?_ (lseC0_entry m c (bat t) (pos t r) j)
  blk_point [iblk, idxB t]

/-- The array window 9 stages, at an index. -/
theorem outC1_entry (c : Dev nD) (b : Fin 8) (p : Fin 8192) (j : Fin 128) :
    (show FVec Ideal S8x8192x128 .f32 from V m c main_v18) (ix3 b p j) = arg6 m c (ix4 b p ⟨(128 + j.val) / 64, by omega⟩ ⟨(128 + j.val) % 64, by omega⟩) := by
  show (V m c main_v18) (ix3 b p j) = _
  entry_read
  pointwise

theorem outC1_read (c : Dev nD) (t : Fin cfg0.N) (r : Fin 256) (j : Fin 128) :
    outC1 m c t (ix3 0 r j) = arg6 m c (ix4 (bat t) (pos t r) ⟨(128 + j.val) / 64, by omega⟩ ⟨(128 + j.val) % 64, by omega⟩) := by
  refine Eq.trans ?_ (outC1_entry m c (bat t) (pos t r) j)
  blk_point [iblk, idxB t]

/-- The array window 15 stages, at an index. -/
theorem lseC1_entry (c : Dev nD) (b : Fin 8) (p : Fin 8192) (j : Fin 128) :
    (show FVec Ideal S8x8192x128 .f32 from V m c main_v20) (ix3 b p j) = arg9 m c (ix3 b p ⟨(128 + j.val) / 64, by omega⟩) := by
  show (V m c main_v20) (ix3 b p j) = _
  entry_read
  pointwise

theorem lseC1_read (c : Dev nD) (t : Fin cfg0.N) (r : Fin 256) (j : Fin 128) :
    lseC1 m c t (ix3 0 r j) = arg9 m c (ix3 (bat t) (pos t r) ⟨(128 + j.val) / 64, by omega⟩) := by
  refine Eq.trans ?_ (lseC1_entry m c (bat t) (pos t r) j)
  blk_point [iblk, idxB t]

theorem mods_read (c : Dev nD) (t : Fin cfg0.N) (k : Fin 6144) :
    mods m c t (ix3 0 0 k) = arg11 m c (ix2 (bat t) k) := by
  blk_point [iblk, V, idxB t]

theorem skip_read (c : Dev nD) (t : Fin cfg0.N) (k : Fin 768) :
    skip m c t (ix2 0 k) = arg12 m c (ix1 k) := by
  blk_point [iblk, V, idxC t]

theorem norm_read (c : Dev nD) (t : Fin cfg0.N) (k : Fin 1024) :
    norm m c t (ix2 0 k) = arg13 m c (ix1 k) := by
  blk_point [iblk, V, idxC t]

theorem wHy_read (c : Dev nD) (t : Fin cfg0.N) (k : Fin 768) (n : Fin 1024) :
    wHy m c t (ix2 k n) = arg14 m c (ix2 k n) := by
  blk_point [iblk, V, idxC t]

theorem wAt_read (c : Dev nD) (t : Fin cfg0.N) (k : Fin 256) (n : Fin 1024) :
    wAt m c t (ix2 k n) = arg15 m c (ix2 k n) := by
  blk_point [iblk, V, idxC t]

theorem wOut_read (c : Dev nD) (t : Fin cfg0.N) (k : Fin 1024) (n : Fin 1024) :
    wOut m c t (ix2 k n) = arg16 m c (ix2 k n) := by
  blk_point [iblk, V, idxC t]

theorem wUp_read (c : Dev nD) (t : Fin cfg0.N) (k : Fin 1024) (n : Fin 4096) :
    wUp m c t (ix2 k n) = arg17 m c (ix2 k n) := by
  blk_point [iblk, V, idxC t]

theorem wDn_read (c : Dev nD) (t : Fin cfg0.N) (k : Fin 4096) (n : Fin 1024) :
    wDn m c t (ix2 k n) = arg18 m c (ix2 k n) := by
  blk_point [iblk, V, idxC t]

end Cert.MergeBlocks
-- ==== Proof.MergeRow.lean ====
/- The merge call, one row at a time: the row functions that both the kernel and the reference compute, stated over
   plain extended-real families, and the kernel's payloads read as them. -/
module

public import proofs.«01_k».proof.Proof.MergeBody
public import Idealize.ShloMosaic.Lib.Pipeline.ValueKit
public import Idealize.ShloMosaic.Lib.Pipeline.Covers
public import Idealize.ShloMosaic.Lib.Pointwise

@[expose] public section

set_option maxRecDepth 16384

noncomputable section

open Idealize.ShloMosaic Idealize.ShloMosaic.TcCoe Idealize.SL.Sem

namespace Cert.MergeRow

/-- Three partial attention outputs weighted by the exponentials of their log-denominators (taken relative to the
    largest), divided once by the sum of the weights. -/
def combine (l1 l2 l3 o1 o2 o3 : EReal) : EReal :=
  Ideal.div (Ideal.exp (l1 - max (max l1 l2) l3) * o1 + Ideal.exp (l2 - max (max l1 l2) l3) * o2
      + Ideal.exp (l3 - max (max l1 l2) l3) * o3)
    (Ideal.exp (l1 - max (max l1 l2) l3) + Ideal.exp (l2 - max (max l1 l2) l3)
      + Ideal.exp (l3 - max (max l1 l2) l3))

/-- The same three outputs, each weighted by its own share of the exponentials' sum. -/
def weighted (l1 l2 l3 o1 o2 o3 : EReal) : EReal :=
  Ideal.div (Ideal.exp (l1 - max (max l1 l2) l3)) (Ideal.exp (l1 - max (max l1 l2) l3)
      + Ideal.exp (l2 - max (max l1 l2) l3) + Ideal.exp (l3 - max (max l1 l2) l3)) * o1
    + Ideal.div (Ideal.exp (l2 - max (max l1 l2) l3)) (Ideal.exp (l1 - max (max l1 l2) l3)
      + Ideal.exp (l2 - max (max l1 l2) l3) + Ideal.exp (l3 - max (max l1 l2) l3)) * o2
    + Ideal.div (Ideal.exp (l3 - max (max l1 l2) l3)) (Ideal.exp (l1 - max (max l1 l2) l3)
      + Ideal.exp (l2 - max (max l1 l2) l3) + Ideal.exp (l3 - max (max l1 l2) l3)) * o3

/-- The residual stream after the mixer, one row: the input plus the gate times the projected sum of the two gated
    branches. -/
def hidden (x gt : Fin 1024 → EReal) (hy : Fin 768 → EReal) (at' : Fin 256 → EReal) (gh ga : Fin 1024 → EReal)
    (wh : Fin 768 → Fin 1024 → EReal) (wa : Fin 256 → Fin 1024 → EReal) (wo : Fin 1024 → Fin 1024 → EReal)
    (n : Fin 1024) : EReal :=
  x n + gt n * ∑ k, (gh k * (∑ j, hy j * wh j k) + ga k * (∑ j, at' j * wa j k)) * wo k n

/-- The block's result, one row: the residual stream plus the gate times the squared-relu feed-forward of the
    normalised, modulated row. -/
def feed (h g sc sh gt : Fin 1024 → EReal) (up : Fin 1024 → Fin 4096 → EReal) (dn : Fin 4096 → Fin 1024 → EReal)
    (n : Fin 1024) : EReal :=
  h n + gt n * ∑ f, (max (∑ k, (h k * Ideal.rsqrt (Ideal.div (∑ i, h i * h i) (Ideal.ofBits .f32 0x44800000#32)
        + Ideal.ofBits .f32 0x358637BD#32) * (g k * (1 + sc k)) + sh k) * up k f) 0
      * max (∑ k, (h k * Ideal.rsqrt (Ideal.div (∑ i, h i * h i) (Ideal.ofBits .f32 0x44800000#32)
        + Ideal.ofBits .f32 0x358637BD#32) * (g k * (1 + sc k)) + sh k) * up k f) 0) * dn f n

section Kernel
open Cert.MergeIdeal Cert.MergeIdeal.Gen

/-- The stored row of a block is `feed` of the row of the residual stream. -/
theorem pay1_row (v3 v4 v5 : FVec Ideal S1x1024 .f32) (h hh : FVec Ideal S256x1024 .f32)
    (hhh : ∀ r n, hh (ix2 r n) = h (ix2 r n) * h (ix2 r n))
    (g : FVec Ideal S1x1024 .f32) (up : FVec Ideal S1024x4096 .bf16) (dn : FVec Ideal S4096x1024 .bf16)
    (r : Fin 256) (n : Fin 1024) :
    k0_pay1 (F := Ideal) v3 v4 v5 h hh g up dn (ix3 0 r n)
      = feed (fun k => h (ix2 r k)) (fun k => g (ix2 0 k)) (fun k => v4 (ix2 0 k)) (fun k => v3 (ix2 0 k))
          (fun k => v5 (ix2 0 k)) (fun k f => up (ix2 k f)) (fun f k => dn (ix2 f k)) n := by
  pointwise [k0_pay1, feed, hhh]

/-- The residual stream's row is `hidden` of the loaded rows. -/
theorem pay17_row (v2 : FVec Ideal S1x1024 .f32) (v70 : FVec Ideal S256x256 .f32)
    (x0 conv w : FVec Ideal S1x256x768 .f32) (d : FVec Ideal S1x768 .f32)
    (gates : FVec Ideal S1x256x2048 .f32) (wh : FVec Ideal S768x1024 .bf16) (wa : FVec Ideal S256x1024 .bf16)
    (x : FVec Ideal S1x256x1024 .f32) (wo : FVec Ideal S1024x1024 .bf16) (r : Fin 256) (n : Fin 1024) :
    k0_pay17 (F := Ideal) v2 v70 x0 conv w d gates wh wa x wo (ix2 r n)
      = hidden (fun k => x (ix3 0 r k)) (fun k => v2 (ix2 0 k))
          (fun j => x0 (ix3 0 r j) * (conv (ix3 0 r j) + w (ix3 0 r j) * d (ix2 0 j))) (fun j => v70 (ix2 r j))
          (fun k => gates (ix3 0 r ⟨k.val, by omega⟩)) (fun k => gates (ix3 0 r ⟨1024 + k.val, by omega⟩))
          (fun j k => wh (ix2 j k)) (fun j k => wa (ix2 j k)) (fun k n => wo (ix2 k n)) n := by
  pointwise [k0_pay17, hidden]

/-- The first half of the attention branch's row. -/
theorem branch_lo (la0 la1 lb0 lb1 lc0 lc1 oa0 oa1 ob0 ob1 oc0 oc1 : FVec Ideal S1x256x128 .f32) (r : Fin 256)
    (j : Fin 256) (hj : j.val < 128) :
    Cert.MergeBody.branch la0 la1 lb0 lb1 lc0 lc1 oa0 oa1 ob0 ob1 oc0 oc1 (ix2 r j)
      = combine (la0 (ix3 0 r ⟨j.val, hj⟩)) (lb0 (ix3 0 r ⟨j.val, hj⟩)) (lc0 (ix3 0 r ⟨j.val, hj⟩))
          (oa0 (ix3 0 r ⟨j.val, hj⟩)) (ob0 (ix3 0 r ⟨j.val, hj⟩)) (oc0 (ix3 0 r ⟨j.val, hj⟩)) := by
  pointwise [Cert.MergeBody.branch, k0_pay16, k0_pay12, k0_pay13, k0_pay14, k0_pay15, k0_pay11, k0_pay10, k0_pay9, k0_pay8, k0_pay7, combine]
  rw [dif_pos hj]

/-- The second half of the attention branch's row. -/
theorem branch_hi (la0 la1 lb0 lb1 lc0 lc1 oa0 oa1 ob0 ob1 oc0 oc1 : FVec Ideal S1x256x128 .f32) (r : Fin 256)
    (j : Fin 256) (hj : ¬ j.val < 128) :
    Cert.MergeBody.branch la0 la1 lb0 lb1 lc0 lc1 oa0 oa1 ob0 ob1 oc0 oc1 (ix2 r j)
      = combine (la1 (ix3 0 r ⟨j.val - 128, by omega⟩)) (lb1 (ix3 0 r ⟨j.val - 128, by omega⟩))
          (lc1 (ix3 0 r ⟨j.val - 128, by omega⟩)) (oa1 (ix3 0 r ⟨j.val - 128, by omega⟩))
          (ob1 (ix3 0 r ⟨j.val - 128, by omega⟩)) (oc1 (ix3 0 r ⟨j.val - 128, by omega⟩)) := by
  pointwise [Cert.MergeBody.branch, k0_pay16, k0_pay12, k0_pay13, k0_pay14, k0_pay15, k0_pay11, k0_pay10, k0_pay9, k0_pay8, k0_pay7, combine]
  rw [dif_neg hj]

end Kernel
end Cert.MergeRow
-- ==== Proof.MergeRef.lean ====
/- The merge reference, one row at a time: its stages read as the row functions of MergeRow. -/
module

public import proofs.«01_k».proof.Proof.MergeRow
public import proofs.«01_k».proof.Proof.Gen.MergeRefIdeal.Read

@[expose] public section

set_option maxRecDepth 16384

noncomputable section

open Idealize.ShloMosaic Idealize.ShloMosaic.TcCoe Idealize.SL.Sem

namespace Cert.MergeRef
open Cert.MergeRefIdeal Cert.MergeRefIdeal.Read Cert.MergeRow

variable (x0 : FVec Ideal S8x8192x1024 .f32) (x1 x2 x3 : FVec Ideal S8x8192x768 .f32)
  (x4 x5 x6 : FVec Ideal S8x8192x4x64 .f32) (x7 x8 x9 : FVec Ideal S8x8192x4 .f32)
  (x10 : FVec Ideal S8x8192x2048 .f32) (x11 : FVec Ideal S8x6144 .f32) (x12 : FVec Ideal S768 .f32)
  (x13 : FVec Ideal S1024 .f32) (x14 : FVec Ideal S768x1024 .f32) (x15 : FVec Ideal S256x1024 .f32)
  (x16 : FVec Ideal S1024x1024 .f32) (x17 : FVec Ideal S1024x4096 .f32) (x18 : FVec Ideal S4096x1024 .f32)

/-- The largest of the three log-denominators at a position and head. -/
theorem top_apply (b : Fin 8) (t : Fin 8192) (h : Fin 4) :
    val_main_v18 (F := Ideal) x7 x8 x9 (ix3 b t h) = max (max (x7 (ix3 b t h)) (x8 (ix3 b t h))) (x9 (ix3 b t h)) := by
  pointwise [val_main_v18, val_main_v17, val_main_cst_0, val_main_v16, val_main_v15, val_main_cst, val_main_v12, val_main_v13, val_main_v14]
  have low : Ideal.ofBits .f32 0xFF800000#32 = ⊥ := by simp [Ideal.ofBits, Ideal.ieee]
  rw [show (Finset.univ : Finset (Fin 3)) = {0, 1, 2} from rfl, low]
  simp [Finset.fold_insert, max_assoc]

/-- The stacked log-denominators read back. -/
theorem lse0 (b : Fin 8) (t : Fin 8192) (h : Fin 4) : val_main_v15 (F := Ideal) x7 x8 x9 (ix4 0 b t h) = x7 (ix3 b t h) := by
  pointwise [val_main_v15, val_main_v12, val_main_v13, val_main_v14]
theorem lse1 (b : Fin 8) (t : Fin 8192) (h : Fin 4) : val_main_v15 (F := Ideal) x7 x8 x9 (ix4 1 b t h) = x8 (ix3 b t h) := by
  pointwise [val_main_v15, val_main_v12, val_main_v13, val_main_v14]
theorem lse2 (b : Fin 8) (t : Fin 8192) (h : Fin 4) : val_main_v15 (F := Ideal) x7 x8 x9 (ix4 2 b t h) = x9 (ix3 b t h) := by
  pointwise [val_main_v15, val_main_v12, val_main_v13, val_main_v14]

/-- The residual stream's entry is `hidden` of its row. -/
theorem hidden_apply (b : Fin 8) (t : Fin 8192) (n : Fin 1024) :
    val_main_v46 (F := Ideal) x0 x1 x2 x3 x4 x5 x6 x7 x8 x9 x10 x11 x12 x14 x15 x16 (ix3 b t n)
      = hidden (fun k => x0 (ix3 b t k)) (fun k => x11 (ix2 b ⟨2048 + k.val, by omega⟩))
          (fun j => x3 (ix3 b t j) * (x1 (ix3 b t j) + x2 (ix3 b t j) * x12 (ix1 j)))
          (fun j => val_main_v35 (F := Ideal) x4 x5 x6 x7 x8 x9 (ix3 b t j))
          (fun k => x10 (ix3 b t ⟨k.val, by omega⟩)) (fun k => x10 (ix3 b t ⟨1024 + k.val, by omega⟩))
          (fun j k => x14 (ix2 j k)) (fun j k => x15 (ix2 j k)) (fun k n => x16 (ix2 k n)) n := by
  pointwise [val_main_v46, val_main_v45, val_main_v44, val_main_v43, val_main_v42, val_main_v41, val_main_v40,
    val_main_v39, val_main_v38, val_main_v37, val_main_v36, val_main_v3, val_main_v0, val_main_v11, val_main_v10,
    val_main_v9, val_main_v8, val_main_v7, Cert.MergeRow.hidden]

/-- The result's entry is `feed` of the residual stream's row. -/
theorem feed_apply (b : Fin 8) (t : Fin 8192) (n : Fin 1024) :
    val_main_v72 (F := Ideal) x0 x1 x2 x3 x4 x5 x6 x7 x8 x9 x10 x11 x12 x13 x14 x15 x16 x17 x18 (ix3 b t n)
      = feed (fun k => val_main_v46 (F := Ideal) x0 x1 x2 x3 x4 x5 x6 x7 x8 x9 x10 x11 x12 x14 x15 x16 (ix3 b t k))
          (fun k => x13 (ix1 k)) (fun k => x11 (ix2 b ⟨4096 + k.val, by omega⟩))
          (fun k => x11 (ix2 b ⟨3072 + k.val, by omega⟩)) (fun k => x11 (ix2 b ⟨5120 + k.val, by omega⟩))
          (fun k f => x17 (ix2 k f)) (fun f k => x18 (ix2 f k)) n := by
  pointwise [val_main_v72, val_main_v71, val_main_v70, val_main_v69, val_main_v68, val_main_v67, val_main_call0_v0,
    val_main_call0_cst, val_main_v66, val_main_v65, val_main_v64, val_main_v63, val_main_v62, val_main_v61,
    val_main_v60, val_main_cst_6, val_main_v59, val_main_v58, val_main_v57, val_main_v56, val_main_v55, val_main_v54,
    val_main_v53, val_main_v52, val_main_cst_5, val_main_v51, val_main_v50, val_main_cst_4, val_main_v49, val_main_v48,
    val_main_cst_3, val_main_v47, val_main_v6, val_main_v5, val_main_v4, val_main_v0, Cert.MergeRow.feed]
  simp only [mul_assoc]

/-- The combined heads, flattened: head `j / 64`, channel `j % 64`. -/
theorem merged_apply (b : Fin 8) (t : Fin 8192) (j : Fin 256) :
    val_main_v35 (F := Ideal) x4 x5 x6 x7 x8 x9 (ix3 b t j)
      = val_main_v34 (F := Ideal) x4 x5 x6 x7 x8 x9 (ix4 b t ⟨j.val / 64, by omega⟩ ⟨j.val % 64, by omega⟩) := by
  pointwise [val_main_v35]

/-- The stacked outputs read back. -/
theorem out0 (b : Fin 8) (t : Fin 8192) (h : Fin 4) (e : Fin 64) :
    val_main_v31 (F := Ideal) x4 x5 x6 (ix5 0 b t h e) = x4 (ix4 b t h e) := by
  pointwise [val_main_v31, val_main_v28, val_main_v29, val_main_v30]
theorem out1 (b : Fin 8) (t : Fin 8192) (h : Fin 4) (e : Fin 64) :
    val_main_v31 (F := Ideal) x4 x5 x6 (ix5 1 b t h e) = x5 (ix4 b t h e) := by
  pointwise [val_main_v31, val_main_v28, val_main_v29, val_main_v30]
theorem out2 (b : Fin 8) (t : Fin 8192) (h : Fin 4) (e : Fin 64) :
    val_main_v31 (F := Ideal) x4 x5 x6 (ix5 2 b t h e) = x6 (ix4 b t h e) := by
  pointwise [val_main_v31, val_main_v28, val_main_v29, val_main_v30]

/-- One head's channel: the three outputs weighted by the softmax of their log-denominators. -/
theorem weighted_apply (b : Fin 8) (t : Fin 8192) (h : Fin 4) (e : Fin 64) :
    val_main_v34 (F := Ideal) x4 x5 x6 x7 x8 x9 (ix4 b t h e)
      = weighted (x7 (ix3 b t h)) (x8 (ix3 b t h)) (x9 (ix3 b t h)) (x4 (ix4 b t h e)) (x5 (ix4 b t h e))
          (x6 (ix4 b t h e)) := by
  pointwise [val_main_v34, val_main_cst_2, val_main_v33, val_main_v32, val_main_v27, val_main_v26, val_main_v25,
    val_main_v24, val_main_v23, val_main_cst_1, val_main_v22, val_main_v21, val_main_v20, val_main_v19]
  simp only [Fin.sum_univ_three, lse0, lse1, lse2, out0, out1, out2, top_apply]
  rfl

end Cert.MergeRef
-- ==== Proof.ThreeWay.lean ====
/- The softmax of three log-denominators: dividing the weighted sum once, or each weight before the sum. -/
module

public import proofs.«01_k».proof.Proof.MergeRow

@[expose] public section

noncomputable section

open Idealize.ShloMosaic

namespace Cert.MergeRow

/-- The exponential of a number that is at most zero is a nonnegative real. -/
theorem exp_of_nonpos (x : EReal) (h : x ≤ 0) : ∃ a : ℝ, 0 ≤ a ∧ Ideal.exp x = (a : EReal) := by
  induction x with
  | bot => exact ⟨0, le_refl _, by simp⟩
  | top => exact absurd h (by simp)
  | coe r => exact ⟨Real.exp r, (Real.exp_pos r).le, Ideal.exp_coe r⟩

/-- A real number taken from one that is at most as large leaves at most zero. -/
theorem sub_coe_nonpos (x : EReal) (M : ℝ) (h : x ≤ (M : EReal)) : x - (M : EReal) ≤ 0 := by
  induction x with
  | bot => simp
  | top => exact absurd h (by simp)
  | coe r =>
    rw [← EReal.coe_sub, ← EReal.coe_zero, EReal.coe_le_coe_iff]
    exact sub_nonpos.mpr (EReal.coe_le_coe_iff.mp h)

/-- Where the largest of three log-denominators is finite, dividing the weighted sum once is dividing every weight. -/
theorem combine_eq_weighted (l1 l2 l3 o1 o2 o3 : EReal) (hlo : ⊥ < max (max l1 l2) l3) (hhi : max (max l1 l2) l3 < ⊤) :
    combine l1 l2 l3 o1 o2 o3 = weighted l1 l2 l3 o1 o2 o3 := by
  obtain ⟨M, hM⟩ : ∃ M : ℝ, max (max l1 l2) l3 = (M : EReal) :=
    ⟨_, (EReal.coe_toReal hhi.ne hlo.ne').symm⟩
  have h1 : l1 ≤ (M : EReal) := hM ▸ le_trans (le_max_left _ _) (le_max_left _ _)
  have h2 : l2 ≤ (M : EReal) := hM ▸ le_trans (le_max_right _ _) (le_max_left _ _)
  have h3 : l3 ≤ (M : EReal) := hM ▸ le_max_right _ _
  have one : Ideal.exp ((M : EReal) - (M : EReal)) = ((1 : ℝ) : EReal) := by
    rw [← EReal.coe_sub, sub_self, Ideal.exp_coe, Real.exp_zero]
  obtain ⟨a, ha, ea⟩ := exp_of_nonpos _ (sub_coe_nonpos l1 M h1)
  obtain ⟨b, hb, eb⟩ := exp_of_nonpos _ (sub_coe_nonpos l2 M h2)
  obtain ⟨c, hc, ec⟩ := exp_of_nonpos _ (sub_coe_nonpos l3 M h3)
  have pos : 0 < a + b + c := by
    have which : l1 = (M : EReal) ∨ l2 = (M : EReal) ∨ l3 = (M : EReal) := by
      rcases max_choice (max l1 l2) l3 with h | h
      · rcases max_choice l1 l2 with h' | h'
        · exact .inl (by rw [← hM, h, h'])
        · exact .inr (.inl (by rw [← hM, h, h']))
      · exact .inr (.inr (by rw [← hM, h]))
    rcases which with h | h | h
    · have : a = 1 := EReal.coe_eq_coe_iff.mp (by rw [← ea, h, one])
      linarith
    · have : b = 1 := EReal.coe_eq_coe_iff.mp (by rw [← eb, h, one])
      linarith
    · have : c = 1 := EReal.coe_eq_coe_iff.mp (by rw [← ec, h, one])
      linarith
  have rpos : (0 : EReal) ≤ ((1 / (a + b + c) : ℝ) : EReal) := by
    rw [← EReal.coe_zero, EReal.coe_le_coe_iff]; positivity
  unfold combine weighted
  rw [hM, ea, eb, ec, ← EReal.coe_add, ← EReal.coe_add]
  simp only [Ideal.div_coe pos.ne']
  rw [EReal.right_distrib_of_nonneg_of_ne_top rpos (EReal.coe_ne_top _),
    EReal.right_distrib_of_nonneg_of_ne_top rpos (EReal.coe_ne_top _)]
  simp only [mul_right_comm]

end Cert.MergeRow
-- ==== Proof.MergeFinal.lean ====
/- The merge call's result array: every block the kernel stores is the reference's block, so the whole array is the
   reference's. -/
module

public import proofs.«01_k».proof.Proof.MergeBlocks
public import proofs.«01_k».proof.Proof.MergeRef
public import proofs.«01_k».proof.Proof.ThreeWay
public import proofs.«01_k».proof.Defs

@[expose] public section

set_option maxRecDepth 16384

noncomputable section

open Idealize.ShloMosaic Idealize.ShloMosaic.TcCoe Idealize.SL.Sem

namespace Cert.MergeFinal
open Cert.MergeIdeal Cert.MergeIdeal.Gen Cert.MergeBody Cert.MergeBlocks

/-- The loaded modulation row's slices. -/
theorem gate1_apply (v : FVec Ideal S1x1x6144 .f32) (k : Fin 1024) :
    k0_pay3 (F := Ideal) v (ix2 0 k) = v (ix3 0 0 ⟨2048 + k.val, by omega⟩) := by
  pointwise [k0_pay3, k0_pay2]
theorem shift2_apply (v : FVec Ideal S1x1x6144 .f32) (k : Fin 1024) :
    k0_pay4 (F := Ideal) v (ix2 0 k) = v (ix3 0 0 ⟨3072 + k.val, by omega⟩) := by
  pointwise [k0_pay4, k0_pay2]
theorem scale2_apply (v : FVec Ideal S1x1x6144 .f32) (k : Fin 1024) :
    k0_pay5 (F := Ideal) v (ix2 0 k) = v (ix3 0 0 ⟨4096 + k.val, by omega⟩) := by
  pointwise [k0_pay5, k0_pay2]
theorem gate2_apply (v : FVec Ideal S1x1x6144 .f32) (k : Fin 1024) :
    k0_pay6 (F := Ideal) v (ix2 0 k) = v (ix3 0 0 ⟨5120 + k.val, by omega⟩) := by
  pointwise [k0_pay6, k0_pay2]

/-- The stored block's entry: `feed` of the row `hidden` computes from the loaded blocks. -/
theorem block_row (att : FVec Ideal S256x256 .f32) (x : FVec Ideal S1x256x1024 .f32) (conv w x0 : FVec Ideal S1x256x768 .f32)
    (gates : FVec Ideal S1x256x2048 .f32) (mod : FVec Ideal S1x1x6144 .f32) (d : FVec Ideal S1x768 .f32)
    (g : FVec Ideal S1x1024 .f32) (wh : FVec Ideal S768x1024 .bf16) (wa : FVec Ideal S256x1024 .bf16)
    (wo : FVec Ideal S1024x1024 .bf16) (up : FVec Ideal S1024x4096 .bf16) (dn : FVec Ideal S4096x1024 .bf16)
    (r : Fin 256) (n : Fin 1024) :
    block (F := Ideal) att x conv w x0 gates mod d g wh wa wo up dn (ix3 0 r n)
      = MergeRow.feed (fun k => MergeRow.hidden (fun k => x (ix3 0 r k)) (fun k => mod (ix3 0 0 ⟨2048 + k.val, by omega⟩))
            (fun j => x0 (ix3 0 r j) * (conv (ix3 0 r j) + w (ix3 0 r j) * d (ix2 0 j))) (fun j => att (ix2 r j))
            (fun k => gates (ix3 0 r ⟨k.val, by omega⟩)) (fun k => gates (ix3 0 r ⟨1024 + k.val, by omega⟩))
            (fun j k => wh (ix2 j k)) (fun j k => wa (ix2 j k)) (fun k n => wo (ix2 k n)) k)
          (fun k => g (ix2 0 k)) (fun k => mod (ix3 0 0 ⟨4096 + k.val, by omega⟩))
          (fun k => mod (ix3 0 0 ⟨3072 + k.val, by omega⟩)) (fun k => mod (ix3 0 0 ⟨5120 + k.val, by omega⟩))
          (fun k f => up (ix2 k f)) (fun f k => dn (ix2 f k)) n := by
  unfold block
  rw [MergeRow.pay1_row _ _ _ _ _ (fun r n => by rfl)]
  simp only [MergeRow.pay17_row, gate1_apply, shift2_apply, scale2_apply, gate2_apply]

variable (m : (ℓ : Loc nD τ sig) → Buf (Elt Ideal) ℓ)

/-- At every position and head the largest of the three log-denominators is a real number. -/
def Finite (c : Dev nD) : Prop := ∀ (b : Fin 8) (t : Fin 8192) (h : Fin 4),
  ⊥ < max (max (arg7 m c (ix3 b t h)) (arg8 m c (ix3 b t h))) (arg9 m c (ix3 b t h))
    ∧ max (max (arg7 m c (ix3 b t h)) (arg8 m c (ix3 b t h))) (arg9 m c (ix3 b t h)) < ⊤

/-- The kernel's attention branch at a grid point is the reference's combined heads. -/
theorem attention (c : Dev nD) (hf : Finite m c) (t : Fin cfg0.N) (r : Fin 256) (j : Fin 256) :
    branch (F := Ideal) (lseA0 m c t) (lseA1 m c t) (lseB0 m c t) (lseB1 m c t) (lseC0 m c t) (lseC1 m c t)
        (outA0 m c t) (outA1 m c t) (outB0 m c t) (outB1 m c t) (outC0 m c t) (outC1 m c t) (ix2 r j)
      = Cert.MergeRefIdeal.Read.val_main_v35 (F := Ideal) (arg4 m c) (arg5 m c) (arg6 m c) (arg7 m c) (arg8 m c) (arg9 m c)
          (ix3 (bat t) (pos t r) j) := by
  rw [MergeRef.merged_apply, MergeRef.weighted_apply]
  rw [← MergeRow.combine_eq_weighted _ _ _ _ _ _ (hf _ _ _).1 (hf _ _ _).2]
  by_cases hj : j.val < 128
  · rw [MergeRow.branch_lo _ _ _ _ _ _ _ _ _ _ _ _ r j hj]
    simp only [lseA0_read, lseB0_read, lseC0_read, outA0_read, outB0_read, outC0_read]
  · rw [MergeRow.branch_hi _ _ _ _ _ _ _ _ _ _ _ _ r j hj]
    have e : 128 + (j.val - 128) = j.val := by omega
    simp only [lseA1_read, lseB1_read, lseC1_read, outA1_read, outB1_read, outC1_read, e]

/-- The reference's result over the kernel's arguments. -/
abbrev result (c : Dev nD) : FVec Ideal S8x8192x1024 .f32 :=
  Cert.MergeRefIdeal.Read.val_main_v72 (F := Ideal) (arg0 m c) (arg1 m c) (arg2 m c) (arg3 m c) (arg4 m c) (arg5 m c) (arg6 m c)
    (arg7 m c) (arg8 m c) (arg9 m c) (arg10 m c) (arg11 m c) (arg12 m c) (arg13 m c) (arg14 m c) (arg15 m c) (arg16 m c)
    (arg17 m c) (arg18 m c)

/-- One stored entry: the block of grid point `t` at row `r`, column `n` is the reference's result there. -/
theorem entry (c : Dev nD) (hf : Finite m c) (t : Fin cfg0.N) (r : Fin 256) (n : Fin 1024) :
    block (F := Ideal) (branch (F := Ideal) (lseA0 m c t) (lseA1 m c t) (lseB0 m c t) (lseB1 m c t) (lseC0 m c t) (lseC1 m c t)
        (outA0 m c t) (outA1 m c t) (outB0 m c t) (outB1 m c t) (outC0 m c t) (outC1 m c t))
        (x m c t) (conv m c t) (filt m c t) (gate0 m c t) (gates m c t) (mods m c t) (skip m c t) (norm m c t)
        (wHy m c t) (wAt m c t) (wOut m c t) (wUp m c t) (wDn m c t) (ix3 0 r n)
      = result m c (ix3 (bat t) (pos t r) n) := by
  rw [block_row, result, MergeRef.feed_apply]
  simp only [MergeRef.hidden_apply, attention m c hf, x_read, conv_read, filt_read, gate0_read, gates_read, mods_read,
    skip_read, norm_read, wHy_read, wAt_read, wOut_read, wUp_read, wDn_read]

/-- Where the output window's block sits at grid point `t`. -/
theorem place (t : Fin cfg0.N) : win0_25.index t = ![t.val / 32, t.val % 32, 0] :=
  (idxC t).2.2.2.2.2.2.2

/-- The result array after the run. -/
theorem final (c : Dev nD) (hf : Finite m c) : (dats m 0 c).arrAt 25 cfg0.N = result m c := by
  refine (dats m 0 c).arrAt_eq_of_covers 25 _ (by decide +kernel) fun t _ y => ?_
  blk_simp
  rw [after0_25]
  unfold stagedAt staged
  frame_out
  idx_vars y
  obtain rfl : y0 = 0 := Subsingleton.elim _ _
  refine Eq.trans (entry m c hf t y1 y2) ?_
  refine congrArg (result m c) ?_
  blk_ext [place t]

/-- The stated precondition's one entry: the largest log-denominator there is below plus infinity and above minus
    infinity. -/
theorem finite_of_pre [Cert.Pre_log_denominators_finite.Facts] (h : Cert.Pre_MergeIdeal_log_denominators_finite m)
    (c : Dev nD) : Finite m c := by
  intro b t h'
  have e := congrFun (h c) (ix3 b t h')
  have top : Ideal.ofBits .f32 0x7F800000#32 = ⊤ := by simp [Ideal.ofBits, Ideal.ieee]
  have bot : Ideal.ofBits .f32 0xFF800000#32 = ⊥ := by simp [Ideal.ofBits, Ideal.ieee]
  pointwise [Cert.Pre_log_denominators_finite.fn] at e
  have both : ∀ p q : Bool, IntOp.andi (BitVec.ofBool p) (BitVec.ofBool q) = 1#1 → p = true ∧ q = true := by decide
  have e' := both _ _ e
  rw [decide_eq_true_eq, decide_eq_true_eq, top, bot] at e'
  exact ⟨e'.2, e'.1⟩

end Cert.MergeFinal
-- ==== Proof.InProjBlocks.lean ====
/- The input projection call's staged blocks read back as entries of the argument arrays: grid point `t` takes batch
   `t / 16` and the 512 positions from `512 * (t % 16)`, with the eight positions before and the eight after. -/
module

public import proofs.«01_k».proof.Proof.Gen.InProjIdeal.Value
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InProjBlocks
open Cert.InProjIdeal Cert.InProjIdeal.Gen

variable (m : (ℓ : Loc nD τ sig) → Buf (Elt Ideal) ℓ)

/-- Where the blocks of windows 0 to 5 sit at grid point `t`. -/
theorem idxA : ∀ t : Fin cfg0.N,
    win0_0.index t = ![t.val / 16, t.val % 16, 0]
    ∧ win0_1.index t = ![t.val / 16, t.val % 16 * 64 - 1, 0]
    ∧ win0_2.index t = ![t.val / 16, min ((t.val % 16 + 1) * 64) 1023, 0]
    ∧ win0_3.index t = ![t.val / 16, 0, 0]
    ∧ win0_4.index t = ![0, 0]
    ∧ win0_5.index t = ![0, 0] :=
  (by decide +kernel : ∀ t : Fin grid0.N, _)

/-- Where the blocks of windows 6 to 11 sit at grid point `t`. -/
theorem idxB : ∀ t : Fin cfg0.N,
    win0_6.index t = ![0, 0]
    ∧ win0_7.index t = ![0, 0]
    ∧ win0_8.index t = ![0, 0]
    ∧ win0_9.index t = ![0, 0]
    ∧ win0_10.index t = ![0, 0]
    ∧ win0_11.index t = ![0, 0] :=
  (by decide +kernel : ∀ t : Fin grid0.N, _)

/-- Where the blocks of windows 12 to 17 sit at grid point `t`. -/
theorem idxC : ∀ t : Fin cfg0.N,
    win0_12.index t = ![t.val / 16, t.val % 16, 0]
    ∧ win0_13.index t = ![t.val / 16, t.val % 16, 0]
    ∧ win0_14.index t = ![t.val / 16, t.val % 16, 0]
    ∧ win0_15.index t = ![t.val / 16, t.val % 16, 0]
    ∧ win0_16.index t = ![t.val / 16, t.val % 16, 0]
    ∧ win0_17.index t = ![t.val / 16, t.val % 16, 0] :=
  (by decide +kernel : ∀ t : Fin grid0.N, _)

/-- The batch of grid point `t`. -/
abbrev bat (t : Fin cfg0.N) : Fin 8 := ⟨t.val / 16, by have h : t.val < 128 := t.isLt; omega⟩
/-- The position of row `r` of grid point `t`. -/
abbrev pos (t : Fin cfg0.N) (r : Fin 512) : Fin 8192 := ⟨t.val % 16 * 512 + r.val, by omega⟩

/-- Window 0's block at point `t`. -/
abbrev x (c : Dev nD) (t : Fin cfg0.N) : FVec Ideal S1x512x1024 .f32 := iblk m c 0 t
/-- Window 1's block at point `t`. -/
abbrev prev (c : Dev nD) (t : Fin cfg0.N) : FVec Ideal S1x8x1024 .f32 := iblk m c 1 t
/-- Window 2's block at point `t`. -/
abbrev next (c : Dev nD) (t : Fin cfg0.N) : FVec Ideal S1x8x1024 .f32 := iblk m c 2 t
/-- Window 3's block at point `t`. -/
abbrev mods (c : Dev nD) (t : Fin cfg0.N) : FVec Ideal S1x1x6144 .f32 := iblk m c 3 t
/-- Window 4's block at point `t`. -/
abbrev norm (c : Dev nD) (t : Fin cfg0.N) : FVec Ideal S1x1024 .f32 := iblk m c 4 t
/-- Window 5's block at point `t`. -/
abbrev wIn (c : Dev nD) (t : Fin cfg0.N) : FVec Ideal S1024x6656 .bf16 := iblk m c 5 t
/-- Window 6's block at point `t`. -/
abbrev taps3 (c : Dev nD) (t : Fin cfg0.N) : FVec Ideal S3x2304 .f32 := iblk m c 6 t
/-- Window 7's block at point `t`. -/
abbrev bias (c : Dev nD) (t : Fin cfg0.N) : FVec Ideal S1x2304 .f32 := iblk m c 7 t
/-- Window 8's block at point `t`. -/
abbrev gq (c : Dev nD) (t : Fin cfg0.N) : FVec Ideal S1x768 .f32 := iblk m c 8 t
/-- Window 9's block at point `t`. -/
abbrev gk (c : Dev nD) (t : Fin cfg0.N) : FVec Ideal S1x768 .f32 := iblk m c 9 t
/-- Window 10's block at point `t`. -/
abbrev reduce (c : Dev nD) (t : Fin cfg0.N) : FVec Ideal S768x128 .bf16 := iblk m c 10 t
/-- Window 11's block at point `t`. -/
abbrev expand (c : Dev nD) (t : Fin cfg0.N) : FVec Ideal S128x768 .bf16 := iblk m c 11 t
/-- Argument 0 as launched. -/
abbrev arg0 (c : Dev nD) : FVec Ideal S8x8192x1024 .f32 := m ((c : Thread nD τ).loc main_arg0)
/-- Argument 1 as launched. -/
abbrev arg1 (c : Dev nD) : FVec Ideal S8x6144 .f32 := m ((c : Thread nD τ).loc main_arg1)
/-- Argument 2 as launched. -/
abbrev arg2 (c : Dev nD) : FVec Ideal S1024 .f32 := m ((c : Thread nD τ).loc main_arg2)
/-- Argument 3 as launched. -/
abbrev arg3 (c : Dev nD) : FVec Ideal S1024x6656 .f32 := m ((c : Thread nD τ).loc main_arg3)
/-- Argument 4 as launched. -/
abbrev arg4 (c : Dev nD) : FVec Ideal S3x2304 .f32 := m ((c : Thread nD τ).loc main_arg4)
/-- Argument 5 as launched. -/
abbrev arg5 (c : Dev nD) : FVec Ideal S2304 .f32 := m ((c : Thread nD τ).loc main_arg5)
/-- Argument 6 as launched. -/
abbrev arg6 (c : Dev nD) : FVec Ideal S12x64 .f32 := m ((c : Thread nD τ).loc main_arg6)
/-- Argument 7 as launched. -/
abbrev arg7 (c : Dev nD) : FVec Ideal S12x64 .f32 := m ((c : Thread nD τ).loc main_arg7)

theorem x_read (c : Dev nD) (t : Fin cfg0.N) (r : Fin 512) (k : Fin 1024) :
    x m c t (ix3 0 r k) = arg0 m c (ix3 (bat t) (pos t r) k) := by
  blk_point [iblk, V, idxA t]

/-- The last row of the eight before the tile, where there is a tile before. -/
theorem prev_read (c : Dev nD) (t : Fin cfg0.N) (h : 0 < t.val % 16) (k : Fin 1024) :
    prev m c t (ix3 0 7 k) = arg0 m c (ix3 (bat t) ⟨t.val % 16 * 512 - 1, by omega⟩ k) := by
  blk_point [iblk, V, idxA t]

/-- The first row of the eight after the tile, where there is a tile after. -/
theorem next_read (c : Dev nD) (t : Fin cfg0.N) (h : t.val % 16 < 15) (k : Fin 1024) :
    next m c t (ix3 0 0 k) = arg0 m c (ix3 (bat t) ⟨(t.val % 16 + 1) * 512, by omega⟩ k) := by
  blk_point [iblk, V, idxA t]

theorem mods_read (c : Dev nD) (t : Fin cfg0.N) (k : Fin 6144) :
    mods m c t (ix3 0 0 k) = arg1 m c (ix2 (bat t) k) := by
  blk_point [iblk, V, idxA t]

theorem norm_read (c : Dev nD) (t : Fin cfg0.N) (k : Fin 1024) :
    norm m c t (ix2 0 k) = arg2 m c (ix1 k) := by
  blk_point [iblk, V, idxA t]

theorem wIn_read (c : Dev nD) (t : Fin cfg0.N) (k : Fin 1024) (n : Fin 6656) :
    wIn m c t (ix2 k n) = arg3 m c (ix2 k n) := by
  blk_point [iblk, V, idxA t]

theorem taps3_read (c : Dev nD) (t : Fin cfg0.N) (a : Fin 3) (n : Fin 2304) :
    taps3 m c t (ix2 a n) = arg4 m c (ix2 a n) := by
  blk_point [iblk, V, idxB t]

theorem bias_read (c : Dev nD) (t : Fin cfg0.N) (n : Fin 2304) :
    bias m c t (ix2 0 n) = arg5 m c (ix1 n) := by
  blk_point [iblk, V, idxB t]

theorem gq_read (c : Dev nD) (t : Fin cfg0.N) (j : Fin 768) :
    gq m c t (ix2 0 j) = arg6 m c (ix2 ⟨j.val / 64, by omega⟩ ⟨j.val % 64, by omega⟩) := by
  blk_point [iblk, V, idxB t]

theorem gk_read (c : Dev nD) (t : Fin cfg0.N) (j : Fin 768) :
    gk m c t (ix2 0 j) = arg7 m c (ix2 ⟨j.val / 64, by omega⟩ ⟨j.val % 64, by omega⟩) := by
  blk_point [iblk, V, idxB t]

/-- Whether a channel belongs to a head, as a number. -/
abbrev member (i : Fin 768) (h : Fin 128) : EReal := if i.val / 64 = h.val then 1 else 0

/-- A comparison of two small numbers' words for equality, as a number. -/
theorem counted (a b : Nat) (ha : a < 128) (hb : b < 128) :
    FloatOps.uitofp (F := Ideal) FTy.f32 (IntOp.cmpi .eq (BitVec.ofNat 32 a) (BitVec.ofNat 32 b))
      = if a = b then (1 : EReal) else 0 := by
  have e : (BitVec.ofNat 32 a = BitVec.ofNat 32 b) ↔ a = b := by
    constructor
    · intro h
      have h' := congrArg BitVec.toNat h
      simp only [BitVec.toNat_ofNat] at h'
      omega
    · intro h; rw [h]
  by_cases h : a = b
  · subst h
    rw [if_pos rfl]
    show ((((BitVec.ofBool (BitVec.ofNat 32 a == BitVec.ofNat 32 a)).toNat : ℝ)) : EReal) = 1
    simp
  · have n : (BitVec.ofNat 32 a == BitVec.ofNat 32 b) = false := beq_eq_false_iff_ne.mpr (fun h' => h (e.mp h'))
    rw [if_neg h]
    show ((((BitVec.ofBool (BitVec.ofNat 32 a == BitVec.ofNat 32 b)).toNat : ℝ)) : EReal) = 0
    rw [n]
    simp

/-- The array that averages the channels of a head, at an index. -/
theorem reduce_entry (c : Dev nD) (i : Fin 768) (h : Fin 128) :
    (show FVec Ideal S768x128 .bf16 from V m c main_v14) (ix2 i h)
      = Ideal.div (member i h) (Ideal.ofBits .f32 0x42800000#32) := by
  show (V m c main_v14) (ix2 i h) = _
  entry_read
  pointwise
  rw [counted _ _ (by omega) (by omega)]

/-- The array that spreads a head's value over its channels, at an index. -/
theorem expand_entry (c : Dev nD) (h : Fin 128) (j : Fin 768) :
    (show FVec Ideal S128x768 .bf16 from V m c main_v16) (ix2 h j) = member j h := by
  show (V m c main_v16) (ix2 h j) = _
  entry_read
  pointwise
  rw [counted _ _ (by omega) (by omega)]

theorem reduce_read (c : Dev nD) (t : Fin cfg0.N) (i : Fin 768) (h : Fin 128) :
    reduce m c t (ix2 i h) = Ideal.div (member i h) (Ideal.ofBits .f32 0x42800000#32) := by
  refine Eq.trans ?_ (reduce_entry m c i h)
  blk_point [iblk, idxB t]

theorem expand_read (c : Dev nD) (t : Fin cfg0.N) (h : Fin 128) (j : Fin 768) :
    expand m c t (ix2 h j) = member j h := by
  refine Eq.trans ?_ (expand_entry m c h j)
  blk_point [iblk, idxB t]

theorem ld4 (x : FVec Ideal S1024x6656 .bf16) (k : Fin 1024) (j : Fin 768) :
    (View.ld (Val := Elt Ideal) (e' := .bf16) x r0_4 : FVec Ideal S1024x768 .bf16) (ix2 k j) = x (ix2 k ⟨0 + j.val, by omega⟩) := by
  pointwise

theorem ld10 (x : FVec Ideal S1024x6656 .bf16) (k : Fin 1024) (j : Fin 768) :
    (View.ld (Val := Elt Ideal) (e' := .bf16) x r0_10 : FVec Ideal S1024x768 .bf16) (ix2 k j) = x (ix2 k ⟨768 + j.val, by omega⟩) := by
  pointwise

theorem ld15 (x : FVec Ideal S1024x6656 .bf16) (k : Fin 1024) (j : Fin 768) :
    (View.ld (Val := Elt Ideal) (e' := .bf16) x r0_15 : FVec Ideal S1024x768 .bf16) (ix2 k j) = x (ix2 k ⟨1536 + j.val, by omega⟩) := by
  pointwise

theorem ld20 (x : FVec Ideal S1024x6656 .bf16) (k : Fin 1024) (j : Fin 768) :
    (View.ld (Val := Elt Ideal) (e' := .bf16) x r0_20 : FVec Ideal S1024x768 .bf16) (ix2 k j) = x (ix2 k ⟨2304 + j.val, by omega⟩) := by
  pointwise

theorem ld24 (x : FVec Ideal S1024x6656 .bf16) (k : Fin 1024) (j : Fin 768) :
    (View.ld (Val := Elt Ideal) (e' := .bf16) x r0_24 : FVec Ideal S1024x768 .bf16) (ix2 k j) = x (ix2 k ⟨3072 + j.val, by omega⟩) := by
  pointwise

theorem ld25 (x : FVec Ideal S1024x6656 .bf16) (k : Fin 1024) (j : Fin 768) :
    (View.ld (Val := Elt Ideal) (e' := .bf16) x r0_25 : FVec Ideal S1024x768 .bf16) (ix2 k j) = x (ix2 k ⟨3840 + j.val, by omega⟩) := by
  pointwise

theorem ld26 (x : FVec Ideal S1024x6656 .bf16) (k : Fin 1024) (j : Fin 2048) :
    (View.ld (Val := Elt Ideal) (e' := .bf16) x r0_26 : FVec Ideal S1024x2048 .bf16) (ix2 k j) = x (ix2 k ⟨4608 + j.val, by omega⟩) := by
  pointwise

theorem ld5 (x : FVec Ideal S3x2304 .f32) (j : Fin 768) :
    (View.ld (Val := Elt Ideal) (e' := .f32) x r0_5 : FVec Ideal S1x768 .f32) (ix2 0 j) = x (ix2 0 ⟨0 + j.val, by omega⟩) := by
  pointwise

theorem ld6 (x : FVec Ideal S3x2304 .f32) (j : Fin 768) :
    (View.ld (Val := Elt Ideal) (e' := .f32) x r0_6 : FVec Ideal S1x768 .f32) (ix2 0 j) = x (ix2 1 ⟨0 + j.val, by omega⟩) := by
  pointwise

theorem ld7 (x : FVec Ideal S3x2304 .f32) (j : Fin 768) :
    (View.ld (Val := Elt Ideal) (e' := .f32) x r0_7 : FVec Ideal S1x768 .f32) (ix2 0 j) = x (ix2 2 ⟨0 + j.val, by omega⟩) := by
  pointwise

theorem ld8 (x : FVec Ideal S1x2304 .f32) (j : Fin 768) :
    (View.ld (Val := Elt Ideal) (e' := .f32) x r0_8 : FVec Ideal S1x768 .f32) (ix2 0 j) = x (ix2 0 ⟨0 + j.val, by omega⟩) := by
  pointwise

theorem ld11 (x : FVec Ideal S3x2304 .f32) (j : Fin 768) :
    (View.ld (Val := Elt Ideal) (e' := .f32) x r0_11 : FVec Ideal S1x768 .f32) (ix2 0 j) = x (ix2 0 ⟨768 + j.val, by omega⟩) := by
  pointwise

theorem ld12 (x : FVec Ideal S3x2304 .f32) (j : Fin 768) :
    (View.ld (Val := Elt Ideal) (e' := .f32) x r0_12 : FVec Ideal S1x768 .f32) (ix2 0 j) = x (ix2 1 ⟨768 + j.val, by omega⟩) := by
  pointwise

theorem ld13 (x : FVec Ideal S3x2304 .f32) (j : Fin 768) :
    (View.ld (Val := Elt Ideal) (e' := .f32) x r0_13 : FVec Ideal S1x768 .f32) (ix2 0 j) = x (ix2 2 ⟨768 + j.val, by omega⟩) := by
  pointwise

theorem ld14 (x : FVec Ideal S1x2304 .f32) (j : Fin 768) :
    (View.ld (Val := Elt Ideal) (e' := .f32) x r0_14 : FVec Ideal S1x768 .f32) (ix2 0 j) = x (ix2 0 ⟨768 + j.val, by omega⟩) := by
  pointwise

theorem ld16 (x : FVec Ideal S3x2304 .f32) (j : Fin 768) :
    (View.ld (Val := Elt Ideal) (e' := .f32) x r0_16 : FVec Ideal S1x768 .f32) (ix2 0 j) = x (ix2 0 ⟨1536 + j.val, by omega⟩) := by
  pointwise

theorem ld17 (x : FVec Ideal S3x2304 .f32) (j : Fin 768) :
    (View.ld (Val := Elt Ideal) (e' := .f32) x r0_17 : FVec Ideal S1x768 .f32) (ix2 0 j) = x (ix2 1 ⟨1536 + j.val, by omega⟩) := by
  pointwise

theorem ld18 (x : FVec Ideal S3x2304 .f32) (j : Fin 768) :
    (View.ld (Val := Elt Ideal) (e' := .f32) x r0_18 : FVec Ideal S1x768 .f32) (ix2 0 j) = x (ix2 2 ⟨1536 + j.val, by omega⟩) := by
  pointwise

theorem ld19 (x : FVec Ideal S1x2304 .f32) (j : Fin 768) :
    (View.ld (Val := Elt Ideal) (e' := .f32) x r0_19 : FVec Ideal S1x768 .f32) (ix2 0 j) = x (ix2 0 ⟨1536 + j.val, by omega⟩) := by
  pointwise

end Cert.InProjBlocks
-- ==== Proof.InProjRow.lean ====
/- The input projection, one row at a time: the row functions that both the kernel and the reference compute, stated over
   plain extended-real families. -/
module

public import Idealize.ShloMosaic.PureOps.Ideal.Laws
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.InProjRow

/-- A row divided by its root mean square, times the gain and one plus the scale, plus the shift. -/
def normed (x g sc sh : Fin 1024 → EReal) (k : Fin 1024) : EReal :=
  x k * Ideal.rsqrt (Ideal.div (∑ i, x i * x i) (Ideal.ofBits .f32 0x44800000#32) + Ideal.ofBits .f32 0x358637BD#32)
    * (g k * (1 + sc k)) + sh k

/-- The three taps of a depthwise convolution and its bias. -/
def taps (before here after w0 w1 w2 b : EReal) : EReal := before * w0 + here * w1 + after * w2 + b

/-- One channel of a head divided by the head's root mean square, times the gain. -/
def headed (here : EReal) (z : Fin 64 → EReal) (g : EReal) : EReal :=
  here * Ideal.rsqrt (Ideal.div (∑ i, z i * z i) (Ideal.ofBits .f32 0x42800000#32) + Ideal.ofBits .f32 0x358637BD#32) * g

/-- The logistic function. -/
def squash (z : EReal) : EReal := Ideal.div 1 (1 + Ideal.exp (-z))

end Cert.InProjRow
-- ==== Proof.InProjKernel.lean ====
/- The input projection's kernel, one row at a time: its payloads read as the row functions of InProjRow. -/
module

public import proofs.«01_k».proof.Proof.InProjRow
public import proofs.«01_k».proof.Proof.Gen.InProjIdeal.Frame

@[expose] public section

set_option maxRecDepth 16384

noncomputable section

open Idealize.ShloMosaic Idealize.ShloMosaic.TcCoe Idealize.SL.Sem

namespace Cert.InProjKernel
open Cert.InProjIdeal Cert.InProjIdeal.Gen Cert.InProjRow

/-- The normalised rows of the tile. -/
theorem rows_apply (mod : FVec Ideal S1x1x6144 .f32) (g : FVec Ideal S1x1024 .f32) (x : FVec Ideal S1x512x1024 .f32)
    (r : Fin 512) (k : Fin 1024) :
    k0_pay6 (F := Ideal) mod g x (ix2 r k)
      = normed (fun k => x (ix3 0 r k)) (fun k => g (ix2 0 k)) (fun k => mod (ix3 0 0 ⟨1024 + k.val, by omega⟩))
          (fun k => mod (ix3 0 0 ⟨k.val, by omega⟩)) k := by
  pointwise [k0_pay6, k0_pay5, k0_pay4, k0_pay3, normed]

/-- The tile's rows and the sixteen rows around it, normalised: a row of the tile. -/
theorem ext_lo (mod : FVec Ideal S1x1x6144 .f32) (g : FVec Ideal S1x1024 .f32) (x : FVec Ideal S1x512x1024 .f32)
    (p n : FVec Ideal S1x8x1024 .f32) (r : Fin 528) (hr : r.val < 512) (k : Fin 1024) :
    k0_pay10 (F := Ideal) (k0_pay4 mod) (k0_pay5 mod g) (k0_pay6 mod g x) (k0_pay7 p n) (k0_pay8 p n) k0_pay9 (ix2 r k)
      = normed (fun k => x (ix3 0 ⟨r.val, hr⟩ k)) (fun k => g (ix2 0 k)) (fun k => mod (ix3 0 0 ⟨1024 + k.val, by omega⟩))
          (fun k => mod (ix3 0 0 ⟨k.val, by omega⟩)) k := by
  rw [← rows_apply]
  pointwise [k0_pay10]
  rw [dif_pos hr]

/-- The last row of the eight before the tile. -/
theorem ext_before (mod : FVec Ideal S1x1x6144 .f32) (g : FVec Ideal S1x1024 .f32) (x : FVec Ideal S1x512x1024 .f32)
    (p n : FVec Ideal S1x8x1024 .f32) (k : Fin 1024) :
    k0_pay10 (F := Ideal) (k0_pay4 mod) (k0_pay5 mod g) (k0_pay6 mod g x) (k0_pay7 p n) (k0_pay8 p n) k0_pay9
        (ix2 519 k)
      = normed (fun k => p (ix3 0 7 k)) (fun k => g (ix2 0 k)) (fun k => mod (ix3 0 0 ⟨1024 + k.val, by omega⟩))
          (fun k => mod (ix3 0 0 ⟨k.val, by omega⟩)) k := by
  pointwise [k0_pay10, k0_pay9, k0_pay8, k0_pay7, k0_pay5, k0_pay4, k0_pay3, normed]

/-- The first row of the eight after the tile. -/
theorem ext_after (mod : FVec Ideal S1x1x6144 .f32) (g : FVec Ideal S1x1024 .f32) (x : FVec Ideal S1x512x1024 .f32)
    (p n : FVec Ideal S1x8x1024 .f32) (k : Fin 1024) :
    k0_pay10 (F := Ideal) (k0_pay4 mod) (k0_pay5 mod g) (k0_pay6 mod g x) (k0_pay7 p n) (k0_pay8 p n) k0_pay9
        (ix2 520 k)
      = normed (fun k => n (ix3 0 0 k)) (fun k => g (ix2 0 k)) (fun k => mod (ix3 0 0 ⟨1024 + k.val, by omega⟩))
          (fun k => mod (ix3 0 0 ⟨k.val, by omega⟩)) k := by
  pointwise [k0_pay10, k0_pay9, k0_pay8, k0_pay7, k0_pay5, k0_pay4, k0_pay3, normed]

/-- The value channels. -/
theorem v_apply (u : FVec Ideal S512x1024 .bf16) (w : FVec Ideal S1024x768 .bf16) (r : Fin 512) (j : Fin 768) :
    k0_pay1 (F := Ideal) u (k0_pay39 w) (ix3 0 r j) = ∑ k, u (ix2 r k) * w (ix2 k j) := by
  pointwise [k0_pay1, k0_pay39]

/-- The gates. -/
theorem g_apply (u : FVec Ideal S512x1024 .bf16) (w : FVec Ideal S1024x2048 .bf16) (r : Fin 512) (j : Fin 2048) :
    k0_pay2 (F := Ideal) u w (ix3 0 r j) = squash (∑ k, u (ix2 r k) * w (ix2 k j)) := by
  pointwise [k0_pay2, squash]
  rw [zero_sub]

/-- The key channels. -/
theorem k_apply (u : FVec Ideal S512x1024 .bf16) (w : FVec Ideal S1024x768 .bf16) (g : FVec Ideal S1x768 .f32)
    (hr : FVec Ideal S768x128 .bf16) (he : FVec Ideal S128x768 .bf16) (r : Fin 512) (j : Fin 768) :
    k0_pay38 (F := Ideal) u w g hr he (ix3 0 r j)
      = (∑ k, u (ix2 r k) * w (ix2 k j)) * Ideal.rsqrt ((∑ h, (∑ i, (∑ k, u (ix2 r k) * w (ix2 k i))
            * (∑ k, u (ix2 r k) * w (ix2 k i)) * hr (ix2 i h)) * he (ix2 h j)) + Ideal.ofBits .f32 0x358637BD#32)
          * g (ix2 0 j) := by
  pointwise [k0_pay38]

/-- The query channels. -/
theorem q_apply (u : FVec Ideal S512x1024 .bf16) (w : FVec Ideal S1024x768 .bf16) (g : FVec Ideal S1x768 .f32)
    (hr : FVec Ideal S768x128 .bf16) (he : FVec Ideal S128x768 .bf16) (r : Fin 512) (j : Fin 768) :
    k0_pay37 (F := Ideal) (k0_pay34 u w) (k0_pay35 g) (k0_pay36 u w hr he) (ix3 0 r j)
      = (∑ k, u (ix2 r k) * w (ix2 k j)) * Ideal.rsqrt ((∑ h, (∑ i, (∑ k, u (ix2 r k) * w (ix2 k i))
            * (∑ k, u (ix2 r k) * w (ix2 k i)) * hr (ix2 i h)) * he (ix2 h j)) + Ideal.ofBits .f32 0x358637BD#32)
          * g (ix2 0 j) * Ideal.ofBits .f32 0x3E000000#32 := by
  pointwise [k0_pay37, k0_pay36, k0_pay35, k0_pay34]

/-- A row of the product of the extended rows with a block of the weights. -/
abbrev ze (u : FVec Ideal S528x1024 .bf16) (w : FVec Ideal S1024x768 .bf16) (s : Fin 528) (j : Fin 768) : EReal :=
  ∑ k, u (ix2 s k) * w (ix2 k j)

/-- A selection on a comparison of two words for equality. -/
theorem pick_eq {α : Type} (a b : BitVec 32) (x y : α) :
    Scalar.select (IntOp.cmpi .eq a b) x y = if a = b then x else y := by
  by_cases h : a = b
  · subst h; simp [Scalar.select, IntOp.cmpi]
  · have e : (a == b) = false := beq_eq_false_iff_ne.mpr h
    simp [Scalar.select, IntOp.cmpi, e]
    exact fun h' => absurd h' h

/-- A row number's word is zero only for row 0. -/
theorem row_first (r : Fin 512) : (BitVec.ofNat 32 r.val = 0#32) ↔ r.val = 0 := by
  revert r; decide +kernel
/-- A row number's word is 511 only for row 511. -/
theorem row_last (r : Fin 512) : (BitVec.ofNat 32 r.val = 511#32) ↔ r.val = 511 := by
  revert r; decide +kernel

/-- The value before the tile, where there is a tile before. -/
theorem pick_before {α : Type} (i : Fin 16) (x y : α) :
    Scalar.select (Scalar.cmpi .sgt (BitVec.ofNat 32 i.val) 0#32) x y = if 0 < i.val then x else y := by
  have h : ∀ i : Fin 16, Scalar.cmpi .sgt (BitVec.ofNat 32 i.val) 0#32 = if 0 < i.val then 1#1 else 0#1 := by
    decide +kernel
  rw [h i]
  split_ifs <;> simp [Scalar.select]
/-- The value after the tile, where there is a tile after. -/
theorem pick_after {α : Type} (i : Fin 16) (x y : α) :
    Scalar.select (Scalar.cmpi .slt (BitVec.ofNat 32 i.val) 15#32) x y = if i.val < 15 then x else y := by
  have h : ∀ i : Fin 16, Scalar.cmpi .slt (BitVec.ofNat 32 i.val) 15#32 = if i.val < 15 then 1#1 else 0#1 := by
    decide +kernel
  rw [h i]
  split_ifs <;> simp [Scalar.select]

/-- The convolution of a tile's row: rows 519 and 520 of the extended rows stand before the first row and after the
    last. -/
abbrev conv (i : Fin 16) (z : Fin 528 → EReal) (r : Fin 512) (w0 w1 w2 b : EReal) : EReal :=
  taps (if r.val = 0 then (if 0 < i.val then z 519 else 0) else z ⟨(r.val + 512 - 1) % 512, by omega⟩)
    (z ⟨r.val, by omega⟩)
    (if r.val = 511 then (if i.val < 15 then z 520 else 0) else z ⟨(r.val + 512 - 511) % 512, by omega⟩) w0 w1 w2 b

/-- The first block of the convolution's channels. -/
theorem conv1_apply (i : Fin 16) (v2 v8 : FVec Ideal S1x1024 .f32) (v25 : FVec Ideal S512x1024 .bf16)
    (v30 : FVec Ideal S16x1024 .f32) (v35 v36 : FVec Ideal S16x1 .f32) (w : FVec Ideal S1024x768 .bf16)
    (c0 c1 c2 cb : FVec Ideal S1x768 .f32) (r : Fin 512) (j : Fin 768) :
    k0_pay17 (F := Ideal) (k0_pay12 v2 v8 v25 v30 v35 v36 w) (k0_pay14 (BitVec.ofNat 32 i.val) v2 v8 v25 v30 v35 v36 w)
        (k0_pay15 (BitVec.ofNat 32 i.val) v2 v8 v25 v30 v35 v36 w c0) (k0_pay16 c1) c2 cb (ix3 0 r j)
      = conv i (fun s => ze (k0_pay10 v2 v8 v25 v30 v35 v36) w s j) r (c0 (ix2 0 j)) (c1 (ix2 0 j)) (c2 (ix2 0 j))
          (cb (ix2 0 j)) := by
  pointwise [k0_pay17, k0_pay16, k0_pay15, k0_pay14, k0_pay13, k0_pay12, k0_pay11, taps, conv]
  simp only [pick_eq, pick_before, pick_after, row_first, row_last]

/-- The second block of the convolution's channels. -/
theorem conv2_apply (i : Fin 16) (u : FVec Ideal S528x1024 .bf16) (w : FVec Ideal S1024x768 .bf16)
    (c0 c1 c2 cb : FVec Ideal S1x768 .f32) (r : Fin 512) (j : Fin 768) :
    k0_pay25 (F := Ideal) (k0_pay19 u w)
        (k0_pay21 (BitVec.ofNat 32 i.val) u (iota .tc S512x1 32 [0] iota_S512x1_d0_w32) w) (k0_pay22 u w)
        (k0_pay23 (iota .tc S512x1 32 [0] iota_S512x1_d0_w32)) (k0_pay24 (BitVec.ofNat 32 i.val) u w) c0 c1 c2 cb (ix2 r j)
      = conv i (fun s => ze u w s j) r (c0 (ix2 0 j)) (c1 (ix2 0 j)) (c2 (ix2 0 j)) (cb (ix2 0 j)) := by
  pointwise [k0_pay25, k0_pay24, k0_pay23, k0_pay22, k0_pay21, k0_pay20, k0_pay19, k0_pay18, taps, conv]
  simp only [pick_eq, pick_before, pick_after, row_first, row_last]

/-- The third block of the convolution's channels times the second. -/
theorem conv3_apply (i : Fin 16) (u : FVec Ideal S528x1024 .bf16) (w : FVec Ideal S1024x768 .bf16)
    (y : FVec Ideal S512x768 .f32) (c0 c1 c2 cb : FVec Ideal S1x768 .f32) (r : Fin 512) (j : Fin 768) :
    k0_pay33 (F := Ideal) y (k0_pay27 u w) (k0_pay29 (BitVec.ofNat 32 i.val) u w)
        (k0_pay30 (BitVec.ofNat 32 i.val) u (iota .tc S512x1 32 [0] iota_S512x1_d0_w32) w) (k0_pay31 u w)
        (k0_pay32 (iota .tc S512x1 32 [0] iota_S512x1_d0_w32)) c0 c1 c2 cb (ix3 0 r j)
      = y (ix2 r j) * conv i (fun s => ze u w s j) r (c0 (ix2 0 j)) (c1 (ix2 0 j)) (c2 (ix2 0 j)) (cb (ix2 0 j)) := by
  pointwise [k0_pay33, k0_pay32, k0_pay31, k0_pay30, k0_pay29, k0_pay28, k0_pay27, k0_pay26, taps, conv]
  simp only [pick_eq, pick_before, pick_after, row_first, row_last]

end Cert.InProjKernel
-- ==== Proof.InProjRef.lean ====
/- The input projection's reference, one position at a time: its stages read as the row functions of InProjRow. -/
module

public import proofs.«01_k».proof.Proof.InProjRow
public import proofs.«01_k».proof.Proof.Gen.InProjRefIdeal.Read

@[expose] public section

set_option maxRecDepth 16384

noncomputable section

open Idealize.ShloMosaic Idealize.ShloMosaic.TcCoe Idealize.SL.Sem

namespace Cert.InProjRef
open Cert.InProjRefIdeal Cert.InProjRefIdeal.Read Cert.InProjRow

variable (x0 : FVec Ideal S8x8192x1024 .f32) (x1 : FVec Ideal S8x6144 .f32) (x2 : FVec Ideal S1024 .f32)
  (x3 : FVec Ideal S1024x6656 .f32) (x4 : FVec Ideal S3x2304 .f32) (x5 : FVec Ideal S2304 .f32)
  (x6 x7 : FVec Ideal S12x64 .f32)

/-- The projection at a position and channel. -/
abbrev proj (b : Fin 8) (t : Fin 8192) (n : Fin 6656) : EReal :=
  ∑ k, normed (fun k => x0 (ix3 b t k)) (fun k => x2 (ix1 k)) (fun k => x1 (ix2 b ⟨1024 + k.val, by omega⟩))
      (fun k => x1 (ix2 b ⟨k.val, by omega⟩)) k * x3 (ix2 k n)

/-- The product's entry is the projection. -/
theorem proj_apply (b : Fin 8) (t : Fin 8192) (n : Fin 6656) :
    val_main_v26 (F := Ideal) x0 x1 x2 x3 (ix3 b t n) = proj x0 x1 x2 x3 b t n := by
  pointwise [val_main_v26, val_main_v25, val_main_v24, val_main_v23, val_main_v22, val_main_v21, val_main_v20,
    val_main_cst_2, val_main_v19, val_main_v18, val_main_v17, val_main_v16, val_main_v15, val_main_v14, val_main_v13,
    val_main_v12, val_main_cst_1, val_main_v11, val_main_v10, val_main_cst_0, val_main_v9, val_main_v8, val_main_cst,
    val_main_v7, val_main_v2, val_main_v1, val_main_v0, normed, proj]
  simp only [mul_assoc]

/-- The value channels are the projection's. -/
theorem v_apply (b : Fin 8) (t : Fin 8192) (j : Fin 768) :
    val_main_v30 (F := Ideal) x0 x1 x2 x3 (ix3 b t j) = proj x0 x1 x2 x3 b t ⟨3840 + j.val, by omega⟩ := by
  rw [← proj_apply]
  pointwise [val_main_v30]

/-- The gates are the logistic function of the projection. -/
theorem g_apply (b : Fin 8) (t : Fin 8192) (j : Fin 2048) :
    val_main_v97 (F := Ideal) x0 x1 x2 x3 (ix3 b t j) = squash (proj x0 x1 x2 x3 b t ⟨4608 + j.val, by omega⟩) := by
  rw [← proj_apply]
  pointwise [val_main_v97, val_main_v96, val_main_v95, val_main_v94, val_main_v93, val_main_v92, val_main_v31,
    val_main_cst_10, val_main_cst_11, squash]

/-- The query channels: one head's norm, times an eighth. -/
theorem q_apply (b : Fin 8) (t : Fin 8192) (j : Fin 768) :
    val_main_v90 (F := Ideal) x0 x1 x2 x3 x6 (ix3 b t j)
      = headed (proj x0 x1 x2 x3 b t ⟨2304 + j.val, by omega⟩)
          (fun e => proj x0 x1 x2 x3 b t ⟨2304 + (j.val / 64 * 64 + e.val), by omega⟩)
          (x6 (ix2 ⟨j.val / 64, by omega⟩ ⟨j.val % 64, by omega⟩)) * Ideal.ofBits .f32 0x3E000000#32 := by
  simp only [← proj_apply]
  pointwise [val_main_v90, val_main_v74, val_main_v73, val_main_cst_6, val_main_v72, val_main_v71, val_main_v70,
    val_main_v69, val_main_v68, val_main_v67, val_main_v66, val_main_v65, val_main_cst_5, val_main_v64, val_main_v63,
    val_main_cst_4, val_main_v62, val_main_v61, val_main_cst_3, val_main_v60, val_main_v59, val_main_v28, headed]

/-- The key channels: one head's norm. -/
theorem k_apply (b : Fin 8) (t : Fin 8192) (j : Fin 768) :
    val_main_v91 (F := Ideal) x0 x1 x2 x3 x7 (ix3 b t j)
      = headed (proj x0 x1 x2 x3 b t ⟨3072 + j.val, by omega⟩)
          (fun e => proj x0 x1 x2 x3 b t ⟨3072 + (j.val / 64 * 64 + e.val), by omega⟩)
          (x7 (ix2 ⟨j.val / 64, by omega⟩ ⟨j.val % 64, by omega⟩)) := by
  simp only [← proj_apply]
  pointwise [val_main_v91, val_main_v88, val_main_v87, val_main_v86,
    val_main_v85, val_main_v84, val_main_v83, val_main_v82, val_main_v81, val_main_cst_9, val_main_v80, val_main_v79,
    val_main_cst_8, val_main_v78, val_main_v77, val_main_cst_7, val_main_v76, val_main_v75, val_main_v29, headed]

/-- A channel of the convolution over the projection at a position, zero off the ends. -/
abbrev around (b : Fin 8) (t : Fin 8192) (n : Fin 2304) : EReal :=
  taps (if h : 0 < t.val then proj x0 x1 x2 x3 b ⟨t.val - 1, by omega⟩ ⟨n.val, by omega⟩ else 0)
          (proj x0 x1 x2 x3 b t ⟨n.val, by omega⟩)
          (if h : t.val < 8191 then proj x0 x1 x2 x3 b ⟨t.val + 1, by omega⟩ ⟨n.val, by omega⟩ else 0)
          (x4 (ix2 0 n)) (x4 (ix2 1 n)) (x4 (ix2 2 n)) (x5 (ix1 n))

/-- A channel of the convolution: the position before, the position itself and the position after, zero off the ends. -/
theorem conv_apply (b : Fin 8) (t : Fin 8192) (n : Fin 2304) :
    val_main_v55 (F := Ideal) x0 x1 x2 x3 x4 x5 (ix3 b t n)
      = around x0 x1 x2 x3 x4 x5 b t n := by
  unfold around
  simp only [← proj_apply]
  pointwise [val_main_v55, val_main_v54, val_main_v53, val_main_v52, val_main_v51, val_main_v50, val_main_v49,
    val_main_v48, val_main_v47, val_main_v46, val_main_v45, val_main_v44, val_main_v43, val_main_v42, val_main_v41,
    val_main_v40, val_main_v39, val_main_v38, val_main_v37, val_main_v36, val_main_v35, val_main_v34, val_main_v33,
    val_main_v32, val_main_v27, val_main_call0_v0, val_main_c, taps]
  have z : FloatOps.sitofp (F := Ideal) FTy.f32 (0#32) = (0 : EReal) := by
    show ((((0#32 : BitVec 32).toInt : ℝ)) : EReal) = 0
    simp
  have e : 2 + t.val - 1 = t.val + 1 := by omega
  simp only [z, e, show (1 ≤ t.val ∧ t.val - 1 < 8192) ↔ 0 < t.val by omega,
    show (1 ≤ 2 + t.val ∧ t.val + 1 < 8192) ↔ t.val < 8191 by omega]

/-- The first block of the convolution's channels. -/
theorem x0_apply (b : Fin 8) (t : Fin 8192) (j : Fin 768) :
    val_main_v56 (F := Ideal) x0 x1 x2 x3 x4 x5 (ix3 b t j) = around x0 x1 x2 x3 x4 x5 b t ⟨0 + j.val, by omega⟩ := by
  refine Eq.trans ?_ (conv_apply x0 x1 x2 x3 x4 x5 b t ⟨0 + j.val, by omega⟩)
  pointwise [val_main_v56]

/-- The second block of the convolution's channels times the third. -/
theorem w_apply (b : Fin 8) (t : Fin 8192) (j : Fin 768) :
    val_main_v89 (F := Ideal) x0 x1 x2 x3 x4 x5 (ix3 b t j)
      = around x0 x1 x2 x3 x4 x5 b t ⟨768 + j.val, by omega⟩ * around x0 x1 x2 x3 x4 x5 b t ⟨1536 + j.val, by omega⟩ := by
  rw [← conv_apply, ← conv_apply]
  pointwise [val_main_v89, val_main_v58, val_main_v57]

end Cert.InProjRef
-- ==== Proof.InProjFinal.lean ====
/- The input projection call's six result arrays after the run are its reference's. -/
module

public import proofs.«01_k».proof.Proof.InProjBlocks
public import proofs.«01_k».proof.Proof.InProjKernel
public import proofs.«01_k».proof.Proof.InProjRef
public import Idealize.ShloMosaic.PureOps.Ideal.Laws

@[expose] public section

set_option maxRecDepth 16384

noncomputable section

open Idealize.ShloMosaic Idealize.ShloMosaic.TcCoe Idealize.SL.Sem

namespace Cert.InProjFinal
open Cert.InProjIdeal Cert.InProjIdeal.Gen Cert.InProjBlocks Cert.InProjRow
open Cert.InProjKernel (conv ze)

variable (m : (ℓ : Loc nD τ sig) → Buf (Elt Ideal) ℓ)

/-- Dividing a finite sum by a positive real divides its terms. -/
theorem sum_div {ι : Type} [Fintype ι] (f : ι → EReal) (q : ℝ) (hq : 0 < q) :
    Ideal.div (∑ i, f i) (q : EReal) = ∑ i, f i * ((1 / q : ℝ) : EReal) := by
  rw [Ideal.div_coe hq.ne']
  have h0 : (0 : EReal) ≤ ((1 / q : ℝ) : EReal) := by exact_mod_cast (one_div_pos.mpr hq).le
  have key : ∀ s : Finset ι, (∑ i ∈ s, f i) * ((1 / q : ℝ) : EReal) = ∑ i ∈ s, f i * ((1 / q : ℝ) : EReal) := by
    classical
    intro s
    induction s using Finset.induction_on with
    | empty => simp
    | insert a s ha ih =>
      rw [Finset.sum_insert ha, Finset.sum_insert ha, EReal.right_distrib_of_nonneg_of_ne_top h0 (EReal.coe_ne_top _), ih]
  exact key _

/-- The mean over a head's 64 channels, spread back to the head's channels. -/
theorem head_mean (z : Fin 768 → EReal) (j : Fin 768) :
    ∑ h : Fin 128, (∑ i : Fin 768, z i * z i * Ideal.div (member i h) (Ideal.ofBits .f32 0x42800000#32)) * member j h
      = Ideal.div (∑ e : Fin 64, z ⟨j.val / 64 * 64 + e.val, by omega⟩ * z ⟨j.val / 64 * 64 + e.val, by omega⟩)
          (Ideal.ofBits .f32 0x42800000#32) := by
  have hC : Ideal.ofBits .f32 0x42800000#32 = ((64 : ℝ) : EReal) := by
    simp [Ideal.ofBits, Ideal.ieee, -EReal.coe_mul]; norm_num
  rw [hC, sum_div _ 64 (by norm_num)]
  rw [Finset.sum_eq_single (⟨j.val / 64, by omega⟩ : Fin 128)]
  · simp only [member, if_true, mul_one]
    symm
    refine Finset.sum_of_injOn (fun e : Fin 64 => (⟨j.val / 64 * 64 + e.val, by omega⟩ : Fin 768)) ?_ ?_ ?_ ?_
    · intro a _ b _ h
      have h' := congrArg Fin.val h
      exact Fin.ext (by simpa using h')
    · intro a _; simp
    · intro i _ hi
      have hne : ¬ i.val / 64 = j.val / 64 := by
        intro h
        refine hi ⟨⟨i.val % 64, by omega⟩, by simp, Fin.ext ?_⟩
        show j.val / 64 * 64 + i.val % 64 = i.val
        omega
      rw [if_neg hne, Ideal.div_coe (show (64 : ℝ) ≠ 0 by norm_num)]
      simp
    · intro e _
      have he : (j.val / 64 * 64 + e.val) / 64 = j.val / 64 := by omega
      simp only [he, if_true]
      rw [Ideal.div_coe (show (64 : ℝ) ≠ 0 by norm_num), one_mul]
  · intro h _ hh
    have hne : ¬ j.val / 64 = h.val := fun e => hh (Fin.ext e.symm)
    rw [member, if_neg hne, mul_zero]
  · intro h; exact absurd (Finset.mem_univ _) h

/-- The projection of the kernel's arguments at a position and channel. -/
abbrev proj (c : Dev nD) (b : Fin 8) (t : Fin 8192) (n : Fin 6656) : EReal :=
  InProjRef.proj (arg0 m c) (arg1 m c) (arg2 m c) (arg3 m c) b t n

/-- The tile's normalised rows. -/
abbrev tile (c : Dev nD) (t : Fin cfg0.N) : FVec Ideal S512x1024 .bf16 :=
  k0_pay6 (F := Ideal) (mods m c t) (norm m c t) (x m c t)

/-- The tile's normalised rows with those around it. -/
abbrev ext (c : Dev nD) (t : Fin cfg0.N) : FVec Ideal S528x1024 .bf16 :=
  k0_pay10 (F := Ideal) (k0_pay4 (mods m c t)) (k0_pay5 (mods m c t) (norm m c t))
    (tile m c t) (k0_pay7 (prev m c t) (next m c t))
    (k0_pay8 (prev m c t) (next m c t)) k0_pay9

/-- The normalised row of a position. -/
abbrev rowAt (c : Dev nD) (b : Fin 8) (p : Fin 8192) : Fin 1024 → EReal :=
  normed (fun k => arg0 m c (ix3 b p k)) (fun k => arg2 m c (ix1 k)) (fun k => arg1 m c (ix2 b ⟨1024 + k.val, by omega⟩))
    (fun k => arg1 m c (ix2 b ⟨k.val, by omega⟩))

theorem tile_apply (c : Dev nD) (t : Fin cfg0.N) (r : Fin 512) (k : Fin 1024) :
    tile m c t (ix2 r k) = rowAt m c (bat t) (pos t r) k := by
  refine (InProjKernel.rows_apply _ _ _ r k).trans ?_
  simp only [x_read, mods_read, norm_read]

theorem ext_lo (c : Dev nD) (t : Fin cfg0.N) (r : Fin 512) (k : Fin 1024) :
    ext m c t (ix2 ⟨r.val, by omega⟩ k) = rowAt m c (bat t) (pos t r) k := by
  refine (InProjKernel.ext_lo _ _ _ _ _ _ r.isLt k).trans ?_
  simp only [x_read, mods_read, norm_read]

theorem ext_before (c : Dev nD) (t : Fin cfg0.N) (h : 0 < t.val % 16) (k : Fin 1024) :
    ext m c t (ix2 519 k) = rowAt m c (bat t) ⟨t.val % 16 * 512 - 1, by omega⟩ k := by
  refine (InProjKernel.ext_before _ _ _ _ _ k).trans ?_
  simp only [prev_read m c t h, mods_read, norm_read]

theorem ext_after (c : Dev nD) (t : Fin cfg0.N) (h : t.val % 16 < 15) (k : Fin 1024) :
    ext m c t (ix2 520 k) = rowAt m c (bat t) ⟨(t.val % 16 + 1) * 512, by omega⟩ k := by
  refine (InProjKernel.ext_after _ _ _ _ _ k).trans ?_
  simp only [next_read m c t h, mods_read, norm_read]

/-- A product of the tile's rows with a column of weights that is column `n` of the argument. -/
theorem tile_proj (c : Dev nD) (t : Fin cfg0.N) (r : Fin 512) (n : Fin 6656) (w : Fin 1024 → EReal)
    (hw : ∀ k, w k = arg3 m c (ix2 k n)) :
    ∑ k, tile m c t (ix2 r k) * w k = proj m c (bat t) (pos t r) n := by
  simp only [tile_apply, hw]

/-- The convolution over a tile is the convolution over the whole sequence, for a channel `P` of the positions whose
    values on the tile and around it are `z`'s. -/
theorem conv_tile (t : Fin cfg0.N) (r : Fin 512) (z : Fin 528 → EReal) (P : Fin 8192 → EReal) (w0 w1 w2 b : EReal)
    (hlo : ∀ s : Fin 512, z ⟨s.val, by omega⟩ = P (pos t s))
    (hb : ∀ h : 0 < t.val % 16, z 519 = P ⟨t.val % 16 * 512 - 1, by omega⟩)
    (ha : ∀ h : t.val % 16 < 15, z 520 = P ⟨(t.val % 16 + 1) * 512, by omega⟩) :
    conv ⟨t.val % 16, by omega⟩ z r w0 w1 w2 b
      = taps (if h : 0 < (pos t r).val then P ⟨(pos t r).val - 1, by omega⟩ else 0) (P (pos t r))
          (if h : (pos t r).val < 8191 then P ⟨(pos t r).val + 1, by omega⟩ else 0) w0 w1 w2 b := by
  have e1 : (if r.val = 0 then (if 0 < t.val % 16 then z 519 else 0) else z ⟨(r.val + 512 - 1) % 512, by omega⟩)
      = if h : 0 < (pos t r).val then P ⟨(pos t r).val - 1, by omega⟩ else 0 := by
    by_cases h0 : r.val = 0
    · by_cases hi : 0 < t.val % 16
      · rw [if_pos h0, if_pos hi, dif_pos (show 0 < t.val % 16 * 512 + r.val by omega), hb hi]
        exact congrArg P (Fin.ext (show t.val % 16 * 512 - 1 = t.val % 16 * 512 + r.val - 1 by omega))
      · rw [if_pos h0, if_neg hi, dif_neg (show ¬ 0 < t.val % 16 * 512 + r.val by omega)]
    · rw [if_neg h0, dif_pos (show 0 < t.val % 16 * 512 + r.val by omega)]
      refine (hlo ⟨(r.val + 512 - 1) % 512, by omega⟩).trans ?_
      exact congrArg P (Fin.ext (show t.val % 16 * 512 + (r.val + 512 - 1) % 512 = t.val % 16 * 512 + r.val - 1 by omega))
  have e2 : (if r.val = 511 then (if t.val % 16 < 15 then z 520 else 0) else z ⟨(r.val + 512 - 511) % 512, by omega⟩)
      = if h : (pos t r).val < 8191 then P ⟨(pos t r).val + 1, by omega⟩ else 0 := by
    by_cases h0 : r.val = 511
    · by_cases hi : t.val % 16 < 15
      · rw [if_pos h0, if_pos hi, dif_pos (show t.val % 16 * 512 + r.val < 8191 by omega), ha hi]
        exact congrArg P (Fin.ext (show (t.val % 16 + 1) * 512 = t.val % 16 * 512 + r.val + 1 by omega))
      · rw [if_pos h0, if_neg hi, dif_neg (show ¬ t.val % 16 * 512 + r.val < 8191 by omega)]
    · rw [if_neg h0, dif_pos (show t.val % 16 * 512 + r.val < 8191 by omega)]
      refine (hlo ⟨(r.val + 512 - 511) % 512, by omega⟩).trans ?_
      exact congrArg P (Fin.ext (show t.val % 16 * 512 + (r.val + 512 - 511) % 512 = t.val % 16 * 512 + r.val + 1 by omega))
  have e3 : z ⟨r.val, by omega⟩ = P (pos t r) := hlo r
  unfold conv
  rw [e1, e2, e3]

/-- The same for the product of the tile's rows with a block of weights. -/
theorem conv_proj (c : Dev nD) (t : Fin cfg0.N) (r : Fin 512) (j : Fin 768) (n : Fin 6656) (w : FVec Ideal S1024x768 .bf16)
    (w0 w1 w2 b : EReal) (hw : ∀ k, w (ix2 k j) = arg3 m c (ix2 k n)) :
    conv ⟨t.val % 16, by omega⟩ (fun s => ze (ext m c t) w s j) r w0 w1 w2 b
      = taps (if h : 0 < (pos t r).val then proj m c (bat t) ⟨(pos t r).val - 1, by omega⟩ n else 0)
          (proj m c (bat t) (pos t r) n)
          (if h : (pos t r).val < 8191 then proj m c (bat t) ⟨(pos t r).val + 1, by omega⟩ n else 0) w0 w1 w2 b := by
  refine conv_tile t r _ (fun p => proj m c (bat t) p n) w0 w1 w2 b (fun s => ?_) (fun h => ?_) (fun h => ?_)
  · show ∑ k, ext m c t (ix2 ⟨s.val, _⟩ k) * w (ix2 k j) = _
    simp only [ext_lo, hw]
  · show ∑ k, ext m c t (ix2 519 k) * w (ix2 k j) = _
    simp only [ext_before m c t h, hw]
  · show ∑ k, ext m c t (ix2 520 k) * w (ix2 k j) = _
    simp only [ext_after m c t h, hw]

/-- The second grid coordinate of a point. -/
theorem coord : ∀ t : Fin cfg0.N, (grid0.coords t 1).val = t.val % 16 :=
  (by decide +kernel : ∀ t : Fin grid0.N, _)

/-- The reference's result over the kernel's arguments: the product of the convolution's second and third channel blocks. -/
abbrev result_w (c : Dev nD) : FVec Ideal S8x8192x768 .f32 :=
  Cert.InProjRefIdeal.Read.val_main_v89 (F := Ideal) (arg0 m c) (arg1 m c) (arg2 m c) (arg3 m c) (arg4 m c) (arg5 m c)

/-- One stored entry of the product of the convolution's second and third channel blocks. -/
theorem entry_w (c : Dev nD) (t : Fin cfg0.N) (r : Fin 512) (j : Fin 768) :
    k0_pay33 (F := Ideal) (k0_pay25 (k0_pay19 (ext m c t) (View.ld (wIn m c t) r0_10)) (k0_pay21 (BitVec.ofNat 32
      (grid0.coords t 1).val) (ext m c t) (iota .tc S512x1 32 [0] iota_S512x1_d0_w32) (View.ld (wIn m c t) r0_10))
      (k0_pay22 (ext m c t) (View.ld (wIn m c t) r0_10)) (k0_pay23 (iota .tc S512x1 32 [0] iota_S512x1_d0_w32)) (k0_pay24
      (BitVec.ofNat 32 (grid0.coords t 1).val) (ext m c t) (View.ld (wIn m c t) r0_10)) (View.ld (taps3 m c t) r0_11)
      (View.ld (taps3 m c t) r0_12) (View.ld (taps3 m c t) r0_13) (View.ld (bias m c t) r0_14)) (k0_pay27 (ext m c t)
      (View.ld (wIn m c t) r0_15)) (k0_pay29 (BitVec.ofNat 32 (grid0.coords t 1).val) (ext m c t) (View.ld (wIn m c t)
      r0_15)) (k0_pay30 (BitVec.ofNat 32 (grid0.coords t 1).val) (ext m c t) (iota .tc S512x1 32 [0] iota_S512x1_d0_w32)
      (View.ld (wIn m c t) r0_15)) (k0_pay31 (ext m c t) (View.ld (wIn m c t) r0_15)) (k0_pay32 (iota .tc S512x1 32 [0]
      iota_S512x1_d0_w32)) (View.ld (taps3 m c t) r0_16) (View.ld (taps3 m c t) r0_17) (View.ld (taps3 m c t) r0_18)
      (View.ld (bias m c t) r0_19)
      (ix3 0 r j) = result_w m c (ix3 (bat t) (pos t r) j) := by
  rw [result_w, InProjRef.w_apply, coord]
  refine (InProjKernel.conv3_apply ⟨t.val % 16, by omega⟩ _ _ _ _ _ _ _ r j).trans ?_
  refine congr (congrArg _ ((InProjKernel.conv2_apply ⟨t.val % 16, by omega⟩ _ _ _ _ _ _ r j).trans ?_)) ?_
  · rw [ld11, ld12, ld13, ld14]
    simp only [taps3_read, bias_read]
    exact conv_proj m c t r j ⟨768 + j.val, by omega⟩ _ _ _ _ _ (fun k => (ld10 _ k j).trans (wIn_read m c t k _))
  · rw [ld16, ld17, ld18, ld19]
    simp only [taps3_read, bias_read]
    exact conv_proj m c t r j ⟨1536 + j.val, by omega⟩ _ _ _ _ _ (fun k => (ld15 _ k j).trans (wIn_read m c t k _))

set_option maxHeartbeats 1000000 in
/-- The array of the product of the convolution's second and third channel blocks after the run. -/
theorem final_w (c : Dev nD) : (dats m 0 c).arrAt 12 cfg0.N = result_w m c := by
  refine (dats m 0 c).arrAt_eq_of_covers 12 _ (by decide +kernel) fun t _ y => ?_
  blk_simp
  rw [after0_12]
  unfold_out out0_12
  frame_out
  idx_vars y
  obtain rfl : y0 = 0 := Subsingleton.elim _ _
  refine Eq.trans (entry_w m c t y1 y2) ?_
  refine congrArg (result_w m c) ?_
  blk_ext [(idxC t)]

/-- The reference's result over the kernel's arguments: the convolution's first channel block. -/
abbrev result_x0 (c : Dev nD) : FVec Ideal S8x8192x768 .f32 :=
  Cert.InProjRefIdeal.Read.val_main_v56 (F := Ideal) (arg0 m c) (arg1 m c) (arg2 m c) (arg3 m c) (arg4 m c) (arg5 m c)

/-- One stored entry of the convolution's first channel block. -/
theorem entry_x0 (c : Dev nD) (t : Fin cfg0.N) (r : Fin 512) (j : Fin 768) :
    k0_pay17 (F := Ideal) (k0_pay12 (k0_pay4 (mods m c t)) (k0_pay5 (mods m c t) (norm m c t)) (tile m c t) (k0_pay7
      (prev m c t) (next m c t)) (k0_pay8 (prev m c t) (next m c t)) k0_pay9 (View.ld (wIn m c t) r0_4)) (k0_pay14
      (BitVec.ofNat 32 (grid0.coords t 1).val) (k0_pay4 (mods m c t)) (k0_pay5 (mods m c t) (norm m c t)) (tile m c t)
      (k0_pay7 (prev m c t) (next m c t)) (k0_pay8 (prev m c t) (next m c t)) k0_pay9 (View.ld (wIn m c t) r0_4))
      (k0_pay15 (BitVec.ofNat 32 (grid0.coords t 1).val) (k0_pay4 (mods m c t)) (k0_pay5 (mods m c t) (norm m c t)) (tile
      m c t) (k0_pay7 (prev m c t) (next m c t)) (k0_pay8 (prev m c t) (next m c t)) k0_pay9 (View.ld (wIn m c t) r0_4)
      (View.ld (taps3 m c t) r0_5)) (k0_pay16 (View.ld (taps3 m c t) r0_6)) (View.ld (taps3 m c t) r0_7) (View.ld (bias m
      c t) r0_8)
      (ix3 0 r j) = result_x0 m c (ix3 (bat t) (pos t r) j) := by
  rw [result_x0, InProjRef.x0_apply, coord]
  refine (InProjKernel.conv1_apply ⟨t.val % 16, by omega⟩ _ _ _ _ _ _ _ _ _ _ _ r j).trans ?_
  rw [ld5, ld6, ld7, ld8, taps3_read, taps3_read, taps3_read, bias_read]
  exact conv_proj m c t r j ⟨0 + j.val, by omega⟩ _ _ _ _ _ (fun k => (ld4 _ k j).trans (wIn_read m c t k _))

set_option maxHeartbeats 1000000 in
/-- The array of the convolution's first channel block after the run. -/
theorem final_x0 (c : Dev nD) : (dats m 0 c).arrAt 13 cfg0.N = result_x0 m c := by
  refine (dats m 0 c).arrAt_eq_of_covers 13 _ (by decide +kernel) fun t _ y => ?_
  blk_simp
  rw [after0_13]
  unfold_out out0_13
  frame_out
  idx_vars y
  obtain rfl : y0 = 0 := Subsingleton.elim _ _
  refine Eq.trans (entry_x0 m c t y1 y2) ?_
  refine congrArg (result_x0 m c) ?_
  blk_ext [(idxC t)]

/-- The reference's result over the kernel's arguments: the queries. -/
abbrev result_q (c : Dev nD) : FVec Ideal S8x8192x768 .f32 :=
  Cert.InProjRefIdeal.Read.val_main_v90 (F := Ideal) (arg0 m c) (arg1 m c) (arg2 m c) (arg3 m c) (arg6 m c)

/-- One stored entry of the queries. -/
theorem entry_q (c : Dev nD) (t : Fin cfg0.N) (r : Fin 512) (j : Fin 768) :
    k0_pay37 (F := Ideal) (k0_pay34 (tile m c t) (View.ld (wIn m c t) r0_20)) (k0_pay35 (gq m c t)) (k0_pay36 (tile m c
      t) (View.ld (wIn m c t) r0_20) (reduce m c t) (expand m c t))
      (ix3 0 r j) = result_q m c (ix3 (bat t) (pos t r) j) := by
  have e : ∀ i : Fin 768, ∑ k, tile m c t (ix2 r k) * (View.ld (Val := Elt Ideal) (e' := .bf16) (wIn m c t) r0_20 : FVec Ideal S1024x768 .bf16) (ix2 k i)
      = proj m c (bat t) (pos t r) ⟨2304 + i.val, by omega⟩ := fun i =>
    tile_proj m c t r ⟨2304 + i.val, by omega⟩ _ (fun k => (ld20 _ k i).trans (wIn_read m c t k _))
  rw [result_q, InProjRef.q_apply]
  refine (InProjKernel.q_apply _ _ _ _ _ r j).trans ?_
  simp only [gq_read, reduce_read, expand_read, e, head_mean (fun i => proj m c (bat t) (pos t r) ⟨2304 + i.val, by omega⟩) j, headed]

set_option maxHeartbeats 1000000 in
/-- The array of the queries after the run. -/
theorem final_q (c : Dev nD) : (dats m 0 c).arrAt 14 cfg0.N = result_q m c := by
  refine (dats m 0 c).arrAt_eq_of_covers 14 _ (by decide +kernel) fun t _ y => ?_
  blk_simp
  rw [after0_14]
  unfold_out out0_14
  frame_out
  idx_vars y
  obtain rfl : y0 = 0 := Subsingleton.elim _ _
  refine Eq.trans (entry_q m c t y1 y2) ?_
  refine congrArg (result_q m c) ?_
  blk_ext [(idxC t)]

/-- The reference's result over the kernel's arguments: the keys. -/
abbrev result_k (c : Dev nD) : FVec Ideal S8x8192x768 .f32 :=
  Cert.InProjRefIdeal.Read.val_main_v91 (F := Ideal) (arg0 m c) (arg1 m c) (arg2 m c) (arg3 m c) (arg7 m c)

/-- One stored entry of the keys. -/
theorem entry_k (c : Dev nD) (t : Fin cfg0.N) (r : Fin 512) (j : Fin 768) :
    k0_pay38 (F := Ideal) (tile m c t) (View.ld (wIn m c t) r0_24) (gk m c t) (reduce m c t) (expand m c t)
      (ix3 0 r j) = result_k m c (ix3 (bat t) (pos t r) j) := by
  have e : ∀ i : Fin 768, ∑ k, tile m c t (ix2 r k) * (View.ld (Val := Elt Ideal) (e' := .bf16) (wIn m c t) r0_24 : FVec Ideal S1024x768 .bf16) (ix2 k i)
      = proj m c (bat t) (pos t r) ⟨3072 + i.val, by omega⟩ := fun i =>
    tile_proj m c t r ⟨3072 + i.val, by omega⟩ _ (fun k => (ld24 _ k i).trans (wIn_read m c t k _))
  rw [result_k, InProjRef.k_apply]
  refine (InProjKernel.k_apply _ _ _ _ _ r j).trans ?_
  simp only [gk_read, reduce_read, expand_read, e, head_mean (fun i => proj m c (bat t) (pos t r) ⟨3072 + i.val, by omega⟩) j, headed]

set_option maxHeartbeats 1000000 in
/-- The array of the keys after the run. -/
theorem final_k (c : Dev nD) : (dats m 0 c).arrAt 15 cfg0.N = result_k m c := by
  refine (dats m 0 c).arrAt_eq_of_covers 15 _ (by decide +kernel) fun t _ y => ?_
  blk_simp
  rw [after0_15]
  unfold_out out0_15
  frame_out
  idx_vars y
  obtain rfl : y0 = 0 := Subsingleton.elim _ _
  refine Eq.trans (entry_k m c t y1 y2) ?_
  refine congrArg (result_k m c) ?_
  blk_ext [(idxC t)]

/-- The reference's result over the kernel's arguments: the values. -/
abbrev result_v (c : Dev nD) : FVec Ideal S8x8192x768 .f32 :=
  Cert.InProjRefIdeal.Read.val_main_v30 (F := Ideal) (arg0 m c) (arg1 m c) (arg2 m c) (arg3 m c)

/-- One stored entry of the values. -/
theorem entry_v (c : Dev nD) (t : Fin cfg0.N) (r : Fin 512) (j : Fin 768) :
    k0_pay1 (F := Ideal) (tile m c t) (k0_pay39 (View.ld (wIn m c t) r0_25))
      (ix3 0 r j) = result_v m c (ix3 (bat t) (pos t r) j) := by
  rw [result_v, InProjRef.v_apply]
  refine (InProjKernel.v_apply _ _ r j).trans ?_
  exact tile_proj m c t r ⟨3840 + j.val, by omega⟩ _ (fun k => (ld25 _ k j).trans (wIn_read m c t k _))

set_option maxHeartbeats 1000000 in
/-- The array of the values after the run. -/
theorem final_v (c : Dev nD) : (dats m 0 c).arrAt 16 cfg0.N = result_v m c := by
  refine (dats m 0 c).arrAt_eq_of_covers 16 _ (by decide +kernel) fun t _ y => ?_
  blk_simp
  rw [after0_16]
  unfold_out out0_16
  frame_out
  idx_vars y
  obtain rfl : y0 = 0 := Subsingleton.elim _ _
  refine Eq.trans (entry_v m c t y1 y2) ?_
  refine congrArg (result_v m c) ?_
  blk_ext [(idxC t)]

/-- The reference's result over the kernel's arguments: the gates. -/
abbrev result_g (c : Dev nD) : FVec Ideal S8x8192x2048 .f32 :=
  Cert.InProjRefIdeal.Read.val_main_v97 (F := Ideal) (arg0 m c) (arg1 m c) (arg2 m c) (arg3 m c)

/-- One stored entry of the gates. -/
theorem entry_g (c : Dev nD) (t : Fin cfg0.N) (r : Fin 512) (j : Fin 2048) :
    k0_pay2 (F := Ideal) (tile m c t) (View.ld (wIn m c t) r0_26)
      (ix3 0 r j) = result_g m c (ix3 (bat t) (pos t r) j) := by
  rw [result_g, InProjRef.g_apply]
  refine (InProjKernel.g_apply _ _ r j).trans ?_
  exact congrArg squash (tile_proj m c t r ⟨4608 + j.val, by omega⟩ _ (fun k => (ld26 _ k j).trans (wIn_read m c t k _)))

set_option maxHeartbeats 1000000 in
/-- The array of the gates after the run. -/
theorem final_g (c : Dev nD) : (dats m 0 c).arrAt 17 cfg0.N = result_g m c := by
  refine (dats m 0 c).arrAt_eq_of_covers 17 _ (by decide +kernel) fun t _ y => ?_
  blk_simp
  rw [after0_17]
  unfold_out out0_17
  frame_out
  idx_vars y
  obtain rfl : y0 = 0 := Subsingleton.elim _ _
  refine Eq.trans (entry_g m c t y1 y2) ?_
  refine congrArg (result_g m c) ?_
  blk_ext [(idxC t)]

end Cert.InProjFinal
-- ==== Proof.MergeWords.lean ====
/- The merge program's frame at the machine words. Its text is that of the program over the extended reals, so its
   body, its table and its main function are the other program's, and its frame is the other's frame. -/
module

public import proofs.«01_k».proof.Proof.MergeBody
public import proofs.«01_k».proof.Proof.Gen.Merge

@[expose] public section

set_option maxRecDepth 16384

noncomputable section

open Idealize.ShloMosaic Idealize.ShloMosaic.TcCoe Idealize.SL.Sem

namespace Cert.MergeWords

variable {F : FTy → Type} [FloatOps F]

set_option maxHeartbeats 2000000 in
/-- The two programs have one body. -/
theorem body_same : @Cert.Merge.cc0_merge_mlp F _ _ = @Cert.MergeIdeal.cc0_merge_mlp F _ _ := by
  with_unfolding_all rfl

set_option maxHeartbeats 2000000 in
/-- The two programs have one table. -/
theorem table_same : Cert.Merge.defs₀ (F := F) = Cert.MergeIdeal.defs₀ (F := F) := by
  unfold Cert.Merge.defs₀ Cert.MergeIdeal.defs₀
  refine congrArg Defs.onTc ?_
  funext l a
  match l, a with
  | 0, (t, s) =>
    show Cert.Merge.cc0_merge_mlp (F := F) _ _ _ _ _ _ _ _ _ _ _ _ _ _ _ _ _ _ _ _ _ _ _ _ _ _ _ _ _ _ _ _ _ _ _ _ _ _ _ _ _ _ _ _ _ _ _ _ _ _ _ _ _ = _
    rw [body_same]
    rfl

set_option maxHeartbeats 2000000 in
/-- The two programs have one definition of every call. -/
theorem defs_same : Cert.Merge.defs (F := F) = Cert.MergeIdeal.defs (F := F) :=
  (congrArg (Pipeline.defs (Cert.Merge.pcfgs (F := F))) table_same).trans (by with_unfolding_all rfl)

set_option maxHeartbeats 2000000 in
/-- The two programs have one main function. -/
theorem main_same : Cert.Merge.main (F := F) = Cert.MergeIdeal.main (F := F) := by
  with_unfolding_all rfl

end Cert.MergeWords
-- ==== Proof.MergeWordsFrame.lean ====
/- The merge call's frame in the word program: the run written once over any value carrier, read in the word program's
   names. -/
module

public import proofs.«01_k».proof.Proof.MergeWords

@[expose] public section

set_option maxRecDepth 16384

noncomputable section

open Idealize.ShloMosaic Idealize.ShloMosaic.TcCoe Idealize.SL.Sem

namespace Cert.MergeWords

variable {F : FTy → Type} [FloatOps F]

set_option maxHeartbeats 2000000 in
/-- The word program's frame, from the run written once over any value carrier: every argument array keeps its contents
    and every semaphore counter ends at zero. -/
theorem frame (m : (ℓ : Loc Cert.Merge.nD Cert.Merge.τ Cert.Merge.sig) → Buf (Elt F) ℓ) (ρ : Dev Cert.Merge.nD → PrngReg) :
    θ_run Cert.Merge.defs (onTc (τ := Cert.Merge.τ) (Cert.Merge.main (F := F))) ⟨m, fun _ => 0, ρ⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18)) ∧ r.2.sem = fun _ => 0) := by
  rw [defs_same, main_same]
  exact Cert.MergeBody.frame m ρ

end Cert.MergeWords
-- ==== Proof.AttnBlocks.lean ====
/- The attention call's staged blocks read back as entries of the argument arrays: grid point `t` takes batch `t / 16` and
   the 512 positions from `512 * (t % 16)`, with the 64 positions before and the 64 after for keys and values. -/
module

public import proofs.«01_k».proof.Proof.Gen.AttnIdeal.Value
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AttnBlocks
open Cert.AttnIdeal Cert.AttnIdeal.Gen

variable (m : (ℓ : Loc nD τ sig) → Buf (Elt Ideal) ℓ)

/-- Where the blocks of windows 0 to 4 sit at grid point `t`. -/
theorem idxA : ∀ t : Fin cfg0.N,
    win0_0.index t = ![t.val / 16, t.val % 16, 0]
    ∧ win0_1.index t = ![t.val / 16, t.val % 16, 1]
    ∧ win0_2.index t = ![t.val / 16, t.val % 16 * 8 - 1, 0]
    ∧ win0_3.index t = ![t.val / 16, t.val % 16, 0]
    ∧ win0_4.index t = ![t.val / 16, min ((t.val % 16 + 1) * 8) 127, 0] :=
  (by decide +kernel : ∀ t : Fin grid0.N, _)

/-- Where the blocks of windows 5 to 9 sit at grid point `t`. -/
theorem idxB : ∀ t : Fin cfg0.N,
    win0_5.index t = ![t.val / 16, t.val % 16 * 8 - 1, 1]
    ∧ win0_6.index t = ![t.val / 16, t.val % 16, 1]
    ∧ win0_7.index t = ![t.val / 16, min ((t.val % 16 + 1) * 8) 127, 1]
    ∧ win0_8.index t = ![t.val / 16, t.val % 16 * 8 - 1, 0]
    ∧ win0_9.index t = ![t.val / 16, t.val % 16, 0] :=
  (by decide +kernel : ∀ t : Fin grid0.N, _)

/-- Where the blocks of windows 10 to 14 sit at grid point `t`. -/
theorem idxC : ∀ t : Fin cfg0.N,
    win0_10.index t = ![t.val / 16, min ((t.val % 16 + 1) * 8) 127, 0]
    ∧ win0_11.index t = ![t.val / 16, t.val % 16 * 8 - 1, 1]
    ∧ win0_12.index t = ![t.val / 16, t.val % 16, 1]
    ∧ win0_13.index t = ![t.val / 16, min ((t.val % 16 + 1) * 8) 127, 1]
    ∧ win0_14.index t = ![0, 0, 0, 0] :=
  (by decide +kernel : ∀ t : Fin grid0.N, _)

/-- Where the blocks of windows 15 to 18 sit at grid point `t`. -/
theorem idxD : ∀ t : Fin cfg0.N,
    win0_15.index t = ![t.val / 16, t.val % 16, 0]
    ∧ win0_16.index t = ![t.val / 16, t.val % 16, 0]
    ∧ win0_17.index t = ![t.val / 16, t.val % 16, 0]
    ∧ win0_18.index t = ![t.val / 16, t.val % 16, 0] :=
  (by decide +kernel : ∀ t : Fin grid0.N, _)

theorem coord : ∀ t : Fin cfg0.N, (grid0.coords t 1).val = t.val % 16 :=
  (by decide +kernel : ∀ t : Fin grid0.N, (grid0.coords t 1).val = t.val % 16)

/-- The batch of grid point `t`. -/
abbrev bat (t : Fin cfg0.N) : Fin 8 := ⟨t.val / 16, by have h : t.val < 128 := t.isLt; omega⟩
/-- Argument 0 as launched. -/
abbrev arg0 (c : Dev nD) : FVec Ideal S8x8192x768 .f32 := m ((c : Thread nD τ).loc main_arg0)
/-- Argument 1 as launched. -/
abbrev arg1 (c : Dev nD) : FVec Ideal S8x8192x768 .f32 := m ((c : Thread nD τ).loc main_arg1)
/-- Argument 2 as launched. -/
abbrev arg2 (c : Dev nD) : FVec Ideal S8x8192x768 .f32 := m ((c : Thread nD τ).loc main_arg2)
/-- Argument 3 as launched. -/
abbrev arg3 (c : Dev nD) : FVec Ideal S32x12 .f32 := m ((c : Thread nD τ).loc main_arg3)

/-- The 512 positions of a block with the 64 before and after are the array's, wherever those exist. -/
abbrev Around (t : Fin cfg0.N) (p : Fin 2) (a : FVec Ideal S8x8192x768 .f32)
    (pre : FVec Ideal S1x64x128 .f32) (cur : FVec Ideal S1x512x128 .f32) (nxt : FVec Ideal S1x64x128 .f32) : Prop :=
  (∀ (h : 0 < t.val % 16) (r : Fin 64) (l : Fin 128), pre (ix3 0 r l) = a (ix3 (bat t) ⟨t.val % 16 * 512 + r.val - 64, by omega⟩ ⟨p.val * 128 + l.val, by omega⟩))
  ∧ (∀ (r : Fin 512) (l : Fin 128), cur (ix3 0 r l) = a (ix3 (bat t) ⟨t.val % 16 * 512 + r.val, by omega⟩ ⟨p.val * 128 + l.val, by omega⟩))
  ∧ (∀ (h : t.val % 16 < 15) (r : Fin 64) (l : Fin 128), nxt (ix3 0 r l) = a (ix3 (bat t) ⟨t.val % 16 * 512 + 512 + r.val, by omega⟩ ⟨p.val * 128 + l.val, by omega⟩))

theorem q0_read (c : Dev nD) (t : Fin cfg0.N) (r : Fin 512) (l : Fin 128) :
    (iblk m c 0 t : FVec Ideal S1x512x128 .f32) (ix3 0 r l) = arg0 m c (ix3 (bat t) ⟨t.val % 16 * 512 + r.val, by omega⟩ ⟨(0 : Fin 2).val * 128 + l.val, by omega⟩) := by
  blk_point [iblk, V, idxA t]

theorem q1_read (c : Dev nD) (t : Fin cfg0.N) (r : Fin 512) (l : Fin 128) :
    (iblk m c 1 t : FVec Ideal S1x512x128 .f32) (ix3 0 r l) = arg0 m c (ix3 (bat t) ⟨t.val % 16 * 512 + r.val, by omega⟩ ⟨(1 : Fin 2).val * 128 + l.val, by omega⟩) := by
  blk_point [iblk, V, idxA t]

theorem k0_read (c : Dev nD) (t : Fin cfg0.N) : Around t 0 (arg1 m c) (iblk m c 2 t) (iblk m c 3 t) (iblk m c 4 t) := by
  refine ⟨fun h r l => ?_, fun r l => ?_, fun h r l => ?_⟩
  · blk_point [iblk, V, idxA t]
  · blk_point [iblk, V, idxA t]
  · blk_point [iblk, V, idxA t]

theorem k1_read (c : Dev nD) (t : Fin cfg0.N) : Around t 1 (arg1 m c) (iblk m c 5 t) (iblk m c 6 t) (iblk m c 7 t) := by
  refine ⟨fun h r l => ?_, fun r l => ?_, fun h r l => ?_⟩
  · blk_point [iblk, V, idxB t]
  · blk_point [iblk, V, idxB t]
  · blk_point [iblk, V, idxB t]

theorem v0_read (c : Dev nD) (t : Fin cfg0.N) : Around t 0 (arg2 m c) (iblk m c 8 t) (iblk m c 9 t) (iblk m c 10 t) := by
  refine ⟨fun h r l => ?_, fun r l => ?_, fun h r l => ?_⟩
  · blk_point [iblk, V, idxB t]
  · blk_point [iblk, V, idxB t]
  · blk_point [iblk, V, idxC t]

theorem v1_read (c : Dev nD) (t : Fin cfg0.N) : Around t 1 (arg2 m c) (iblk m c 11 t) (iblk m c 12 t) (iblk m c 13 t) := by
  refine ⟨fun h r l => ?_, fun r l => ?_, fun h r l => ?_⟩
  · blk_point [iblk, V, idxC t]
  · blk_point [iblk, V, idxC t]
  · blk_point [iblk, V, idxC t]

theorem table_read (c : Dev nD) (t : Fin cfg0.N) (h : Fin 4) (r : Fin 128) (y : Fin 256) :
    (iblk m c 14 t : FVec Ideal S1x4x128x256 .f32) (ix4 0 h r y) = (V m c main_v31 : FVec Ideal S3x4x128x256 .f32) (ix4 0 h r y) := by
  blk_point [iblk, idxC t]

end Cert.AttnBlocks

end
-- ==== Proof.AttnTile.lean ====
/- The attention kernel's tile of 128 query positions and a pair of heads: its payloads as one composition of scores,
   row maxima, weights and sums, the same for the four tiles of a block and the two pairs. -/
module

public import proofs.«01_k».proof.Proof.Gen.AttnIdeal.Frame
public import Idealize.ShloMosaic.Lib.Pointwise

@[expose] public section

set_option maxRecDepth 16384

noncomputable section

open Idealize.ShloMosaic Idealize.ShloMosaic.TcCoe Idealize.SL.Sem

namespace Cert.AttnTile
open Cert.AttnIdeal Cert.AttnIdeal.Gen

variable {F : FTy → Type} [FloatOps F] [Named F]

/-- The lanes of the pair's first head. -/
def low : IVec S1x128 1 := cmpi .slt (iota .tc S1x128 32 [1] iota_S1x128_d1_w32) (broadcast S1x128 64#32)

/-- The lanes of its second head. -/
def high : IVec S1x128 1 := xori low (constantI S1x128 1 1#1)

/-- The position of a window's first key, in words: 64 before the tile's first query. -/
def start (n off : BitVec 32) : BitVec 32 := Scalar.addi (Scalar.subi (Scalar.muli n 512#32) 64#32) off

/-- The window's columns whose key position lies in the sequence. -/
def inside (w : BitVec 32) : IVec S1x256 1 :=
  andi (cmpi .sge (addi (broadcast S1x256 w) (iota .tc S1x256 32 [1] iota_S1x256_d1_w32)) (broadcast S1x256 0#32))
    (cmpi .slt (addi (broadcast S1x256 w) (iota .tc S1x256 32 [1] iota_S1x256_d1_w32)) (broadcast S1x256 8192#32))

/-- The block's rows with the 64 before and the 64 after. -/
def full (p : FVec F S1x64x128 .f32) (c : FVec F S1x512x128 .f32) (n : FVec F S1x64x128 .f32) : FVec F S640x128 .bf16 :=
  truncf .bf16 (concatenate S640x128 0 [⟨S64x128, shapeCast S64x128 p shapeCasts_S1x64x128_S64x128⟩,
    ⟨S512x128, shapeCast S512x128 c shapeCasts_S1x512x128_S512x128⟩,
    ⟨S64x128, shapeCast S64x128 n shapeCasts_S1x64x128_S64x128⟩] concatenates_S64x128_S512x128_S64x128_S640x128_d0)
    bitsLt_bf16_f32

/-- The 256 rows around tile 0. -/
def win0 (f : FVec F S640x128 .bf16) : FVec F S256x128 .bf16 :=
  extractStridedSlice S256x128 ![0, 0] f slices_S640x128_o0_0_S256x128

/-- The 256 rows around tile 1. -/
def win1 (f : FVec F S640x128 .bf16) : FVec F S256x128 .bf16 :=
  extractStridedSlice S256x128 ![128, 0] f slices_S640x128_o128_0_S256x128

/-- The 256 rows around tile 2. -/
def win2 (f : FVec F S640x128 .bf16) : FVec F S256x128 .bf16 :=
  extractStridedSlice S256x128 ![256, 0] f slices_S640x128_o256_0_S256x128

/-- The 256 rows around tile 3. -/
def win3 (f : FVec F S640x128 .bf16) : FVec F S256x128 .bf16 :=
  extractStridedSlice S256x128 ![384, 0] f slices_S640x128_o384_0_S256x128

/-- The scores of a head: the products with the keys plus the biases, the mask where the key is outside. -/
def scores (sel : IVec S1x128 1) (ok : IVec S1x256 1) (q : FVec F S1x128x128 .f32) (kw : FVec F S256x128 .bf16)
    (tb : FVec F S1x1x128x256 .f32) : FVec F S128x256 .f32 :=
  select (broadcastTo S128x256 (shapeCast S1x256 ok shapeCasts_S1x256_S1x256) broadcasts_S1x256_S128x256)
    (addf (matmul dot_S128x128_S256x128_S128x256_1_1_0_0_n_n none
        (truncf .bf16 (select (broadcastTo S128x128 (shapeCast S1x128 sel shapeCasts_S1x128_S1x128) broadcasts_S1x128_S128x128)
          (shapeCast S128x128 q shapeCasts_S1x128x128_S128x128) (broadcast S128x128 (Scalar.ofBits .f32 0x00000000#32)))
          bitsLt_bf16_f32) kw (constant S128x256 .f32 0x00000000#32))
      (shapeCast S128x256 tb shapeCasts_S1x1x128x256_S128x256))
    (broadcast S128x256 (Named.named κ "mask" 0xF149F2CA#32))

/-- The rows' maxima. -/
def peaks (s : FVec F S128x256 .f32) : FVec F S128x1 .f32 :=
  shapeCast S128x1 (multiReduction .maximumf [1] S128 s 0xFF800000#32 reduces_S128x256_S128 (.inl rfl) rfl)
    shapeCasts_S128_S128x1

/-- The weights. -/
def weights (s : FVec F S128x256 .f32) : FVec F S128x256 .f32 :=
  exp (subf s (broadcastTo S128x256 (peaks s) broadcasts_S128x1_S128x256))

/-- Their sums. -/
def totals (s : FVec F S128x256 .f32) : FVec F S128x1 .f32 :=
  shapeCast S128x1 (multiReduction .add [1] S128 (weights s) 0x00000000#32 reduces_S128x256_S128 (.inl rfl) rfl)
    shapeCasts_S128_S128x1

/-- The weighted means of the values. -/
def mixed (s : FVec F S128x256 .f32) (vw : FVec F S256x128 .bf16) : FVec F S128x128 .f32 :=
  divf (matmul dot_S128x256_S256x128_S128x128_1_0_0_1_n_n none (truncf .bf16 (weights s) bitsLt_bf16_f32) vw
      (constant S128x128 .f32 0x00000000#32))
    (broadcastTo S128x128 (totals s) broadcasts_S128x1_S128x128)

/-- The log-denominators. -/
def logden (s : FVec F S128x256 .f32) : FVec F S128x1 .f32 := addf (peaks s) (log (totals s))

/-- What a tile stores of the outputs. -/
def tileO (s0 s1 : FVec F S128x256 .f32) (vw : FVec F S256x128 .bf16) : FVec F S1x128x128 .f32 :=
  shapeCast S1x128x128 (select (broadcastTo S128x128 (shapeCast S1x128 low shapeCasts_S1x128_S1x128) broadcasts_S1x128_S128x128)
    (mixed s0 vw) (mixed s1 vw)) shapeCasts_S128x128_S1x128x128

/-- What a tile stores of the log-denominators. -/
def tileL (s0 s1 : FVec F S128x256 .f32) : FVec F S1x128x128 .f32 :=
  shapeCast S1x128x128 (select (broadcastTo S128x128 (shapeCast S1x128 low shapeCasts_S1x128_S1x128) broadcasts_S1x128_S128x128)
    (broadcastTo S128x128 (shapeCast S128x1 (logden s0) shapeCasts_S128x1_S128x1) broadcasts_S128x1_S128x128)
    (broadcastTo S128x128 (shapeCast S128x1 (logden s1) shapeCasts_S128x1_S128x1) broadcasts_S128x1_S128x128))
    shapeCasts_S128x128_S1x128x128

/-- The outputs' block of pair 0, tile by tile. -/
theorem out15 (i : grid0.Coords) (x0 : Vec F S1x512x128 .f32) (x1 : Vec F S1x512x128 .f32) (x2 : Vec F S1x64x128 .f32) (x3 : Vec F S1x512x128 .f32) (x4 : Vec F S1x64x128 .f32) (x5 : Vec F S1x64x128 .f32) (x6 : Vec F S1x512x128 .f32) (x7 : Vec F S1x64x128 .f32) (x8 : Vec F S1x64x128 .f32) (x9 : Vec F S1x512x128 .f32) (x10 : Vec F S1x64x128 .f32) (x11 : Vec F S1x64x128 .f32) (x12 : Vec F S1x512x128 .f32) (x13 : Vec F S1x64x128 .f32) (x14 : Vec F S1x4x128x256 .f32) :
    out0_15 i x0 x1 x2 x3 x4 x5 x6 x7 x8 x9 x10 x11 x12 x13 x14 = View.canon [
      ⟨r0_7, tileO (scores low (inside (start (BitVec.ofNat 32 (i 1).val) 384#32)) (View.ld x0 r0_7)
        (win3 (full (View.ld x2 r0_0) (View.ld x3 r0_1) (View.ld x4 r0_0))) (View.ld x14 r0_3))
        (scores high (inside (start (BitVec.ofNat 32 (i 1).val) 384#32)) (View.ld x0 r0_7)
        (win3 (full (View.ld x2 r0_0) (View.ld x3 r0_1) (View.ld x4 r0_0))) (View.ld x14 r0_4))
        (win3 (full (View.ld x8 r0_0) (View.ld x9 r0_1) (View.ld x10 r0_0)))⟩,
      ⟨r0_6, tileO (scores low (inside (start (BitVec.ofNat 32 (i 1).val) 256#32)) (View.ld x0 r0_6)
        (win2 (full (View.ld x2 r0_0) (View.ld x3 r0_1) (View.ld x4 r0_0))) (View.ld x14 r0_3))
        (scores high (inside (start (BitVec.ofNat 32 (i 1).val) 256#32)) (View.ld x0 r0_6)
        (win2 (full (View.ld x2 r0_0) (View.ld x3 r0_1) (View.ld x4 r0_0))) (View.ld x14 r0_4))
        (win2 (full (View.ld x8 r0_0) (View.ld x9 r0_1) (View.ld x10 r0_0)))⟩,
      ⟨r0_5, tileO (scores low (inside (start (BitVec.ofNat 32 (i 1).val) 128#32)) (View.ld x0 r0_5)
        (win1 (full (View.ld x2 r0_0) (View.ld x3 r0_1) (View.ld x4 r0_0))) (View.ld x14 r0_3))
        (scores high (inside (start (BitVec.ofNat 32 (i 1).val) 128#32)) (View.ld x0 r0_5)
        (win1 (full (View.ld x2 r0_0) (View.ld x3 r0_1) (View.ld x4 r0_0))) (View.ld x14 r0_4))
        (win1 (full (View.ld x8 r0_0) (View.ld x9 r0_1) (View.ld x10 r0_0)))⟩,
      ⟨r0_2, tileO (scores low (inside (start (BitVec.ofNat 32 (i 1).val) 0#32)) (View.ld x0 r0_2)
        (win0 (full (View.ld x2 r0_0) (View.ld x3 r0_1) (View.ld x4 r0_0))) (View.ld x14 r0_3))
        (scores high (inside (start (BitVec.ofNat 32 (i 1).val) 0#32)) (View.ld x0 r0_2)
        (win0 (full (View.ld x2 r0_0) (View.ld x3 r0_1) (View.ld x4 r0_0))) (View.ld x14 r0_4))
        (win0 (full (View.ld x8 r0_0) (View.ld x9 r0_1) (View.ld x10 r0_0)))⟩] := rfl

/-- The log-denominators' block of pair 0, tile by tile. -/
theorem out17 (i : grid0.Coords) (x0 : Vec F S1x512x128 .f32) (x1 : Vec F S1x512x128 .f32) (x2 : Vec F S1x64x128 .f32) (x3 : Vec F S1x512x128 .f32) (x4 : Vec F S1x64x128 .f32) (x5 : Vec F S1x64x128 .f32) (x6 : Vec F S1x512x128 .f32) (x7 : Vec F S1x64x128 .f32) (x8 : Vec F S1x64x128 .f32) (x9 : Vec F S1x512x128 .f32) (x10 : Vec F S1x64x128 .f32) (x11 : Vec F S1x64x128 .f32) (x12 : Vec F S1x512x128 .f32) (x13 : Vec F S1x64x128 .f32) (x14 : Vec F S1x4x128x256 .f32) :
    out0_17 i x0 x1 x2 x3 x4 x5 x6 x7 x8 x9 x10 x11 x12 x13 x14 = View.canon [
      ⟨r0_7, tileL (scores low (inside (start (BitVec.ofNat 32 (i 1).val) 384#32)) (View.ld x0 r0_7)
        (win3 (full (View.ld x2 r0_0) (View.ld x3 r0_1) (View.ld x4 r0_0))) (View.ld x14 r0_3))
        (scores high (inside (start (BitVec.ofNat 32 (i 1).val) 384#32)) (View.ld x0 r0_7)
        (win3 (full (View.ld x2 r0_0) (View.ld x3 r0_1) (View.ld x4 r0_0))) (View.ld x14 r0_4))⟩,
      ⟨r0_6, tileL (scores low (inside (start (BitVec.ofNat 32 (i 1).val) 256#32)) (View.ld x0 r0_6)
        (win2 (full (View.ld x2 r0_0) (View.ld x3 r0_1) (View.ld x4 r0_0))) (View.ld x14 r0_3))
        (scores high (inside (start (BitVec.ofNat 32 (i 1).val) 256#32)) (View.ld x0 r0_6)
        (win2 (full (View.ld x2 r0_0) (View.ld x3 r0_1) (View.ld x4 r0_0))) (View.ld x14 r0_4))⟩,
      ⟨r0_5, tileL (scores low (inside (start (BitVec.ofNat 32 (i 1).val) 128#32)) (View.ld x0 r0_5)
        (win1 (full (View.ld x2 r0_0) (View.ld x3 r0_1) (View.ld x4 r0_0))) (View.ld x14 r0_3))
        (scores high (inside (start (BitVec.ofNat 32 (i 1).val) 128#32)) (View.ld x0 r0_5)
        (win1 (full (View.ld x2 r0_0) (View.ld x3 r0_1) (View.ld x4 r0_0))) (View.ld x14 r0_4))⟩,
      ⟨r0_2, tileL (scores low (inside (start (BitVec.ofNat 32 (i 1).val) 0#32)) (View.ld x0 r0_2)
        (win0 (full (View.ld x2 r0_0) (View.ld x3 r0_1) (View.ld x4 r0_0))) (View.ld x14 r0_3))
        (scores high (inside (start (BitVec.ofNat 32 (i 1).val) 0#32)) (View.ld x0 r0_2)
        (win0 (full (View.ld x2 r0_0) (View.ld x3 r0_1) (View.ld x4 r0_0))) (View.ld x14 r0_4))⟩] := rfl

/-- The outputs' block of pair 1, tile by tile. -/
theorem out16 (i : grid0.Coords) (x0 : Vec F S1x512x128 .f32) (x1 : Vec F S1x512x128 .f32) (x2 : Vec F S1x64x128 .f32) (x3 : Vec F S1x512x128 .f32) (x4 : Vec F S1x64x128 .f32) (x5 : Vec F S1x64x128 .f32) (x6 : Vec F S1x512x128 .f32) (x7 : Vec F S1x64x128 .f32) (x8 : Vec F S1x64x128 .f32) (x9 : Vec F S1x512x128 .f32) (x10 : Vec F S1x64x128 .f32) (x11 : Vec F S1x64x128 .f32) (x12 : Vec F S1x512x128 .f32) (x13 : Vec F S1x64x128 .f32) (x14 : Vec F S1x4x128x256 .f32) :
    out0_16 i x0 x1 x2 x3 x4 x5 x6 x7 x8 x9 x10 x11 x12 x13 x14 = View.canon [
      ⟨r0_7, tileO (scores low (inside (start (BitVec.ofNat 32 (i 1).val) 384#32)) (View.ld x1 r0_7)
        (win3 (full (View.ld x5 r0_0) (View.ld x6 r0_1) (View.ld x7 r0_0))) (View.ld x14 r0_8))
        (scores high (inside (start (BitVec.ofNat 32 (i 1).val) 384#32)) (View.ld x1 r0_7)
        (win3 (full (View.ld x5 r0_0) (View.ld x6 r0_1) (View.ld x7 r0_0))) (View.ld x14 r0_9))
        (win3 (full (View.ld x11 r0_0) (View.ld x12 r0_1) (View.ld x13 r0_0)))⟩,
      ⟨r0_6, tileO (scores low (inside (start (BitVec.ofNat 32 (i 1).val) 256#32)) (View.ld x1 r0_6)
        (win2 (full (View.ld x5 r0_0) (View.ld x6 r0_1) (View.ld x7 r0_0))) (View.ld x14 r0_8))
        (scores high (inside (start (BitVec.ofNat 32 (i 1).val) 256#32)) (View.ld x1 r0_6)
        (win2 (full (View.ld x5 r0_0) (View.ld x6 r0_1) (View.ld x7 r0_0))) (View.ld x14 r0_9))
        (win2 (full (View.ld x11 r0_0) (View.ld x12 r0_1) (View.ld x13 r0_0)))⟩,
      ⟨r0_5, tileO (scores low (inside (start (BitVec.ofNat 32 (i 1).val) 128#32)) (View.ld x1 r0_5)
        (win1 (full (View.ld x5 r0_0) (View.ld x6 r0_1) (View.ld x7 r0_0))) (View.ld x14 r0_8))
        (scores high (inside (start (BitVec.ofNat 32 (i 1).val) 128#32)) (View.ld x1 r0_5)
        (win1 (full (View.ld x5 r0_0) (View.ld x6 r0_1) (View.ld x7 r0_0))) (View.ld x14 r0_9))
        (win1 (full (View.ld x11 r0_0) (View.ld x12 r0_1) (View.ld x13 r0_0)))⟩,
      ⟨r0_2, tileO (scores low (inside (start (BitVec.ofNat 32 (i 1).val) 0#32)) (View.ld x1 r0_2)
        (win0 (full (View.ld x5 r0_0) (View.ld x6 r0_1) (View.ld x7 r0_0))) (View.ld x14 r0_8))
        (scores high (inside (start (BitVec.ofNat 32 (i 1).val) 0#32)) (View.ld x1 r0_2)
        (win0 (full (View.ld x5 r0_0) (View.ld x6 r0_1) (View.ld x7 r0_0))) (View.ld x14 r0_9))
        (win0 (full (View.ld x11 r0_0) (View.ld x12 r0_1) (View.ld x13 r0_0)))⟩] := rfl

/-- The log-denominators' block of pair 1, tile by tile. -/
theorem out18 (i : grid0.Coords) (x0 : Vec F S1x512x128 .f32) (x1 : Vec F S1x512x128 .f32) (x2 : Vec F S1x64x128 .f32) (x3 : Vec F S1x512x128 .f32) (x4 : Vec F S1x64x128 .f32) (x5 : Vec F S1x64x128 .f32) (x6 : Vec F S1x512x128 .f32) (x7 : Vec F S1x64x128 .f32) (x8 : Vec F S1x64x128 .f32) (x9 : Vec F S1x512x128 .f32) (x10 : Vec F S1x64x128 .f32) (x11 : Vec F S1x64x128 .f32) (x12 : Vec F S1x512x128 .f32) (x13 : Vec F S1x64x128 .f32) (x14 : Vec F S1x4x128x256 .f32) :
    out0_18 i x0 x1 x2 x3 x4 x5 x6 x7 x8 x9 x10 x11 x12 x13 x14 = View.canon [
      ⟨r0_7, tileL (scores low (inside (start (BitVec.ofNat 32 (i 1).val) 384#32)) (View.ld x1 r0_7)
        (win3 (full (View.ld x5 r0_0) (View.ld x6 r0_1) (View.ld x7 r0_0))) (View.ld x14 r0_8))
        (scores high (inside (start (BitVec.ofNat 32 (i 1).val) 384#32)) (View.ld x1 r0_7)
        (win3 (full (View.ld x5 r0_0) (View.ld x6 r0_1) (View.ld x7 r0_0))) (View.ld x14 r0_9))⟩,
      ⟨r0_6, tileL (scores low (inside (start (BitVec.ofNat 32 (i 1).val) 256#32)) (View.ld x1 r0_6)
        (win2 (full (View.ld x5 r0_0) (View.ld x6 r0_1) (View.ld x7 r0_0))) (View.ld x14 r0_8))
        (scores high (inside (start (BitVec.ofNat 32 (i 1).val) 256#32)) (View.ld x1 r0_6)
        (win2 (full (View.ld x5 r0_0) (View.ld x6 r0_1) (View.ld x7 r0_0))) (View.ld x14 r0_9))⟩,
      ⟨r0_5, tileL (scores low (inside (start (BitVec.ofNat 32 (i 1).val) 128#32)) (View.ld x1 r0_5)
        (win1 (full (View.ld x5 r0_0) (View.ld x6 r0_1) (View.ld x7 r0_0))) (View.ld x14 r0_8))
        (scores high (inside (start (BitVec.ofNat 32 (i 1).val) 128#32)) (View.ld x1 r0_5)
        (win1 (full (View.ld x5 r0_0) (View.ld x6 r0_1) (View.ld x7 r0_0))) (View.ld x14 r0_9))⟩,
      ⟨r0_2, tileL (scores low (inside (start (BitVec.ofNat 32 (i 1).val) 0#32)) (View.ld x1 r0_2)
        (win0 (full (View.ld x5 r0_0) (View.ld x6 r0_1) (View.ld x7 r0_0))) (View.ld x14 r0_8))
        (scores high (inside (start (BitVec.ofNat 32 (i 1).val) 0#32)) (View.ld x1 r0_2)
        (win0 (full (View.ld x5 r0_0) (View.ld x6 r0_1) (View.ld x7 r0_0))) (View.ld x14 r0_9))⟩] := rfl

end Cert.AttnTile

end
-- ==== Proof.AttnRow.lean ====
/- The mean of a row of values under the weights exp(score - maximum), and the logarithm of the weights' sum shifted back: scores
   of minus infinity may be added or dropped without changing either. -/
module

public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.AttnRow

/-- The largest score of a row. -/
def peak {n : Nat} (s : Fin n → EReal) : EReal :=
  (Finset.univ : Finset (Fin n)).fold max (Ideal.ofBits FTy.f32 4286578688#32) s

/-- The sum of a row's weights. -/
def total {n : Nat} (s : Fin n → EReal) : EReal := ∑ k, Ideal.exp (s k - peak s)

/-- The values' mean under a row's weights. -/
def mean {n : Nat} (s v : Fin n → EReal) : EReal := Ideal.div (∑ k, Ideal.exp (s k - peak s) * v k) (total s)

/-- The logarithm of a row's denominator. -/
def logden {n : Nat} (s : Fin n → EReal) : EReal := peak s + Ideal.log (total s)

theorem bottom : Ideal.ofBits FTy.f32 4286578688#32 = (⊥ : EReal) := by
  simp [Ideal.ofBits, Ideal.ieee]

theorem peak_eq_sup {n : Nat} (s : Fin n → EReal) : peak s = Finset.univ.sup s := by
  unfold peak
  rw [bottom]
  rfl

/-- A row padded with minus infinity on both sides has the same largest score. -/
theorem peak_shift {n m : Nat} (f : Fin n → Fin m) (s : Fin n → EReal) (s' : Fin m → EReal)
    (hs : ∀ k, s' (f k) = s k) (hb : ∀ j, (∀ k, f k ≠ j) → s' j = ⊥) : peak s' = peak s := by
  rw [peak_eq_sup, peak_eq_sup]
  apply le_antisymm
  · refine Finset.sup_le fun j _ => ?_
    by_cases h : ∃ k, f k = j
    · obtain ⟨k, rfl⟩ := h
      rw [hs]
      exact Finset.le_sup (f := s) (Finset.mem_univ k)
    · rw [hb j fun k e => h ⟨k, e⟩]
      exact bot_le
  · refine Finset.sup_le fun k _ => ?_
    rw [← hs]
    exact Finset.le_sup (f := s') (Finset.mem_univ (f k))

/-- A sum over the longer row whose terms vanish off the shorter one. -/
theorem sum_shift {n m : Nat} (f : Fin n → Fin m) (hf : Function.Injective f) (a : Fin n → EReal) (a' : Fin m → EReal)
    (ha : ∀ k, a' (f k) = a k) (hz : ∀ j, (∀ k, f k ≠ j) → a' j = 0) : ∑ j, a' j = ∑ k, a k := by
  classical
  rw [← Finset.sum_congr rfl fun k _ => ha k]
  rw [← Finset.sum_image (f := a') (s := Finset.univ) (g := f) fun x _ y _ e => hf e]
  refine (Finset.sum_subset (Finset.subset_univ _) fun j _ hj => hz j fun k e => hj ?_).symm
  exact Finset.mem_image.2 ⟨k, Finset.mem_univ k, e⟩

theorem weight_bot (m : EReal) : Ideal.exp (⊥ - m) = 0 := by
  rw [EReal.bot_sub]
  exact Ideal.exp_bot

theorem total_shift {n m : Nat} (f : Fin n → Fin m) (hf : Function.Injective f) (s : Fin n → EReal) (s' : Fin m → EReal)
    (hs : ∀ k, s' (f k) = s k) (hb : ∀ j, (∀ k, f k ≠ j) → s' j = ⊥) : total s' = total s := by
  unfold total
  rw [peak_shift f s s' hs hb]
  refine sum_shift f hf _ _ (fun k => by rw [hs]) fun j hj => ?_
  rw [hb j hj]
  exact weight_bot _

theorem mean_shift {n m : Nat} (f : Fin n → Fin m) (hf : Function.Injective f) (s v : Fin n → EReal) (s' v' : Fin m → EReal)
    (hs : ∀ k, s' (f k) = s k) (hb : ∀ j, (∀ k, f k ≠ j) → s' j = ⊥) (hv : ∀ k, s k = ⊥ ∨ v' (f k) = v k) :
    mean s' v' = mean s v := by
  unfold mean
  rw [peak_shift f s s' hs hb, total_shift f hf s s' hs hb]
  congr 1
  refine sum_shift f hf _ _ (fun k => ?_) fun j hj => ?_
  · rw [hs]
    rcases hv k with h | h
    · rw [h, weight_bot, zero_mul, zero_mul]
    · rw [h]
  · rw [hb j hj, weight_bot, zero_mul]

theorem logden_shift {n m : Nat} (f : Fin n → Fin m) (hf : Function.Injective f) (s : Fin n → EReal) (s' : Fin m → EReal)
    (hs : ∀ k, s' (f k) = s k) (hb : ∀ j, (∀ k, f k ≠ j) → s' j = ⊥) : logden s' = logden s := by
  unfold logden
  rw [peak_shift f s s' hs hb, total_shift f hf s s' hs hb]

end Cert.AttnRow

end
-- ==== Proof.AttnLine.lean ====
/- A query's row of scores over a window of keys, as mathematics, and that a narrower window that holds every counted key
   gives the same mean and log-denominator. -/
module

public import proofs.«01_k».proof.Proof.AttnRow

@[expose] public section

set_option maxRecDepth 16384

noncomputable section

open Idealize.ShloMosaic Idealize.ShloMosaic.TcCoe Idealize.SL.Sem

namespace Cert.AttnLine
open Cert.AttnRow

/-- A sequence of 768 channels at 8192 positions, in a batch of eight. -/
abbrev Seq : Type := FVec Ideal ⟨3, ![8, 8192, 768]⟩ .f32

/-- The four heads' biases at the 129 distances. -/
abbrev Bias : Type := FVec Ideal ⟨2, ![4, 129]⟩ .f32

/-- The score of the query at `s` and the key at `p` in head `h`. -/
def pair (q k : Seq) (v : Bias) (b : Fin 8) (h : Fin 4) (s p : Fin 8192) : EReal :=
  (∑ e : Fin 64, q (ix3 b s ⟨h.val * 64 + e.val, by omega⟩) * k (ix3 b p ⟨h.val * 64 + e.val, by omega⟩))
    + v (ix2 h ⟨min (p.val + 64 - s.val) 128, by omega⟩)

/-- Whether column `c` of a window that starts 64 before `base` counts for the query at row `r` behind `base`. -/
abbrev Counts (base r c : Nat) : Prop := (r ≤ c ∧ c ≤ r + 128) ∧ 64 ≤ base + c ∧ base + c < 8256

/-- A query's scores over a window of `N` columns. -/
def line (N : Nat) (q k : Seq) (v : Bias) (b : Fin 8) (h : Fin 4) (s : Fin 8192) (base r : Nat) (c : Fin N) : EReal :=
  if hc : Counts base r c.val then pair q k v b h s ⟨base + c.val - 64, by omega⟩ else ⊥

/-- The columns of the narrow window inside the wide one. -/
def into (o : Nat) (ho : o ≤ 64) (c : Fin 192) : Fin 256 := ⟨c.val + o, by omega⟩

theorem into_injective (o : Nat) (ho : o ≤ 64) : Function.Injective (into o ho) := fun x y e => by
  have := congrArg Fin.val e
  simp only [into] at this
  exact Fin.ext (by omega)

section Shift
variable (q k : Seq) (v : Bias) (b : Fin 8) (h : Fin 4) (s : Fin 8192) (base r o : Nat) (ho : o ≤ 64) (hr : o ≤ r) (hr' : r < o + 64)

include hr in
theorem line_into (c : Fin 192) :
    line 256 q k v b h s base r (into o ho c) = line 192 q k v b h s (base + o) (r - o) c := by
  unfold line
  by_cases hc : Counts (base + o) (r - o) c.val
  · have hc' : Counts base r (into o ho c).val := by simp only [into]; omega
    rw [dif_pos hc, dif_pos hc']
    refine congrArg (pair q k v b h s) (Fin.ext ?_)
    simp only [into]
    omega
  · have hc' : ¬ Counts base r (into o ho c).val := by simp only [into]; omega
    rw [dif_neg hc, dif_neg hc']

include ho hr hr' in
theorem line_outside (j : Fin 256) (hj : ∀ c, into o ho c ≠ j) : line 256 q k v b h s base r j = ⊥ := by
  unfold line
  refine dif_neg fun hc => ?_
  have h1 : j.val - o < 192 := by omega
  exact hj ⟨j.val - o, h1⟩ (Fin.ext (by simp only [into]; omega))

include ho hr hr' in
/-- A query's output over the wide window is its output over the narrow one, where the values agree at the columns that count. -/
theorem mean_into (w : Fin 192 → EReal) (w' : Fin 256 → EReal)
    (hw : ∀ c, Counts (base + o) (r - o) c.val → w' (into o ho c) = w c) :
    mean (line 256 q k v b h s base r) w' = mean (line 192 q k v b h s (base + o) (r - o)) w := by
  refine mean_shift (into o ho) (into_injective o ho) _ _ _ _ (line_into q k v b h s base r o ho hr)
    (line_outside q k v b h s base r o ho hr hr') fun c => ?_
  by_cases hc : Counts (base + o) (r - o) c.val
  · exact Or.inr (hw c hc)
  · exact Or.inl (dif_neg hc)

include ho hr hr' in
theorem logden_into :
    logden (line 256 q k v b h s base r) = logden (line 192 q k v b h s (base + o) (r - o)) :=
  logden_shift (into o ho) (into_injective o ho) _ _ (line_into q k v b h s base r o ho hr)
    (line_outside q k v b h s base r o ho hr hr')

end Shift

end Cert.AttnLine

end
-- ==== Proof.AttnKernel.lean ====
/- The attention kernel's tile read at an entry: the mean and log-denominator of a query's row of scores over 256 keys. -/
module

public import proofs.«01_k».proof.Proof.AttnTile
public import proofs.«01_k».proof.Proof.AttnLine

@[expose] public section

set_option maxRecDepth 16384

noncomputable section

open Idealize.ShloMosaic Idealize.ShloMosaic.TcCoe Idealize.SL.Sem

namespace Cert.AttnKernel
open Cert.AttnIdeal Cert.AttnIdeal.Gen Cert.AttnTile Cert.AttnLine Cert.AttnRow

theorem low_eq (l : Fin 128) : low (ix2 0 l) = if l.val < 64 then 1#1 else 0#1 := by
  have e : ∀ l : Fin 128, IntOp.cmpi .slt (BitVec.ofNat 32 l.val) 64#32 = if l.val < 64 then 1#1 else 0#1 := by decide +kernel
  refine Eq.trans ?_ (e l)
  pointwise [low]

theorem high_eq (l : Fin 128) : high (ix2 0 l) = if 64 ≤ l.val then 1#1 else 0#1 := by
  have e : high (ix2 0 l) = IntOp.xori (low (ix2 0 l)) 1#1 := by pointwise [high]
  rw [e, low_eq]
  by_cases h : l.val < 64
  · rw [if_pos h, if_neg (by omega)]; rfl
  · rw [if_neg h, if_pos (by omega)]; rfl

theorem inside_apply (w : BitVec 32) (c : Fin 256) :
    inside w (ix2 0 c) = IntOp.andi (IntOp.cmpi .sge (IntOp.addi w (BitVec.ofNat 32 c.val)) 0#32)
      (IntOp.cmpi .slt (IntOp.addi w (BitVec.ofNat 32 c.val)) 8192#32) := by
  pointwise [inside]

theorem sum_low (f : Fin 128 → EReal) :
    ∑ l : Fin 128, (if l.val < 64 then f l else 0) = ∑ e : Fin 64, f ⟨0 + e.val, by omega⟩ := by
  refine sum_shift (fun e : Fin 64 => (⟨0 + e.val, by omega⟩ : Fin 128)) (fun x y e => Fin.ext (by simpa using congrArg Fin.val e)) _ _
    (fun e => if_pos (by show 0 + e.val < 64; omega)) fun l hl => if_neg fun h => hl ⟨l.val, h⟩ (Fin.ext (by simp))

theorem sum_high (f : Fin 128 → EReal) :
    ∑ l : Fin 128, (if 64 ≤ l.val then f l else 0) = ∑ e : Fin 64, f ⟨64 + e.val, by omega⟩ := by
  refine sum_shift (fun e : Fin 64 => (⟨64 + e.val, by omega⟩ : Fin 128)) (fun x y e => Fin.ext (by simpa using congrArg Fin.val e)) _ _
    (fun e => if_pos (by show 64 ≤ 64 + e.val; omega)) fun l hl => if_neg fun h => hl ⟨l.val - 64, by omega⟩ (Fin.ext (by simp; omega))

theorem scores_apply (sel : IVec S1x128 1) (ok : IVec S1x256 1) (q : FVec Ideal S1x128x128 .f32) (kw : FVec Ideal S256x128 .bf16)
    (tb : FVec Ideal S1x1x128x256 .f32) (r : Fin 128) (y : Fin 256) :
    scores (F := Ideal) sel ok q kw tb (ix2 r y)
      = Scalar.select (ok (ix2 0 y)) (∑ x : Fin 128, Scalar.select (sel (ix2 0 x)) (q (ix3 0 r x) * kw (ix2 y x)) 0 + tb (ix4 0 0 r y)) ⊥ := by
  pointwise [scores]
  have e : (Named.named κ "mask" 4048155338#32 : Ideal .f32) = (⊥ : EReal) := by
    rfl
  rw [e]

theorem peaks_eq (s : FVec Ideal S128x256 .f32) (r : Fin 128) (y : Fin 1) :
    peaks (F := Ideal) s (ix2 r y) = peak fun c => s (ix2 r c) := by
  pointwise [peaks]
  rfl

theorem totals_eq (s : FVec Ideal S128x256 .f32) (r : Fin 128) (y : Fin 1) :
    totals (F := Ideal) s (ix2 r y) = total fun c => s (ix2 r c) := by
  pointwise [totals, weights]
  unfold total
  rw [peaks_eq]

theorem mixed_eq (s : FVec Ideal S128x256 .f32) (vw : FVec Ideal S256x128 .bf16) (r : Fin 128) (y : Fin 128) :
    mixed (F := Ideal) s vw (ix2 r y) = mean (fun c => s (ix2 r c)) fun c => vw (ix2 c y) := by
  pointwise [mixed, weights]
  unfold mean
  rw [peaks_eq, totals_eq]

theorem logden_eq (s : FVec Ideal S128x256 .f32) (r : Fin 128) :
    AttnTile.logden (F := Ideal) s (ix2 r 0) = AttnRow.logden fun c => s (ix2 r c) := by
  pointwise [AttnTile.logden]
  rw [peaks_eq, totals_eq]
  rfl

theorem tileO_apply (s0 s1 : FVec Ideal S128x256 .f32) (vw : FVec Ideal S256x128 .bf16) (r l : Fin 128) :
    tileO (F := Ideal) s0 s1 vw (ix3 0 r l) = Scalar.select (low (ix2 0 l)) (mixed s0 vw (ix2 r l)) (mixed s1 vw (ix2 r l)) := by
  pointwise [tileO]

theorem tileL_apply (s0 s1 : FVec Ideal S128x256 .f32) (r l : Fin 128) :
    tileL (F := Ideal) s0 s1 (ix3 0 r l)
      = Scalar.select (low (ix2 0 l)) (AttnTile.logden s0 (ix2 r 0)) (AttnTile.logden s1 (ix2 r 0)) := by
  pointwise [tileL]

theorem select_if {α : Type} (p : Prop) [Decidable p] (x y : α) : Scalar.select (if p then 1#1 else 0#1) x y = if p then x else y := by
  by_cases h : p <;> simp [h, Scalar.select]

/-- The biases as the table holds them. -/
abbrev Holds (v : Bias) (h : Fin 4) (tb : FVec Ideal S1x1x128x256 .f32) : Prop :=
  ∀ (r : Fin 128) (c : Fin 256), tb (ix4 0 0 r c)
    = if r.val ≤ c.val ∧ c.val ≤ r.val + 128 then v (ix2 h ⟨min (c.val - r.val) 128, by omega⟩) else ⊥

theorem row_lt (base : Nat) (h : base + 128 ≤ 8192) (r : Fin 128) : base + r.val < 8192 := by omega
theorem key_lt (base : Nat) (c : Fin 256) (h : 64 ≤ base + c.val ∧ base + c.val < 8256) : base + c.val - 64 < 8192 := by omega
theorem lane_lt (p : Fin 2) (l : Fin 128) : p.val * 128 + l.val < 768 := by omega
theorem even_lt (p : Fin 2) : p.val * 2 + 0 < 4 := by omega
theorem odd_lt (p : Fin 2) : p.val * 2 + 1 < 4 := by omega
theorem head_lt (p : Fin 2) (l : Fin 128) : p.val * 2 + l.val / 64 < 4 := by omega

section Tile
variable (Q K : Seq) (v : Bias) (b : Fin 8) (p : Fin 2) (base : Nat) (hbase : base + 128 ≤ 8192)
  (ok : IVec S1x256 1) (hok : ∀ c : Fin 256, ok (ix2 0 c) = if 64 ≤ base + c.val ∧ base + c.val < 8256 then 1#1 else 0#1)
  (q : FVec Ideal S1x128x128 .f32) (hq : ∀ r l : Fin 128, q (ix3 0 r l) = Q (ix3 b ⟨base + r.val, row_lt base hbase r⟩ ⟨p.val * 128 + l.val, lane_lt p l⟩))
  (kw : FVec Ideal S256x128 .bf16) (hk : ∀ (c : Fin 256) (l : Fin 128) (hc : 64 ≤ base + c.val ∧ base + c.val < 8256),
    kw (ix2 c l) = K (ix3 b ⟨base + c.val - 64, key_lt base c hc⟩ ⟨p.val * 128 + l.val, lane_lt p l⟩))

include hok hq hk in
theorem scores_low (tb : FVec Ideal S1x1x128x256 .f32) (htb : Holds v ⟨p.val * 2 + 0, even_lt p⟩ tb) (r : Fin 128) (c : Fin 256) :
    scores (F := Ideal) low ok q kw tb (ix2 r c) = line 256 Q K v b ⟨p.val * 2 + 0, even_lt p⟩ ⟨base + r.val, row_lt base hbase r⟩ base r.val c := by
  rw [scores_apply, hok, select_if, htb]
  unfold line
  by_cases hc : 64 ≤ base + c.val ∧ base + c.val < 8256
  · rw [if_pos hc]
    by_cases hn : r.val ≤ c.val ∧ c.val ≤ r.val + 128
    · rw [if_pos hn, dif_pos ⟨hn, hc⟩]
      unfold pair
      refine congrArg₂ (· + ·) ?_ (congrArg v (congrArg (ix2 _) (Fin.ext ?_)))
      · refine Eq.trans (Finset.sum_congr rfl fun l _ => ?_) (sum_low fun l : Fin 128 =>
          Q (ix3 b ⟨base + r.val, by omega⟩ ⟨p.val * 128 + l.val, by omega⟩) * K (ix3 b ⟨base + c.val - 64, by omega⟩ ⟨p.val * 128 + l.val, by omega⟩)) |>.trans ?_
        · rw [low_eq, select_if, hq, hk c l hc]
        · refine Finset.sum_congr rfl fun e _ => ?_
          have e1 : (⟨p.val * 128 + (0 + e.val), by omega⟩ : Fin 768) = ⟨(p.val * 2 + 0) * 64 + e.val, by omega⟩ := Fin.ext (by show p.val * 128 + (0 + e.val) = (p.val * 2 + 0) * 64 + e.val; omega)
          exact congrArg (fun j : Fin 768 => Q (ix3 b ⟨base + r.val, by omega⟩ j) * K (ix3 b ⟨base + c.val - 64, by omega⟩ j)) e1
      · show min (c.val - r.val) 128 = min (base + c.val - 64 + 64 - (base + r.val)) 128
        omega
    · rw [if_neg hn, dif_neg fun h => hn h.1]
      exact EReal.add_bot _
  · rw [if_neg hc, dif_neg fun h => hc h.2]

include hok hq hk in
theorem scores_high (tb : FVec Ideal S1x1x128x256 .f32) (htb : Holds v ⟨p.val * 2 + 1, odd_lt p⟩ tb) (r : Fin 128) (c : Fin 256) :
    scores (F := Ideal) high ok q kw tb (ix2 r c) = line 256 Q K v b ⟨p.val * 2 + 1, odd_lt p⟩ ⟨base + r.val, row_lt base hbase r⟩ base r.val c := by
  rw [scores_apply, hok, select_if, htb]
  unfold line
  by_cases hc : 64 ≤ base + c.val ∧ base + c.val < 8256
  · rw [if_pos hc]
    by_cases hn : r.val ≤ c.val ∧ c.val ≤ r.val + 128
    · rw [if_pos hn, dif_pos ⟨hn, hc⟩]
      unfold pair
      refine congrArg₂ (· + ·) ?_ (congrArg v (congrArg (ix2 _) (Fin.ext ?_)))
      · refine Eq.trans (Finset.sum_congr rfl fun l _ => ?_) (sum_high fun l : Fin 128 =>
          Q (ix3 b ⟨base + r.val, by omega⟩ ⟨p.val * 128 + l.val, by omega⟩) * K (ix3 b ⟨base + c.val - 64, by omega⟩ ⟨p.val * 128 + l.val, by omega⟩)) |>.trans ?_
        · rw [high_eq, select_if, hq, hk c l hc]
        · refine Finset.sum_congr rfl fun e _ => ?_
          have e1 : (⟨p.val * 128 + (64 + e.val), by omega⟩ : Fin 768) = ⟨(p.val * 2 + 1) * 64 + e.val, by omega⟩ := Fin.ext (by show p.val * 128 + (64 + e.val) = (p.val * 2 + 1) * 64 + e.val; omega)
          exact congrArg (fun j : Fin 768 => Q (ix3 b ⟨base + r.val, by omega⟩ j) * K (ix3 b ⟨base + c.val - 64, by omega⟩ j)) e1
      · show min (c.val - r.val) 128 = min (base + c.val - 64 + 64 - (base + r.val)) 128
        omega
    · rw [if_neg hn, dif_neg fun h => hn h.1]
      exact EReal.add_bot _
  · rw [if_neg hc, dif_neg fun h => hc h.2]

include hok hq hk in
/-- A tile's output at a row and lane. -/
theorem tileO_eq (t0 t1 : FVec Ideal S1x1x128x256 .f32) (h0 : Holds v ⟨p.val * 2 + 0, even_lt p⟩ t0) (h1 : Holds v ⟨p.val * 2 + 1, odd_lt p⟩ t1)
    (vw : FVec Ideal S256x128 .bf16) (r l : Fin 128) (s : Fin 8192) (hs : s.val = base + r.val) :
    tileO (F := Ideal) (scores low ok q kw t0) (scores high ok q kw t1) vw (ix3 0 r l)
      = mean (line 256 Q K v b ⟨p.val * 2 + l.val / 64, head_lt p l⟩ s base r.val) fun c => vw (ix2 c l) := by
  obtain rfl : s = ⟨base + r.val, Nat.lt_of_lt_of_le (Nat.add_lt_add_left r.isLt base) hbase⟩ := Fin.ext hs
  rw [tileO_apply, low_eq, select_if, mixed_eq, mixed_eq]
  by_cases hl : l.val < 64
  · rw [if_pos hl]
    have e : (⟨p.val * 2 + l.val / 64, by omega⟩ : Fin 4) = ⟨p.val * 2 + 0, by omega⟩ := Fin.ext (by show p.val * 2 + l.val / 64 = p.val * 2 + 0; omega)
    rw [e]
    exact congrArg (mean · _) (funext (scores_low Q K v b p base hbase ok hok q hq kw hk t0 h0 r))
  · rw [if_neg hl]
    have e : (⟨p.val * 2 + l.val / 64, by omega⟩ : Fin 4) = ⟨p.val * 2 + 1, by omega⟩ := Fin.ext (by show p.val * 2 + l.val / 64 = p.val * 2 + 1; omega)
    rw [e]
    exact congrArg (mean · _) (funext (scores_high Q K v b p base hbase ok hok q hq kw hk t1 h1 r))

include hok hq hk in
/-- A tile's log-denominator at a row and lane. -/
theorem tileL_eq (t0 t1 : FVec Ideal S1x1x128x256 .f32) (h0 : Holds v ⟨p.val * 2 + 0, even_lt p⟩ t0) (h1 : Holds v ⟨p.val * 2 + 1, odd_lt p⟩ t1)
    (r l : Fin 128) (s : Fin 8192) (hs : s.val = base + r.val) :
    tileL (F := Ideal) (scores low ok q kw t0) (scores high ok q kw t1) (ix3 0 r l)
      = AttnRow.logden (line 256 Q K v b ⟨p.val * 2 + l.val / 64, head_lt p l⟩ s base r.val) := by
  obtain rfl : s = ⟨base + r.val, Nat.lt_of_lt_of_le (Nat.add_lt_add_left r.isLt base) hbase⟩ := Fin.ext hs
  rw [tileL_apply, low_eq, select_if, logden_eq, logden_eq]
  by_cases hl : l.val < 64
  · rw [if_pos hl]
    have e : (⟨p.val * 2 + l.val / 64, by omega⟩ : Fin 4) = ⟨p.val * 2 + 0, by omega⟩ := Fin.ext (by show p.val * 2 + l.val / 64 = p.val * 2 + 0; omega)
    rw [e]
    exact congrArg AttnRow.logden (funext (scores_low Q K v b p base hbase ok hok q hq kw hk t0 h0 r))
  · rw [if_neg hl]
    have e : (⟨p.val * 2 + l.val / 64, by omega⟩ : Fin 4) = ⟨p.val * 2 + 1, by omega⟩ := Fin.ext (by show p.val * 2 + l.val / 64 = p.val * 2 + 1; omega)
    rw [e]
    exact congrArg AttnRow.logden (funext (scores_high Q K v b p base hbase ok hok q hq kw hk t1 h1 r))

end Tile

end Cert.AttnKernel

end
-- ==== Proof.AttnGather.lean ====
/- A look-up of columns read at an entry. -/
module

public import Idealize.ShloMosaic.Lib.Pointwise
public import Idealize.ShloMosaic.PureOps.Ideal.Laws
public import Idealize.ShloMosaic.Lib.ValueIdxCore

@[expose] public section

set_option maxRecDepth 16384

noncomputable section

open Idealize.ShloMosaic Idealize.ShloMosaic.TcCoe Idealize.SL.Sem

namespace Cert.AttnGather

/-- Every row of an `[H, N]` array taken at the columns an `[R, C]` array of numbers names. -/
theorem columns {α : Type} {H N R C : Nat}
    (d : GatherDims ⟨2, ![H, N]⟩ ⟨3, ![R, C, 1]⟩ ⟨3, ![H, R, C]⟩)
    (wf : GatherDims.WF ⟨2, ![H, N]⟩ ⟨3, ![R, C, 1]⟩ ⟨3, ![H, R, C]⟩ [0] [1] [] [1] [] 2 ![H, 1])
    (hd : d = { offsetDims := [0], collapsedSliceDims := [1], operandBatchingDims := [], startIndicesBatchingDims := [],
                startIndexMap := [1], indexVectorDim := 2, sliceSizes := ![H, 1], wf := wf })
    (hN : 0 < N) (x : (⟨2, ![H, N]⟩ : Shape).Idx → α) (idx : IVec ⟨3, ![R, C, 1]⟩ 32) (h : Fin H) (r : Fin R) (c : Fin C) :
    Host.gather d x idx (ix3 h r c) = x (ix2 h ⟨min (idx (ix3 r c 0)).toInt.toNat (N - 1), by omega⟩) := by
  subst hd
  unfold Host.gather
  refine congrArg x (funext fun a => Fin.ext ?_)
  match a with
  | ⟨0, _⟩ =>
    show GatherDims.start _ _ _ 0 + GatherDims.batchCoord _ _ 0 + GatherDims.offCoord _ _ 0 = h.val
    rw [GatherDims.batchCoord_eq_zero _ _ _ List.not_mem_nil]
    unfold GatherDims.start
    rw [dif_neg (by simp)]
    unfold GatherDims.offCoord
    rw [dif_pos ((GatherDims.mem_sKept _ _).mpr ⟨by simp, by simp⟩)]
    simp only [Nat.zero_add]
    rfl
  | ⟨1, _⟩ =>
    show GatherDims.start _ _ _ 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun w : BitVec 32 => min w.toInt.toNat (N - 1)) (congrArg idx (funext fun b => Fin.ext ?_))
    match b with
    | ⟨0, _⟩ => rfl
    | ⟨1, _⟩ => rfl
    | ⟨2, _⟩ => rfl

end Cert.AttnGather

end
-- ==== Proof.AttnTableWords.lean ====
/- The attention kernel's small integers as words: distances in the bias table and key positions of a window. -/
module

public import Idealize.ShloMosaic.Lib.Pointwise

@[expose] public section

set_option maxRecDepth 65536

noncomputable section

open Idealize.ShloMosaic Idealize.ShloMosaic.TcCoe Idealize.SL.Sem

namespace Cert.AttnTableWords

/-- A column's distance from a row, as the program's words. -/
def away (a b : Nat) : BitVec 32 := IntOp.subi (IntOp.subi (BitVec.ofNat 32 b) 64#32) (BitVec.ofNat 32 a)

/-- The distance's place in the bias, as the program's words. -/
def clip (a b : Nat) : BitVec 32 := IntOp.minsi 128#32 (IntOp.maxsi 0#32 (IntOp.addi (away a b) 64#32))

/-- The place a take reads, which counts a negative one from the end. -/
def slot (a b : Nat) : BitVec 32 := Scalar.select (IntOp.cmpi .slt (clip a b) 0#32) (IntOp.addi (clip a b) 129#32) (clip a b)

theorem near : ∀ (a : Fin 128) (b : Fin 256), IntOp.cmpi .sle (IntOp.absi (away a.val b.val)) 64#32
    = if a.val ≤ b.val ∧ b.val ≤ a.val + 128 then 1#1 else 0#1 := by decide +kernel

theorem slot_eq : ∀ (a : Fin 128) (b : Fin 256), a.val ≤ b.val → b.val ≤ a.val + 128 →
    min (slot a.val b.val).toInt.toNat 128 = b.val - a.val := by decide +kernel

/-- The position of a window's column, as the program's words: tile `j` of block `n`. -/
def place (n j c : Nat) : BitVec 32 :=
  IntOp.addi (IntOp.addi (IntOp.subi (IntOp.muli (BitVec.ofNat 32 n) 512#32) 64#32) (BitVec.ofNat 32 (128 * j))) (BitVec.ofNat 32 c)

theorem counts : ∀ (n : Fin 16) (j : Fin 4) (c : Fin 256),
    IntOp.andi (IntOp.cmpi .sge (place n.val j.val c.val) 0#32) (IntOp.cmpi .slt (place n.val j.val c.val) 8192#32)
      = if 64 ≤ n.val * 512 + 128 * j.val + c.val ∧ n.val * 512 + 128 * j.val + c.val < 8256 then 1#1 else 0#1 := by decide +kernel

end Cert.AttnTableWords

end
-- ==== Proof.AttnRefStages.lean ====
/- The attention reference's results, named stage by stage: the windows of keys and values, the scores, the weights. -/
module

public import proofs.«01_k».proof.Proof.Gen.AttnRefIdeal.Run

@[expose] public section

set_option maxRecDepth 16384

noncomputable section

open Idealize.ShloMosaic Idealize.ShloMosaic.TcCoe Idealize.SL.Sem

namespace Cert.AttnRefStages
open Cert.AttnRefIdeal Cert.AttnRefIdeal.Gen Cert.AttnRefIdeal.Value

variable {F : FTy → Type} [FloatOps F]

/-- The distance of a key of a window from a query of its block, in words. -/
def rels : IVec S64x192 32 :=
  subi (broadcastInDim S64x192 ![0, 1] bcast_S1x192_S64x192_0_1 (subi (broadcastInDim S1x192 ![1]
    bcast_S192_S1x192_1 (iotaInDim S192 32 0)) (broadcastInDim S1x192 ![] bcast_S_S1x192 (constantI S_ 32 64#32))))
    (broadcastInDim S64x192 ![0, 1] bcast_S64x1_S64x192_0_1 (broadcastInDim S64x1 ![0] bcast_S64_S64x1_0 (iotaInDim
    S64 32 0)))

/-- The distance plus 64, kept between 0 and 128. -/
def clips : IVec S64x192 32 :=
  minsi (broadcastInDim S64x192 ![] bcast_S_S64x192 (id (constantI S_ 32 128#32))) (maxsi (broadcastInDim S64x192
    ![] bcast_S_S64x192 (id (constantI S_ 32 0#32))) (addi rels (broadcastInDim S64x192 ![] bcast_S_S64x192
    (constantI S_ 32 64#32))))

/-- The bias of each head at each distance. -/
def vec (x3 : FVec F S32x12 .f32) : FVec F S4x129 .f32 :=
  transpose S4x129 [1, 0] (Host.gather gather_S32x4_S129x1_S129x4_1_0_n_n_0_1_14 (extractStridedSlice S32x4 ![0, 0]
    x3 slices_S32x12_S32x4_0_0) (broadcastInDim S129x1 ![0] bcast_S129_S129x1_0 (select (constantI S129 1 0#1) (addi
    ((fun i => lit0 (S129.rowMajor i))) (broadcastInDim S129 ![] bcast_S_S129 (constantI S_ 32 32#32))) ((fun i =>
    lit0 (S129.rowMajor i)))))) transposes_S129x4_S4x129_1_0

/-- Which keys of a window count for a query: within 64 positions, inside the sequence. -/
def okays : IVec S128x64x192 1 :=
  andi (andi (broadcastInDim S128x64x192 ![0, 1, 2] bcast_S1x64x192_S128x64x192_0_1_2 (broadcastInDim S1x64x192 ![1,
    2] bcast_S64x192_S1x64x192_1_2 (cmpi .sle (absi rels) (broadcastInDim S64x192 ![] bcast_S_S64x192 (constantI S_
    32 64#32))))) (broadcastInDim S128x64x192 ![0, 1, 2] bcast_S128x1x192_S128x64x192_0_1_2 (cmpi .sge (addi
    (broadcastInDim S128x1x192 ![0, 1, 2] bcast_S128x1x1_S128x1x192_0_1_2 (muli (broadcastInDim S128x1x1 ![0]
    bcast_S128_S128x1x1_0 (iotaInDim S128 32 0)) (broadcastInDim S128x1x1 ![] bcast_S_S128x1x1 (constantI S_ 32
    64#32)))) (broadcastInDim S128x1x192 ![0, 1, 2] bcast_S1x1x192_S128x1x192_0_1_2 (broadcastInDim S1x1x192 ![1, 2]
    bcast_S1x192_S1x1x192_1_2 (subi (broadcastInDim S1x192 ![1] bcast_S192_S1x192_1 (iotaInDim S192 32 0))
    (broadcastInDim S1x192 ![] bcast_S_S1x192 (constantI S_ 32 64#32)))))) (broadcastInDim S128x1x192 ![]
    bcast_S_S128x1x192 (constantI S_ 32 0#32))))) (broadcastInDim S128x64x192 ![0, 1, 2]
    bcast_S128x1x192_S128x64x192_0_1_2 (cmpi .slt (addi (broadcastInDim S128x1x192 ![0, 1, 2]
    bcast_S128x1x1_S128x1x192_0_1_2 (muli (broadcastInDim S128x1x1 ![0] bcast_S128_S128x1x1_0 (iotaInDim S128 32 0))
    (broadcastInDim S128x1x1 ![] bcast_S_S128x1x1 (constantI S_ 32 64#32)))) (broadcastInDim S128x1x192 ![0, 1, 2]
    bcast_S1x1x192_S128x1x192_0_1_2 (broadcastInDim S1x1x192 ![1, 2] bcast_S1x192_S1x1x192_1_2 (subi (broadcastInDim
    S1x192 ![1] bcast_S192_S1x192_1 (iotaInDim S192 32 0)) (broadcastInDim S1x192 ![] bcast_S_S1x192 (constantI S_
    32 64#32)))))) (broadcastInDim S128x1x192 ![] bcast_S_S128x1x192 (constantI S_ 32 8192#32))))

/-- The bias of each head, query and key of a block. -/
def bias (x3 : FVec F S32x12 .f32) : FVec F S4x64x192 .f32 :=
  Host.gather gather_S4x129_S64x192x1_S4x64x192_0_1_n_n_1_2_41 (vec x3) (broadcastInDim S64x192x1 ![0, 1]
    bcast_S64x192_S64x192x1_0_1 (select (cmpi .slt clips (broadcastInDim S64x192 ![] bcast_S_S64x192 (constantI S_
    32 0#32))) (addi clips (broadcastInDim S64x192 ![] bcast_S_S64x192 (constantI S_ 32 129#32))) clips))

/-- The four heads of the group, position by position. -/
def heads (x0 : FVec F S8x8192x768 .f32) : FVec F S8x1x4x8192x64 .f32 :=
  transpose S8x1x4x8192x64 [0, 2, 3, 1, 4] (shapeCast _ (extractStridedSlice S8x8192x4x64 ![0, 0, 0, 0] (shapeCast _
    x0 shapeCasts_S8x8192x768_S8x8192x12x64) slices_S8x8192x12x64_S8x8192x4x64_0_0_0_0)
    shapeCasts_S8x8192x4x64_S8x8192x1x4x64) transposes_S8x8192x1x4x64_S8x1x4x8192x64_0_2_3_1_4

/-- The queries, in blocks of 64 positions. -/
def qs (x0 : FVec F S8x8192x768 .f32) : FVec F S8x1x4x128x64x64 .f32 :=
  shapeCast _ (pad S8x1x4x8192x64 ![0, 0, 0, 0, 0] ![0, 0, 0, 0, 0] ![0, 0, 0, 0, 0] (heads x0) (sitofp .f32
    (constantI S_ 32 0#32)) pads_S8x1x4x8192x64_S8x1x4x8192x64_000_000_000_000_000 h_S_)
    shapeCasts_S8x1x4x8192x64_S8x1x4x128x64x64

/-- Keys or values with 64 rows of zeros on either side, in blocks of 64 positions. -/
def pads (x1 : FVec F S8x8192x768 .f32) : FVec F S8x1x4x130x64x64 .f32 :=
  shapeCast _ (pad S8x1x4x8320x64 ![0, 0, 0, 64, 0] ![0, 0, 0, 64, 0] ![0, 0, 0, 0, 0] (heads x1) (sitofp .f32
    (constantI S_ 32 0#32)) pads_S8x1x4x8192x64_S8x1x4x8320x64_000_000_000_64640_000 h_S_)
    shapeCasts_S8x1x4x8320x64_S8x1x4x130x64x64

/-- The windows of keys: a block with the block before and the block after. -/
def kw (x1 : FVec F S8x8192x768 .f32) : FVec F S8x1x4x128x192x64 .f32 :=
  (concatenate S8x1x4x128x192x64 4 [⟨S8x1x4x128x64x64, ((extractStridedSlice S8x1x4x128x64x64 ![0, 0, 0, 0, 0, 0]
    (pads x1) slices_S8x1x4x130x64x64_S8x1x4x128x64x64_0_0_0_0_0_0) : (⟨S8x1x4x128x64x64, .f32⟩ : BufTy).Contents
    (Elt F))⟩, ⟨S8x1x4x128x64x64, ((extractStridedSlice S8x1x4x128x64x64 ![0, 0, 0, 1, 0, 0] (pads x1)
    slices_S8x1x4x130x64x64_S8x1x4x128x64x64_0_0_0_1_0_0) : (⟨S8x1x4x128x64x64, .f32⟩ : BufTy).Contents (Elt F))⟩,
    ⟨S8x1x4x128x64x64, ((extractStridedSlice S8x1x4x128x64x64 ![0, 0, 0, 2, 0, 0] (pads x1)
    slices_S8x1x4x130x64x64_S8x1x4x128x64x64_0_0_0_2_0_0) : (⟨S8x1x4x128x64x64, .f32⟩ : BufTy).Contents (Elt F))⟩]
    concatenates_S8x1x4x128x64x64_S8x1x4x128x64x64_S8x1x4x128x64x64_S8x1x4x128x192x64_d4 : (⟨S8x1x4x128x192x64,
    .f32⟩ : BufTy).Contents (Elt F))

/-- The products of the queries with a window's keys. -/
def dots (q : FVec F S8x1x4x128x64x64 .f32) (w : FVec F S8x1x4x128x192x64 .f32) : FVec F S8x1x4x128x64x192 .f32 :=
  Host.dotGeneral dot_S8x1x4x128x64x64_S8x1x4x128x192x64_S8x1x4x128x64x192_5_5_4_4_0123_0123 none q w

/-- The bias in every row and block. -/
def board (x3 : FVec F S32x12 .f32) : FVec F S8x1x4x128x64x192 .f32 :=
  broadcastInDim S8x1x4x128x64x192 ![0, 1, 2, 3, 4, 5] bcast_S1x1x4x1x64x192_S8x1x4x128x64x192_0_1_2_3_4_5
    (broadcastInDim S1x1x4x1x64x192 ![2, 3, 4, 5] bcast_S4x1x64x192_S1x1x4x1x64x192_2_3_4_5 (broadcastInDim
    S4x1x64x192 ![0, 2, 3] bcast_S4x64x192_S4x1x64x192_0_2_3 (bias x3)))

/-- The masked scores. -/
def scores (x0 x1 : FVec F S8x8192x768 .f32) (x3 : FVec F S32x12 .f32) : FVec F S8x1x4x128x64x192 .f32 :=
  select (broadcastInDim S8x1x4x128x64x192 ![3, 4, 5] bcast_S128x64x192_S8x1x4x128x64x192_3_4_5 okays) (addf
    (dots (qs x0) (kw x1)) (board x3)) (broadcastInDim S8x1x4x128x64x192 ![]
    bcast_S_S8x1x4x128x64x192 (id (constant S_ .f32 0xFF800000#32)))

/-- The maxima over a window. -/
def peaks (s : FVec F S8x1x4x128x64x192 .f32) : FVec F S8x1x4x128x64 .f32 :=
  Host.reduce FloatOps.maximumf s (constant S_ .f32 0xFF800000#32) reducesTo_S8x1x4x128x64x192_S8x1x4x128x64_d5 h_S_

/-- The weights. -/
def weights (s : FVec F S8x1x4x128x64x192 .f32) : FVec F S8x1x4x128x64x192 .f32 :=
  Host.exp (subf s (broadcastInDim S8x1x4x128x64x192 ![0, 1, 2, 3, 4, 5]
    bcast_S8x1x4x128x64x1_S8x1x4x128x64x192_0_1_2_3_4_5 (broadcastInDim S8x1x4x128x64x1 ![0, 1, 2, 3, 4]
    bcast_S8x1x4x128x64_S8x1x4x128x64x1_0_1_2_3_4 (peaks s))))

/-- The sums of the weights. -/
def totals (s : FVec F S8x1x4x128x64x192 .f32) : FVec F S8x1x4x128x64 .f32 :=
  Host.reduceAdd (weights s) (constant S_ .f32 0x00000000#32) reducesTo_S8x1x4x128x64x192_S8x1x4x128x64_d5 h_S_

/-- The weighted means of the values. -/
def mixed (s : FVec F S8x1x4x128x64x192 .f32) (w : FVec F S8x1x4x128x192x64 .f32) : FVec F S8x1x4x128x64x64 .f32 :=
  Host.divf (Host.dotGeneral dot_S8x1x4x128x64x192_S8x1x4x128x192x64_S8x1x4x128x64x64_5_4_4_5_0123_0123 none
    (weights s) w) (broadcastInDim S8x1x4x128x64x64 ![0, 1, 2, 3, 4, 5]
    bcast_S8x1x4x128x64x1_S8x1x4x128x64x64_0_1_2_3_4_5 (broadcastInDim S8x1x4x128x64x1 ![0, 1, 2, 3, 4]
    bcast_S8x1x4x128x64_S8x1x4x128x64x1_0_1_2_3_4 (totals s)))

/-- The log-denominators. -/
def logden (s : FVec F S8x1x4x128x64x192 .f32) : FVec F S8x1x4x128x64x1 .f32 :=
  addf (broadcastInDim S8x1x4x128x64x1 ![0, 1, 2, 3, 4] bcast_S8x1x4x128x64_S8x1x4x128x64x1_0_1_2_3_4 (peaks s))
    (Host.log (broadcastInDim S8x1x4x128x64x1 ![0, 1, 2, 3, 4] bcast_S8x1x4x128x64_S8x1x4x128x64x1_0_1_2_3_4 (totals
    s)))

/-- The outputs, two heads side by side along the channels. -/
def outs (o : FVec F S8x1x4x128x64x64 .f32) : FVec F S8x8192x256 .f32 :=
  shapeCast _ (shapeCast _ (transpose S8x8192x1x4x64 [0, 3, 1, 2, 4] (shapeCast _ o
    shapeCasts_S8x1x4x128x64x64_S8x1x4x8192x64) transposes_S8x1x4x8192x64_S8x8192x1x4x64_0_3_1_2_4)
    shapeCasts_S8x8192x1x4x64_S8x8192x4x64) shapeCasts_S8x8192x4x64_S8x8192x256

/-- The first half of them is a result. -/
theorem res103 (m : (ℓ : Loc nD τ sig) → Buf (Elt F) ℓ) (c : Dev nD) :
    res_main_v103 m c = (extractStridedSlice S8x8192x128 ![0, 0, 0] (outs (mixed (scores (m ((c.tc : Thread nD τ).loc main_arg0)) (m ((c.tc : Thread nD τ).loc main_arg1)) (m ((c.tc : Thread nD τ).loc main_arg3))) (kw (m ((c.tc : Thread nD τ).loc main_arg2))))) slices_S8x8192x256_S8x8192x128_0_0_0 : FVec F S8x8192x128 .f32) := rfl

/-- The second half of them is a result. -/
theorem res104 (m : (ℓ : Loc nD τ sig) → Buf (Elt F) ℓ) (c : Dev nD) :
    res_main_v104 m c = (extractStridedSlice S8x8192x128 ![0, 0, 128] (outs (mixed (scores (m ((c.tc : Thread nD τ).loc main_arg0)) (m ((c.tc : Thread nD τ).loc main_arg1)) (m ((c.tc : Thread nD τ).loc main_arg3))) (kw (m ((c.tc : Thread nD τ).loc main_arg2))))) slices_S8x8192x256_S8x8192x128_0_0_128 : FVec F S8x8192x128 .f32) := rfl

/-- The log-denominators, two heads side by side along the channels. -/
def logs (o : FVec F S8x1x4x128x64x1 .f32) : FVec F S8x8192x256 .f32 :=
  shapeCast _ (broadcastInDim S8x8192x4x64 ![0, 1, 2] bcast_S8x8192x4_S8x8192x4x64_0_1_2 (shapeCast _ (transpose
    S8x8192x1x4 [0, 3, 1, 2] (shapeCast _ (shapeCast _ o shapeCasts_S8x1x4x128x64x1_S8x1x4x128x64)
    shapeCasts_S8x1x4x128x64_S8x1x4x8192) transposes_S8x1x4x8192_S8x8192x1x4_0_3_1_2)
    shapeCasts_S8x8192x1x4_S8x8192x4)) shapeCasts_S8x8192x4x64_S8x8192x256

/-- The first half of them is a result. -/
theorem res105 (m : (ℓ : Loc nD τ sig) → Buf (Elt F) ℓ) (c : Dev nD) :
    res_main_v105 m c = (extractStridedSlice S8x8192x128 ![0, 0, 0] (logs (logden (scores (m ((c.tc : Thread nD τ).loc main_arg0)) (m ((c.tc : Thread nD τ).loc main_arg1)) (m ((c.tc : Thread nD τ).loc main_arg3))))) slices_S8x8192x256_S8x8192x128_0_0_0 : FVec F S8x8192x128 .f32) := rfl

/-- The second half of them is a result. -/
theorem res106 (m : (ℓ : Loc nD τ sig) → Buf (Elt F) ℓ) (c : Dev nD) :
    res_main_v106 m c = (extractStridedSlice S8x8192x128 ![0, 0, 128] (logs (logden (scores (m ((c.tc : Thread nD τ).loc main_arg0)) (m ((c.tc : Thread nD τ).loc main_arg1)) (m ((c.tc : Thread nD τ).loc main_arg3))))) slices_S8x8192x256_S8x8192x128_0_0_128 : FVec F S8x8192x128 .f32) := rfl

end Cert.AttnRefStages

end
-- ==== Proof.AttnTable.lean ====
/- The biases the attention kernel is handed: the table made before the call, read back as each head's bias at the
   distance of a column from a row, minus infinity beyond 64. -/
module

public import proofs.«01_k».proof.Proof.AttnKernel
public import proofs.«01_k».proof.Proof.AttnGather
public import proofs.«01_k».proof.Proof.AttnTableWords
public import proofs.«01_k».proof.Proof.AttnRefStages
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.AttnTable
open Cert.AttnIdeal Cert.AttnIdeal.Gen Cert.AttnRow Cert.AttnTableWords

/-- A column's distance from a row. -/
def rels : IVec S128x256 32 :=
  subi (broadcastInDim S128x256 ![0, 1] bcast_S1x256_S128x256_0_1 (subi (broadcastInDim S1x256 ![1] bcast_S256_S1x256_1
    (iotaInDim S256 32 0)) (broadcastInDim S1x256 ![] bcast_S_S1x256 (constantI S_ 32 64#32))))
    (broadcastInDim S128x256 ![0, 1] bcast_S128x1_S128x256_0_1 (broadcastInDim S128x1 ![0] bcast_S128_S128x1_0 (iotaInDim S128 32 0)))

/-- The distance plus 64, kept between 0 and 128. -/
def clips : IVec S128x256 32 :=
  minsi (broadcastInDim S128x256 ![] bcast_S_S128x256 (id (constantI S_ 32 128#32))) (maxsi (broadcastInDim S128x256 ![]
    bcast_S_S128x256 (id (constantI S_ 32 0#32))) (addi rels (broadcastInDim S128x256 ![] bcast_S_S128x256 (constantI S_ 32 64#32))))

/-- The bias of each head at each distance. -/
def vec (x3 : FVec Ideal S32x12 .f32) : FVec Ideal S4x129 .f32 :=
  transpose S4x129 [1, 0] (Host.gather gather_S32x4_S129x1_S129x4_1_0_n_n_0_1_14 (extractStridedSlice S32x4 ![0, 0]
    x3 slices_S32x12_S32x4_0_0) (broadcastInDim S129x1 ![0] bcast_S129_S129x1_0 (select (constantI S129 1 0#1) (addi
    ((fun i => lit0 (S129.rowMajor i))) (broadcastInDim S129 ![] bcast_S_S129 (constantI S_ 32 32#32))) ((fun i =>
    lit0 (S129.rowMajor i)))))) transposes_S129x4_S4x129_1_0

/-- The bias of each head, row and column. -/
def bias (x3 : FVec Ideal S32x12 .f32) : FVec Ideal S4x128x256 .f32 :=
  Host.gather gather_S4x129_S128x256x1_S4x128x256_0_1_n_n_1_2_41 (vec x3) (broadcastInDim S128x256x1 ![0, 1]
    bcast_S128x256_S128x256x1_0_1 (select (cmpi .slt clips (broadcastInDim S128x256 ![] bcast_S_S128x256 (constantI S_
    32 0#32))) (addi clips (broadcastInDim S128x256 ![] bcast_S_S128x256 (constantI S_ 32 129#32))) clips))

/-- The biases within 64 positions, minus infinity beyond. -/
def band (x3 : FVec Ideal S32x12 .f32) : FVec Ideal S4x128x256 .f32 :=
  select (broadcastInDim S4x128x256 ![1, 2] bcast_S128x256_S4x128x256_1_2 (cmpi .sle (absi rels) (broadcastInDim S128x256 ![]
    bcast_S_S128x256 (constantI S_ 32 64#32)))) (bias x3) (broadcastInDim S4x128x256 ![] bcast_S_S4x128x256 (id (constant S_ .f32 0xFF800000#32)))

/-- The table, once for each dilation's first heads. -/
def table (x3 : FVec Ideal S32x12 .f32) : FVec Ideal S3x4x128x256 .f32 :=
  broadcastInDim S3x4x128x256 ![0, 1, 2, 3] bcast_S1x4x128x256_S3x4x128x256_0_1_2_3 (broadcastInDim S1x4x128x256 ![1, 2, 3]
    bcast_S4x128x256_S1x4x128x256_1_2_3 (band x3))

theorem entry (m : (ℓ : Loc nD τ sig) → Buf (Elt Ideal) ℓ) (c : Dev nD) :
    (V m c main_v31 : FVec Ideal S3x4x128x256 .f32) = table (m ((c : Thread nD τ).loc main_arg3)) := by
  unfold V
  simp only [hostOps0, hostOps0_1, hostOps0_2, hostOps0_3, hostOps0_4, List.flatten_cons, List.flatten_nil, List.append_nil,
    List.cons_append, List.nil_append, StableHlo.TRef.unary, StableHlo.TRef.binary, StableHlo.TRef.ternary]
  after_results_simp
  rfl

theorem vec_eq (x3 : FVec Ideal S32x12 .f32) : vec x3 = AttnRefStages.vec x3 := rfl

theorem rels_apply (a : Fin 128) (c : Fin 256) : rels (ix2 a c) = away a.val c.val := by
  pointwise [rels]
  rfl

theorem clips_apply (a : Fin 128) (c : Fin 256) : clips (ix2 a c) = clip a.val c.val := by
  pointwise [clips]
  rw [rels_apply]
  rfl

theorem band_apply (x3 : FVec Ideal S32x12 .f32) (h : Fin 4) (a : Fin 128) (c : Fin 256) :
    band x3 (ix3 h a c) = Scalar.select (IntOp.cmpi .sle (IntOp.absi (away a.val c.val)) 64#32) (bias x3 (ix3 h a c)) ⊥ := by
  pointwise [band]
  rw [rels_apply]
  exact congrArg (Scalar.select _ _) bottom

theorem table_apply (x3 : FVec Ideal S32x12 .f32) (h : Fin 4) (a : Fin 128) (c : Fin 256) :
    table x3 (ix4 0 h a c) = band x3 (ix3 h a c) := by
  pointwise [table]

theorem bias_apply (x3 : FVec Ideal S32x12 .f32) (h : Fin 4) (a : Fin 128) (c : Fin 256) (h1 : a.val ≤ c.val) (h2 : c.val ≤ a.val + 128) :
    bias x3 (ix3 h a c) = vec x3 (ix2 h ⟨min (c.val - a.val) 128, by omega⟩) := by
  unfold bias
  refine (AttnGather.columns _ gather_S4x129_S128x256x1_S4x128x256_0_1_n_n_1_2_41_wf rfl (by decide) _ _ h a c).trans ?_
  refine congrArg (vec x3) (congrArg (ix2 h) (Fin.ext ?_))
  refine Eq.trans ?_ (Nat.min_eq_left (show c.val - a.val ≤ 128 by omega)).symm
  refine Eq.trans (congrArg (fun w : BitVec 32 => min w.toInt.toNat 128) ?_) (slot_eq a c h1 h2)
  pointwise
  rw [clips_apply]
  rfl

/-- The table's rows are each head's biases inside the band. -/
theorem table_eq (x3 : FVec Ideal S32x12 .f32) (h : Fin 4) (a : Fin 128) (c : Fin 256) :
    table x3 (ix4 0 h a c)
      = if a.val ≤ c.val ∧ c.val ≤ a.val + 128 then vec x3 (ix2 h ⟨min (c.val - a.val) 128, by omega⟩) else ⊥ := by
  rw [table_apply, band_apply, near, AttnKernel.select_if]
  by_cases hn : a.val ≤ c.val ∧ c.val ≤ a.val + 128
  · rw [if_pos hn, if_pos hn, bias_apply x3 h a c hn.1 hn.2]
  · rw [if_neg hn, if_neg hn]

end Cert.AttnTable

end
-- ==== Proof.AttnLoads.lean ====
/- The attention kernel's tiles read from its blocks: the queries, the windows of keys and values, the table's heads and
   the columns whose positions exist. -/
module

public import proofs.«01_k».proof.Proof.AttnBlocks
public import proofs.«01_k».proof.Proof.AttnTable

@[expose] public section

set_option maxRecDepth 16384

noncomputable section

open Idealize.ShloMosaic Idealize.ShloMosaic.TcCoe Idealize.SL.Sem

namespace Cert.AttnLoads
open Cert.AttnIdeal Cert.AttnIdeal.Gen Cert.AttnBlocks Cert.AttnTile Cert.AttnKernel

theorem ld2 (x : FVec Ideal S1x512x128 .f32) (r l : Fin 128) :
    (View.ld (Val := Elt Ideal) (e' := .f32) x r0_2 : FVec Ideal S1x128x128 .f32) (ix3 0 r l) = x (ix3 0 ⟨128 * 0 + r.val, by omega⟩ l) := by
  pointwise

theorem ld5 (x : FVec Ideal S1x512x128 .f32) (r l : Fin 128) :
    (View.ld (Val := Elt Ideal) (e' := .f32) x r0_5 : FVec Ideal S1x128x128 .f32) (ix3 0 r l) = x (ix3 0 ⟨128 * 1 + r.val, by omega⟩ l) := by
  pointwise

theorem ld6 (x : FVec Ideal S1x512x128 .f32) (r l : Fin 128) :
    (View.ld (Val := Elt Ideal) (e' := .f32) x r0_6 : FVec Ideal S1x128x128 .f32) (ix3 0 r l) = x (ix3 0 ⟨128 * 2 + r.val, by omega⟩ l) := by
  pointwise

theorem ld7 (x : FVec Ideal S1x512x128 .f32) (r l : Fin 128) :
    (View.ld (Val := Elt Ideal) (e' := .f32) x r0_7 : FVec Ideal S1x128x128 .f32) (ix3 0 r l) = x (ix3 0 ⟨128 * 3 + r.val, by omega⟩ l) := by
  pointwise

theorem ld3 (x : FVec Ideal S1x4x128x256 .f32) (r : Fin 128) (y : Fin 256) :
    (View.ld (Val := Elt Ideal) (e' := .f32) x r0_3 : FVec Ideal S1x1x128x256 .f32) (ix4 0 0 r y) = x (ix4 0 0 r y) := by
  pointwise

theorem ld4 (x : FVec Ideal S1x4x128x256 .f32) (r : Fin 128) (y : Fin 256) :
    (View.ld (Val := Elt Ideal) (e' := .f32) x r0_4 : FVec Ideal S1x1x128x256 .f32) (ix4 0 0 r y) = x (ix4 0 1 r y) := by
  pointwise

theorem ld8 (x : FVec Ideal S1x4x128x256 .f32) (r : Fin 128) (y : Fin 256) :
    (View.ld (Val := Elt Ideal) (e' := .f32) x r0_8 : FVec Ideal S1x1x128x256 .f32) (ix4 0 0 r y) = x (ix4 0 2 r y) := by
  pointwise

theorem ld9 (x : FVec Ideal S1x4x128x256 .f32) (r : Fin 128) (y : Fin 256) :
    (View.ld (Val := Elt Ideal) (e' := .f32) x r0_9 : FVec Ideal S1x1x128x256 .f32) (ix4 0 0 r y) = x (ix4 0 3 r y) := by
  pointwise

theorem ld0 (x : FVec Ideal S1x64x128 .f32) (r : Fin 64) (l : Fin 128) :
    (View.ld (Val := Elt Ideal) (e' := .f32) x r0_0 : FVec Ideal S1x64x128 .f32) (ix3 0 r l) = x (ix3 0 r l) := by
  pointwise

theorem ld1 (x : FVec Ideal S1x512x128 .f32) (r : Fin 512) (l : Fin 128) :
    (View.ld (Val := Elt Ideal) (e' := .f32) x r0_1 : FVec Ideal S1x512x128 .f32) (ix3 0 r l) = x (ix3 0 r l) := by
  pointwise

theorem full_apply (p : FVec Ideal S1x64x128 .f32) (c : FVec Ideal S1x512x128 .f32) (n : FVec Ideal S1x64x128 .f32) (y : Fin 640) (l : Fin 128) :
    full (F := Ideal) p c n (ix2 y l) = if h : y.val < 64 then p (ix3 0 ⟨y.val, h⟩ l)
      else if h' : y.val - 64 < 512 then c (ix3 0 ⟨y.val - 64, h'⟩ l) else n (ix3 0 ⟨y.val - 64 - 512, by omega⟩ l) := by
  pointwise [full]

theorem win0_apply (f : FVec Ideal S640x128 .bf16) (y : Fin 256) (l : Fin 128) : AttnTile.win0 f (ix2 y l) = f (ix2 ⟨128 * 0 + y.val, by omega⟩ l) := by
  pointwise [AttnTile.win0]

theorem win1_apply (f : FVec Ideal S640x128 .bf16) (y : Fin 256) (l : Fin 128) : AttnTile.win1 f (ix2 y l) = f (ix2 ⟨128 * 1 + y.val, by omega⟩ l) := by
  pointwise [AttnTile.win1]

theorem win2_apply (f : FVec Ideal S640x128 .bf16) (y : Fin 256) (l : Fin 128) : AttnTile.win2 f (ix2 y l) = f (ix2 ⟨128 * 2 + y.val, by omega⟩ l) := by
  pointwise [AttnTile.win2]

theorem win3_apply (f : FVec Ideal S640x128 .bf16) (y : Fin 256) (l : Fin 128) : AttnTile.win3 f (ix2 y l) = f (ix2 ⟨128 * 3 + y.val, by omega⟩ l) := by
  pointwise [AttnTile.win3]

/-- A block's rows with those around it are the array's, 64 positions back, wherever those exist. -/
theorem full_read (t : Fin cfg0.N) (p : Fin 2) (a : FVec Ideal S8x8192x768 .f32) (pre nxt : FVec Ideal S1x64x128 .f32) (cur : FVec Ideal S1x512x128 .f32)
    (hA : Around t p a pre cur nxt) (y : Fin 640) (l : Fin 128) (base n : Nat) (hbase : base + n = t.val % 16 * 512 + y.val)
    (hy : 64 ≤ base + n ∧ base + n < 8256) :
    full (F := Ideal) (View.ld (Val := Elt Ideal) (e' := .f32) pre r0_0) (View.ld (Val := Elt Ideal) (e' := .f32) cur r0_1)
      (View.ld (Val := Elt Ideal) (e' := .f32) nxt r0_0) (ix2 y l)
      = a (ix3 (bat t) ⟨base + n - 64, by omega⟩ ⟨p.val * 128 + l.val, by omega⟩) := by
  rw [full_apply]
  by_cases h : y.val < 64
  · rw [dif_pos h, ld0, hA.1 (by omega)]
    exact congrArg (fun i => a (ix3 (bat t) i _)) (Fin.ext (by show t.val % 16 * 512 + y.val - 64 = base + n - 64; omega))
  · rw [dif_neg h]
    by_cases h' : y.val - 64 < 512
    · rw [dif_pos h', ld1, hA.2.1]
      exact congrArg (fun i => a (ix3 (bat t) i _)) (Fin.ext (by show t.val % 16 * 512 + (y.val - 64) = base + n - 64; omega))
    · rw [dif_neg h', ld0, hA.2.2 (by omega)]
      exact congrArg (fun i => a (ix3 (bat t) i _)) (Fin.ext (by show t.val % 16 * 512 + 512 + (y.val - 64 - 512) = base + n - 64; omega))

/-- The columns whose positions exist, in tile `j` of a block. -/
theorem inside_eq (t : Fin cfg0.N) (j : Fin 4) (w : BitVec 32) (hw : w = BitVec.ofNat 32 (128 * j.val)) (c : Fin 256) :
    inside (start (BitVec.ofNat 32 (grid0.coords t 1).val) w) (ix2 0 c)
      = if 64 ≤ (t.val % 16 * 512 + 128 * j.val) + c.val ∧ (t.val % 16 * 512 + 128 * j.val) + c.val < 8256 then 1#1 else 0#1 := by
  rw [inside_apply, coord, hw]
  exact AttnTableWords.counts ⟨t.val % 16, by omega⟩ j c

variable (m : (ℓ : Loc nD τ sig) → Buf (Elt Ideal) ℓ)

/-- The staged table at a head. -/
theorem table_row (c : Dev nD) (t : Fin cfg0.N) (h : Fin 4) (r : Fin 128) (y : Fin 256) :
    (iblk m c 14 t : FVec Ideal S1x4x128x256 .f32) (ix4 0 h r y)
      = if r.val ≤ y.val ∧ y.val ≤ r.val + 128 then AttnRefStages.vec (F := Ideal) (arg3 m c) (ix2 h ⟨min (y.val - r.val) 128, by omega⟩) else ⊥ := by
  rw [table_read, AttnTable.entry]
  exact (AttnTable.table_eq (arg3 m c) h r y).trans (by rw [AttnTable.vec_eq])

theorem holds3 (c : Dev nD) (t : Fin cfg0.N) :
    Holds (AttnRefStages.vec (F := Ideal) (arg3 m c)) ⟨(0 : Fin 2).val * 2 + 0, by decide⟩ (View.ld (Val := Elt Ideal) (e' := .f32) (iblk m c 14 t) r0_3) :=
  fun r y => (ld3 _ r y).trans (table_row m c t 0 r y)

theorem holds4 (c : Dev nD) (t : Fin cfg0.N) :
    Holds (AttnRefStages.vec (F := Ideal) (arg3 m c)) ⟨(0 : Fin 2).val * 2 + 1, by decide⟩ (View.ld (Val := Elt Ideal) (e' := .f32) (iblk m c 14 t) r0_4) :=
  fun r y => (ld4 _ r y).trans (table_row m c t 1 r y)

theorem holds8 (c : Dev nD) (t : Fin cfg0.N) :
    Holds (AttnRefStages.vec (F := Ideal) (arg3 m c)) ⟨(1 : Fin 2).val * 2 + 0, by decide⟩ (View.ld (Val := Elt Ideal) (e' := .f32) (iblk m c 14 t) r0_8) :=
  fun r y => (ld8 _ r y).trans (table_row m c t 2 r y)

theorem holds9 (c : Dev nD) (t : Fin cfg0.N) :
    Holds (AttnRefStages.vec (F := Ideal) (arg3 m c)) ⟨(1 : Fin 2).val * 2 + 1, by decide⟩ (View.ld (Val := Elt Ideal) (e' := .f32) (iblk m c 14 t) r0_9) :=
  fun r y => (ld9 _ r y).trans (table_row m c t 3 r y)

end Cert.AttnLoads

end
-- ==== Proof.AttnRefRead.lean ====
/- The attention reference's stages read at an entry. -/
module

public import proofs.«01_k».proof.Proof.AttnRefStages
public import proofs.«01_k».proof.Proof.AttnRow
public import proofs.«01_k».proof.Proof.AttnGather
public import Idealize.ShloMosaic.Lib.Pointwise
public import Idealize.ShloMosaic.PureOps.Ideal.Laws

@[expose] public section

set_option maxRecDepth 16384

noncomputable section

open Idealize.ShloMosaic Idealize.ShloMosaic.TcCoe Idealize.SL.Sem

namespace Cert.AttnRefRead
open Cert.AttnRefIdeal Cert.AttnRefIdeal.Gen Cert.AttnRefStages

theorem heads_apply (x : FVec Ideal S8x8192x768 .f32) (b : Fin 8) (h : Fin 4) (s : Fin 8192) (e : Fin 64) :
    heads x (ix5 b 0 h s e) = x (ix3 b s ⟨h.val * 64 + e.val, by omega⟩) := by
  pointwise [heads]

theorem qs_apply (x : FVec Ideal S8x8192x768 .f32) (b : Fin 8) (h : Fin 4) (n : Fin 128) (i e : Fin 64) :
    qs x ((ix6 b 0 h n i e : S8x1x4x128x64x64.Idx)) = x (ix3 b ⟨n.val * 64 + i.val, by omega⟩ ⟨h.val * 64 + e.val, by omega⟩) := by
  pointwise [qs]
  rw [dif_pos (by omega)]
  exact heads_apply x b h _ e

theorem pads_apply (x : FVec Ideal S8x8192x768 .f32) (b : Fin 8) (h : Fin 4) (n : Fin 130) (i e : Fin 64) (p : Fin 8192) (hp : n.val * 64 + i.val = p.val + 64) :
    pads x ((ix6 b 0 h n i e : S8x1x4x130x64x64.Idx)) = x (ix3 b p ⟨h.val * 64 + e.val, by omega⟩) := by
  pointwise [pads]
  rw [dif_pos (by omega)]
  refine (heads_apply x b h _ e).trans ?_
  congr 2
  exact Fin.ext (by show n.val * 64 + i.val - 64 = p.val; omega)

theorem kw_apply (x : FVec Ideal S8x8192x768 .f32) (b : Fin 8) (h : Fin 4) (n : Fin 128) (i : Fin 192) (e : Fin 64) (p : Fin 8192) (hp : n.val * 64 + i.val = p.val + 64) :
    kw x ((ix6 b 0 h n i e : S8x1x4x128x192x64.Idx)) = x (ix3 b p ⟨h.val * 64 + e.val, by omega⟩) := by
  pointwise [kw]
  by_cases h1 : i.val < 64
  · rw [dif_pos h1]; exact pads_apply x b h _ _ e p hp
  · rw [dif_neg h1]
    by_cases h2 : i.val - 64 < 64
    · rw [dif_pos h2]; exact pads_apply x b h _ _ e p (by show (1 + n.val) * 64 + (i.val - 64) = _; omega)
    · rw [dif_neg h2]; exact pads_apply x b h _ _ e p (by show (2 + n.val) * 64 + (i.val - 64 - 64) = _; omega)

theorem dots_apply (q : FVec Ideal S8x1x4x128x64x64 .f32) (w : FVec Ideal S8x1x4x128x192x64 .f32) (b : Fin 8) (h : Fin 4) (n : Fin 128) (i : Fin 64) (e : Fin 192) :
    dots q w ((ix6 b 0 h n i e : S8x1x4x128x64x192.Idx)) = ∑ x, q (ix6 b 0 h n i x) * w (ix6 b 0 h n e x) := by
  pointwise [dots]

theorem board_apply (x3 : FVec Ideal S32x12 .f32) (b : Fin 8) (h : Fin 4) (n : Fin 128) (i : Fin 64) (e : Fin 192) :
    board x3 ((ix6 b 0 h n i e : S8x1x4x128x64x192.Idx)) = bias x3 (ix3 h i e) := by
  pointwise [board]

theorem select_at {s : Shape} (c : IVec s 1) (x y : FVec Ideal s .f32) (i : s.Idx) : select c x y i = Scalar.select (c i) (x i) (y i) := rfl

theorem add_at {s : Shape} (x y : FVec Ideal s .f32) (i : s.Idx) : addf x y i = x i + y i := rfl

theorem okays_at (o : IVec S128x64x192 1) (b : Fin 8) (h : Fin 4) (n : Fin 128) (i : Fin 64) (e : Fin 192) :
   broadcastInDim S8x1x4x128x64x192 ![3, 4, 5] bcast_S128x64x192_S8x1x4x128x64x192_3_4_5 o ((ix6 b 0 h n i e : S8x1x4x128x64x192.Idx)) = o (ix3 n i e) := by
  pointwise

theorem low_at (v : FVec Ideal S_ .f32) (b : Fin 8) (h : Fin 4) (n : Fin 128) (i : Fin 64) (e : Fin 192) :
  (broadcastInDim S8x1x4x128x64x192 ![] bcast_S_S8x1x4x128x64x192 v : FVec Ideal S8x1x4x128x64x192 .f32)  ((ix6 b 0 h n i e : S8x1x4x128x64x192.Idx)) = v ix0 := by
  pointwise

theorem scores_apply (x0 x1 : FVec Ideal S8x8192x768 .f32) (x3 : FVec Ideal S32x12 .f32) (b : Fin 8) (h : Fin 4) (n : Fin 128) (i : Fin 64) (e : Fin 192) :
    scores x0 x1 x3 ((ix6 b 0 h n i e : S8x1x4x128x64x192.Idx))
      = Scalar.select (okays (ix3 n i e)) (dots (qs x0) (kw x1) (ix6 b 0 h n i e) + board x3 (ix6 b 0 h n i e)) (Ideal.ofBits FTy.f32 4286578688#32) := by
  unfold scores
  rw [select_at, add_at, okays_at, low_at]
  rfl

theorem lift_eq (hr : S8x1x4x128x64x192.Reduces [5] S8x1x4x128x64) (b : Fin 8) (h : Fin 4) (n : Fin 128) (i : Fin 64) (k : Fin 192) :
    hr.lift (ix5 b 0 h n i : S8x1x4x128x64.Idx) k = (ix6 b 0 h n i k : S8x1x4x128x64x192.Idx) := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

theorem peaks_apply (s : FVec Ideal S8x1x4x128x64x192 .f32) (b : Fin 8) (h : Fin 4) (n : Fin 128) (i : Fin 64) :
    peaks s ((ix5 b 0 h n i : S8x1x4x128x64.Idx)) = (Finset.univ : Finset (Fin 192)).fold max (Ideal.ofBits FTy.f32 4286578688#32) (fun k => s (ix6 b 0 h n i k)) := by
  have hr : S8x1x4x128x64x192.Reduces [5] S8x1x4x128x64 := by decide
  unfold peaks
  refine (Host.reduce_eq_fold_single FloatOps.maximumf s _ _ hr _ _).trans ?_
  have : s ∘ hr.lift (ix5 b 0 h n i : S8x1x4x128x64.Idx) = fun k => s (ix6 b 0 h n i k) := funext fun k => congrArg s (lift_eq hr b h n i k)
  rw [this]
  rfl

theorem totals_apply (s : FVec Ideal S8x1x4x128x64x192 .f32) (b : Fin 8) (h : Fin 4) (n : Fin 128) (i : Fin 64) :
    totals s ((ix5 b 0 h n i : S8x1x4x128x64.Idx)) = ∑ k, weights s (ix6 b 0 h n i k) := by
  have hr : S8x1x4x128x64x192.Reduces [5] S8x1x4x128x64 := by decide
  unfold totals
  pointwise
  refine (Ideal.hostReduceAdd_single _ hr (weights s) _ _).trans ?_
  rw [zero_add]
  exact Finset.sum_congr rfl fun k _ => congrArg (weights s) (lift_eq hr b h n i k)

theorem weights_apply (s : FVec Ideal S8x1x4x128x64x192 .f32) (b : Fin 8) (h : Fin 4) (n : Fin 128) (i : Fin 64) (k : Fin 192) :
    weights s ((ix6 b 0 h n i k: S8x1x4x128x64x192.Idx)) = Ideal.exp (s (ix6 b 0 h n i k) - peaks s (ix5 b 0 h n i)) := by
  pointwise [weights]

theorem mixed_apply (s : FVec Ideal S8x1x4x128x64x192 .f32) (w : FVec Ideal S8x1x4x128x192x64 .f32) (b : Fin 8) (h : Fin 4) (n : Fin 128) (i e : Fin 64) :
    mixed s w ((ix6 b 0 h n i e: S8x1x4x128x64x64.Idx)) = Ideal.div (∑ k, weights s (ix6 b 0 h n i k) * w (ix6 b 0 h n k e)) (totals s (ix5 b 0 h n i)) := by
  pointwise [mixed]

theorem log_at {s : Shape} (x : FVec Ideal s .f32) (i : s.Idx) : Host.log x i = Ideal.log (x i) := rfl

theorem keep_at (v : FVec Ideal S8x1x4x128x64 .f32) (b : Fin 8) (h : Fin 4) (n : Fin 128) (i : Fin 64) :
  broadcastInDim S8x1x4x128x64x1 ![0, 1, 2, 3, 4] bcast_S8x1x4x128x64_S8x1x4x128x64x1_0_1_2_3_4 v (ix6 b 0 h n i 0: S8x1x4x128x64x1.Idx) = v (ix5 b 0 h n i) := by
  pointwise

theorem logden_apply (s : FVec Ideal S8x1x4x128x64x192 .f32) (b : Fin 8) (h : Fin 4) (n : Fin 128) (i : Fin 64) :
    logden s ((ix6 b 0 h n i 0: S8x1x4x128x64x1.Idx)) = peaks s (ix5 b 0 h n i) + Ideal.log (totals s (ix5 b 0 h n i)) := by
  unfold logden
  rw [add_at, log_at, keep_at, keep_at]

theorem outs_apply (o : FVec Ideal S8x1x4x128x64x64 .f32) (b : Fin 8) (s : Fin 8192) (l : Fin 256) :
    outs o (ix3 b s l) = o (ix6 b 0 ⟨l.val / 64, by omega⟩ ⟨s.val / 64, by omega⟩ ⟨s.val % 64, by omega⟩ ⟨l.val % 64, by omega⟩) := by
  pointwise [outs]

theorem logs_apply (o : FVec Ideal S8x1x4x128x64x1 .f32) (b : Fin 8) (s : Fin 8192) (l : Fin 256) :
    logs o (ix3 b s l) = o (ix6 b 0 ⟨l.val / 64, by omega⟩ ⟨s.val / 64, by omega⟩ ⟨s.val % 64, by omega⟩ 0) := by
  pointwise [logs]

end Cert.AttnRefRead

end
-- ==== Proof.AttnRefWords.lean ====
/- The attention reference's small integers as words: distances and key positions of its windows. -/
module

public import Idealize.ShloMosaic.Lib.Pointwise

@[expose] public section

set_option maxRecDepth 65536

noncomputable section

open Idealize.ShloMosaic Idealize.ShloMosaic.TcCoe Idealize.SL.Sem

namespace Cert.AttnRefWords

/-- A key's distance from its query, as the program's words. -/
def away (a b : Nat) : BitVec 32 := IntOp.subi (IntOp.subi (BitVec.ofNat 32 b) 64#32) (BitVec.ofNat 32 a)

/-- The position of a window's column, as the program's words. -/
def place (n b : Nat) : BitVec 32 := IntOp.addi (IntOp.muli (BitVec.ofNat 32 n) 64#32) (IntOp.subi (BitVec.ofNat 32 b) 64#32)

/-- The distance's place in the bias, as the program's words. -/
def clip (a b : Nat) : BitVec 32 := IntOp.minsi 128#32 (IntOp.maxsi 0#32 (IntOp.addi (away a b) 64#32))

/-- The place a take reads, which counts a negative one from the end. -/
def slot (a b : Nat) : BitVec 32 := Scalar.select (IntOp.cmpi .slt (clip a b) 0#32) (IntOp.addi (clip a b) 129#32) (clip a b)

theorem near : ∀ (a : Fin 64) (b : Fin 192), IntOp.cmpi .sle (IntOp.absi (away a.val b.val)) 64#32
    = if a.val ≤ b.val ∧ b.val ≤ a.val + 128 then 1#1 else 0#1 := by decide +kernel

theorem inside : ∀ (n : Fin 128) (b : Fin 192), IntOp.cmpi .sge (place n.val b.val) 0#32
    = if 64 ≤ n.val * 64 + b.val then 1#1 else 0#1 := by decide +kernel

theorem below : ∀ (n : Fin 128) (b : Fin 192), IntOp.cmpi .slt (place n.val b.val) 8192#32
    = if n.val * 64 + b.val < 8256 then 1#1 else 0#1 := by decide +kernel

theorem slot_eq : ∀ (a : Fin 64) (b : Fin 192), a.val ≤ b.val → b.val ≤ a.val + 128 →
    min (slot a.val b.val).toInt.toNat 128 = b.val - a.val := by decide +kernel

end Cert.AttnRefWords

end
-- ==== Proof.AttnRefScore.lean ====
/- The attention reference's scores, outputs and log-denominators at a position, as the mean and log-denominator of its row. -/
module

public import proofs.«01_k».proof.Proof.AttnRefRead
public import proofs.«01_k».proof.Proof.AttnRefWords
public import proofs.«01_k».proof.Proof.AttnLine

@[expose] public section

set_option maxRecDepth 16384

noncomputable section

open Idealize.ShloMosaic Idealize.ShloMosaic.TcCoe Idealize.SL.Sem

namespace Cert.AttnRefScore
open Cert.AttnRefIdeal Cert.AttnRefIdeal.Gen Cert.AttnRefStages Cert.AttnRefRead Cert.AttnRefWords Cert.AttnLine Cert.AttnRow

theorem rels_apply (a : Fin 64) (c : Fin 192) : rels (ix2 a c) = away a.val c.val := by
  pointwise [rels]
  rfl

theorem clips_apply (a : Fin 64) (c : Fin 192) : clips (ix2 a c) = clip a.val c.val := by
  pointwise [clips]
  rw [rels_apply]
  rfl

theorem okays_apply (n : Fin 128) (a : Fin 64) (c : Fin 192) :
    okays (ix3 n a c) = IntOp.andi (IntOp.andi (IntOp.cmpi .sle (IntOp.absi (away a.val c.val)) 64#32)
      (IntOp.cmpi .sge (place n.val c.val) 0#32)) (IntOp.cmpi .slt (place n.val c.val) 8192#32) := by
  pointwise [okays]
  rw [rels_apply]
  rfl

theorem okays_eq (n : Fin 128) (a : Fin 64) (c : Fin 192) :
    okays (ix3 n a c) = if Counts (n.val * 64) a.val c.val then 1#1 else 0#1 := by
  rw [okays_apply, near, inside, below]
  by_cases h1 : a.val ≤ c.val ∧ c.val ≤ a.val + 128 <;> by_cases h2 : 64 ≤ n.val * 64 + c.val
    <;> by_cases h3 : n.val * 64 + c.val < 8256 <;> simp [Counts, h1, h2, h3, IntOp.andi]

theorem bias_apply (x3 : FVec Ideal S32x12 .f32) (h : Fin 4) (a : Fin 64) (c : Fin 192) (h1 : a.val ≤ c.val) (h2 : c.val ≤ a.val + 128) :
    bias x3 (ix3 h a c) = vec x3 (ix2 h ⟨min (c.val - a.val) 128, by omega⟩) := by
  unfold bias
  refine (AttnGather.columns _ gather_S4x129_S64x192x1_S4x64x192_0_1_n_n_1_2_41_wf rfl (by decide) _ _ h a c).trans ?_
  refine congrArg (vec x3) (congrArg (ix2 h) (Fin.ext ?_))
  refine Eq.trans ?_ (Nat.min_eq_left (show c.val - a.val ≤ 128 by omega)).symm
  refine Eq.trans (congrArg (fun w : BitVec 32 => min w.toInt.toNat 128) ?_) (slot_eq a c h1 h2)
  pointwise
  rw [clips_apply]
  rfl

theorem scores_eq (x0 x1 : FVec Ideal S8x8192x768 .f32) (x3 : FVec Ideal S32x12 .f32) (b : Fin 8) (h : Fin 4) (s : Fin 8192)
    (n : Fin 128) (i : Fin 64) (hs : s.val = n.val * 64 + i.val) (c : Fin 192) :
    scores x0 x1 x3 (ix6 b 0 h n i c) = line 192 x0 x1 (vec x3) b h s (n.val * 64) i.val c := by
  rw [scores_apply, okays_eq]
  unfold line
  by_cases hc : Counts (n.val * 64) i.val c.val
  · rw [if_pos hc, dif_pos hc]
    refine Eq.trans (b := dots (qs x0) (kw x1) (ix6 b 0 h n i c) + board x3 (ix6 b 0 h n i c)) rfl ?_
    unfold pair
    rw [dots_apply, board_apply, bias_apply x3 h i c hc.1.1 hc.1.2]
    refine congrArg₂ (· + ·) (Finset.sum_congr rfl fun e _ => ?_) ?_
    · rw [qs_apply, kw_apply x1 b h n c e ⟨n.val * 64 + c.val - 64, by omega⟩ (by show n.val * 64 + c.val = n.val * 64 + c.val - 64 + 64; omega)]
      have : s = ⟨n.val * 64 + i.val, by omega⟩ := Fin.ext hs
      rw [this]
    · refine congrArg (vec x3) (congrArg (ix2 h) (Fin.ext ?_))
      show min (c.val - i.val) 128 = min (n.val * 64 + c.val - 64 + 64 - s.val) 128
      omega
  · rw [if_neg hc, dif_neg hc]
    exact bottom

theorem peaks_eq (t : FVec Ideal S8x1x4x128x64x192 .f32) (b : Fin 8) (h : Fin 4) (n : Fin 128) (i : Fin 64) :
    peaks t (ix5 b 0 h n i) = peak fun c => t (ix6 b 0 h n i c) := peaks_apply t b h n i

theorem totals_eq (t : FVec Ideal S8x1x4x128x64x192 .f32) (b : Fin 8) (h : Fin 4) (n : Fin 128) (i : Fin 64) :
    totals t (ix5 b 0 h n i) = total fun c => t (ix6 b 0 h n i c) := by
  rw [totals_apply]
  unfold total
  refine Finset.sum_congr rfl fun c _ => ?_
  rw [weights_apply, peaks_eq]

theorem mixed_eq (t : FVec Ideal S8x1x4x128x64x192 .f32) (w : FVec Ideal S8x1x4x128x192x64 .f32) (b : Fin 8) (h : Fin 4)
    (n : Fin 128) (i e : Fin 64) :
    mixed t w (ix6 b 0 h n i e) = mean (fun c => t (ix6 b 0 h n i c)) fun c => w (ix6 b 0 h n c e) := by
  rw [mixed_apply, totals_eq]
  unfold mean
  refine congrArg (Ideal.div · _) (Finset.sum_congr rfl fun c _ => ?_)
  rw [weights_apply, peaks_eq]

theorem logden_eq (t : FVec Ideal S8x1x4x128x64x192 .f32) (b : Fin 8) (h : Fin 4) (n : Fin 128) (i : Fin 64) :
    AttnRefStages.logden t (ix6 b 0 h n i 0) = AttnRow.logden fun c => t (ix6 b 0 h n i c) := by
  rw [logden_apply, totals_eq, peaks_eq]
  rfl

section Wide
variable (x0 x1 x2 : FVec Ideal S8x8192x768 .f32) (x3 : FVec Ideal S32x12 .f32) (b : Fin 8) (s : Fin 8192) (l : Fin 256)
  (base r : Nat) (hs : s.val = base + r) (hb : base % 128 = 0) (hr : r < 128)

include hs hb hr in
/-- The output at position `s` and channel `l`, from a window of 256 columns that starts 64 before `base`. -/
theorem outs_eq (w : Fin 256 → EReal)
    (hw : ∀ c : Fin 256, ∀ hc : 64 ≤ base + c.val ∧ base + c.val < 8256, w c = x2 (ix3 b ⟨base + c.val - 64, by omega⟩ ⟨l.val, by omega⟩)) :
    outs (mixed (scores x0 x1 x3) (kw x2)) (ix3 b s l)
      = mean (line 256 x0 x1 (vec x3) b ⟨l.val / 64, by omega⟩ s base r) w := by
  rw [outs_apply, mixed_eq]
  have e : (fun c => scores x0 x1 x3 (ix6 b 0 ⟨l.val / 64, by omega⟩ ⟨s.val / 64, by omega⟩ ⟨s.val % 64, by omega⟩ c))
      = line 192 x0 x1 (vec x3) b ⟨l.val / 64, by omega⟩ s (base + r / 64 * 64) (r - r / 64 * 64) := funext fun c => by
    rw [scores_eq x0 x1 x3 b _ s _ _ (by show s.val = s.val / 64 * 64 + s.val % 64; omega) c]
    have e1 : s.val / 64 * 64 = base + r / 64 * 64 := by omega
    have e2 : s.val % 64 = r - r / 64 * 64 := by omega
    show line 192 x0 x1 (vec x3) b _ s (s.val / 64 * 64) (s.val % 64) c = _
    rw [e1, e2]
  rw [e]
  refine (mean_into x0 x1 (vec x3) b _ s base r (r / 64 * 64) (by omega) (by omega) (by omega) _ _ fun c hc => ?_).symm
  rw [hw _ (by simp only [into]; omega)]
  rw [kw_apply x2 b _ _ c _ ⟨base + r / 64 * 64 + c.val - 64, by omega⟩ (by show s.val / 64 * 64 + c.val = base + r / 64 * 64 + c.val - 64 + 64; omega)]
  congr 2
  · exact Fin.ext (by simp only [into]; omega)
  · exact Fin.ext (by show l.val = l.val / 64 * 64 + l.val % 64; omega)

include hs hb hr in
theorem logs_eq :
    logs (AttnRefStages.logden (scores x0 x1 x3)) (ix3 b s l)
      = AttnRow.logden (line 256 x0 x1 (vec x3) b ⟨l.val / 64, by omega⟩ s base r) := by
  rw [logs_apply, logden_eq]
  have e : (fun c => scores x0 x1 x3 (ix6 b 0 ⟨l.val / 64, by omega⟩ ⟨s.val / 64, by omega⟩ ⟨s.val % 64, by omega⟩ c))
      = line 192 x0 x1 (vec x3) b ⟨l.val / 64, by omega⟩ s (base + r / 64 * 64) (r - r / 64 * 64) := funext fun c => by
    rw [scores_eq x0 x1 x3 b _ s _ _ (by show s.val = s.val / 64 * 64 + s.val % 64; omega) c]
    have e1 : s.val / 64 * 64 = base + r / 64 * 64 := by omega
    have e2 : s.val % 64 = r - r / 64 * 64 := by omega
    show line 192 x0 x1 (vec x3) b _ s (s.val / 64 * 64) (s.val % 64) c = _
    rw [e1, e2]
  rw [e]
  exact (logden_into x0 x1 (vec x3) b _ s base r (r / 64 * 64) (by omega) (by omega) (by omega)).symm

end Wide

end Cert.AttnRefScore

end
-- ==== Proof.AttnFinal.lean ====
/- The attention kernel's output arrays after the run: each is a half of the reference's outputs or log-denominators. -/
module

public import proofs.«01_k».proof.Proof.AttnLoads
public import proofs.«01_k».proof.Proof.AttnRefScore

@[expose] public section

set_option maxRecDepth 16384

noncomputable section

open Idealize.ShloMosaic Idealize.ShloMosaic.TcCoe Idealize.SL.Sem

namespace Cert.AttnFinal
open Cert.AttnIdeal Cert.AttnIdeal.Gen Cert.AttnBlocks Cert.AttnLoads Cert.AttnKernel

variable (m : (ℓ : Loc nD τ sig) → Buf (Elt Ideal) ℓ)

/-- The reference's outputs over the kernel's arguments. -/
def outs (c : Dev nD) : FVec Ideal Cert.AttnRefIdeal.S8x8192x256 .f32 :=
  AttnRefStages.outs (AttnRefStages.mixed (AttnRefStages.scores (F := Ideal) (arg0 m c) (arg1 m c) (arg3 m c)) (AttnRefStages.kw (arg2 m c)))

/-- The reference's log-denominators over the kernel's arguments. -/
def logs (c : Dev nD) : FVec Ideal Cert.AttnRefIdeal.S8x8192x256 .f32 :=
  AttnRefStages.logs (AttnRefStages.logden (AttnRefStages.scores (F := Ideal) (arg0 m c) (arg1 m c) (arg3 m c)))

/-- A half of a result's channels. -/
def half (p : Fin 2) (x : FVec Ideal Cert.AttnRefIdeal.S8x8192x256 .f32) : FVec Ideal S8x8192x128 .f32 :=
  fun i => x (ix3 (i 0) (i 1) ⟨p.val * 128 + (i 2).val, by have h : (i 2).val < 128 := (i 2).isLt; omega⟩)

theorem half_apply (p : Fin 2) (x : FVec Ideal Cert.AttnRefIdeal.S8x8192x256 .f32) (b : Fin 8) (s : Fin 8192) (l : Fin 128) :
    half p x (ix3 b s l) = x (ix3 b s ⟨p.val * 128 + l.val, by omega⟩) := rfl

theorem half0 (x : FVec Ideal Cert.AttnRefIdeal.S8x8192x256 .f32)
    (h : Cert.AttnRefIdeal.S8x8192x256.Slices ![0, 0, 0] Cert.AttnRefIdeal.S8x8192x128) :
    half 0 x = (extractStridedSlice Cert.AttnRefIdeal.S8x8192x128 ![0, 0, 0] x h : FVec Ideal Cert.AttnRefIdeal.S8x8192x128 .f32) := by
  funext i
  idx_vars i
  rw [half_apply]
  refine Eq.symm ?_
  pointwise

theorem half1 (x : FVec Ideal Cert.AttnRefIdeal.S8x8192x256 .f32)
    (h : Cert.AttnRefIdeal.S8x8192x256.Slices ![0, 0, 128] Cert.AttnRefIdeal.S8x8192x128) :
    half 1 x = (extractStridedSlice Cert.AttnRefIdeal.S8x8192x128 ![0, 0, 128] x h : FVec Ideal Cert.AttnRefIdeal.S8x8192x128 .f32) := by
  funext i
  idx_vars i
  rw [half_apply]
  refine Eq.symm ?_
  pointwise

section Tile
variable (c : Dev nD) (t : Fin cfg0.N) (p : Fin 2) (j : Fin 4) (w : BitVec 32) (hw : w = BitVec.ofNat 32 (128 * j.val))
  (q : FVec Ideal S1x128x128 .f32) (kw : FVec Ideal S256x128 .bf16)
  (hq : ∀ (r l : Fin 128), q (ix3 0 r l)
    = arg0 m c (ix3 (bat t) ⟨(t.val % 16 * 512 + 128 * j.val) + r.val, by omega⟩ ⟨p.val * 128 + l.val, by omega⟩))
  (hk : ∀ (y : Fin 256) (l : Fin 128), ∀ hc : 64 ≤ (t.val % 16 * 512 + 128 * j.val) + y.val ∧ (t.val % 16 * 512 + 128 * j.val) + y.val < 8256,
    kw (ix2 y l) = arg1 m c (ix3 (bat t) ⟨(t.val % 16 * 512 + 128 * j.val) + y.val - 64, by omega⟩ ⟨p.val * 128 + l.val, by omega⟩))
  (t0 t1 : FVec Ideal S1x1x128x256 .f32)
  (h0 : Holds (AttnRefStages.vec (F := Ideal) (arg3 m c)) ⟨p.val * 2 + 0, by omega⟩ t0)
  (h1 : Holds (AttnRefStages.vec (F := Ideal) (arg3 m c)) ⟨p.val * 2 + 1, by omega⟩ t1)

include hw hq hk h0 h1 in
theorem tile_o (vw : FVec Ideal S256x128 .bf16)
    (hv : ∀ (y : Fin 256) (l : Fin 128), ∀ hc : 64 ≤ (t.val % 16 * 512 + 128 * j.val) + y.val ∧ (t.val % 16 * 512 + 128 * j.val) + y.val < 8256,
      vw (ix2 y l) = arg2 m c (ix3 (bat t) ⟨(t.val % 16 * 512 + 128 * j.val) + y.val - 64, by omega⟩ ⟨p.val * 128 + l.val, by omega⟩))
    (r l : Fin 128) :
    AttnTile.tileO (F := Ideal) (AttnTile.scores AttnTile.low (AttnTile.inside (AttnTile.start (BitVec.ofNat 32 (grid0.coords t 1).val) w)) q kw t0)
      (AttnTile.scores AttnTile.high (AttnTile.inside (AttnTile.start (BitVec.ofNat 32 (grid0.coords t 1).val) w)) q kw t1) vw (ix3 0 r l)
      = half p (outs m c) (ix3 (bat t) ⟨(t.val % 16 * 512 + 128 * j.val) + r.val, by omega⟩ l) := by
  refine (tileO_eq (arg0 m c) (arg1 m c) (AttnRefStages.vec (arg3 m c)) (bat t) p (t.val % 16 * 512 + 128 * j.val) (by omega) _
    (inside_eq t j w hw) q hq kw hk t0 t1 h0 h1 vw r l ⟨(t.val % 16 * 512 + 128 * j.val) + r.val, by omega⟩ rfl).trans ?_
  rw [half_apply]
  refine Eq.trans ?_ (AttnRefScore.outs_eq (arg0 m c) (arg1 m c) (arg2 m c) (arg3 m c) (bat t) _ _ (t.val % 16 * 512 + 128 * j.val) r.val
    rfl (by omega) r.isLt (fun y => vw (ix2 y l)) fun y hc => hv y l hc).symm
  have e : (⟨p.val * 2 + l.val / 64, by omega⟩ : Fin 4) = ⟨(p.val * 128 + l.val) / 64, by omega⟩ :=
    Fin.ext (by show p.val * 2 + l.val / 64 = (p.val * 128 + l.val) / 64; omega)
  rw [e]

include hw hq hk h0 h1 in
theorem tile_l (r l : Fin 128) :
    AttnTile.tileL (F := Ideal) (AttnTile.scores AttnTile.low (AttnTile.inside (AttnTile.start (BitVec.ofNat 32 (grid0.coords t 1).val) w)) q kw t0)
      (AttnTile.scores AttnTile.high (AttnTile.inside (AttnTile.start (BitVec.ofNat 32 (grid0.coords t 1).val) w)) q kw t1) (ix3 0 r l)
      = half p (logs m c) (ix3 (bat t) ⟨(t.val % 16 * 512 + 128 * j.val) + r.val, by omega⟩ l) := by
  refine (tileL_eq (arg0 m c) (arg1 m c) (AttnRefStages.vec (arg3 m c)) (bat t) p (t.val % 16 * 512 + 128 * j.val) (by omega) _
    (inside_eq t j w hw) q hq kw hk t0 t1 h0 h1 r l ⟨(t.val % 16 * 512 + 128 * j.val) + r.val, by omega⟩ rfl).trans ?_
  rw [half_apply]
  refine Eq.trans ?_ (AttnRefScore.logs_eq (arg0 m c) (arg1 m c) (arg3 m c) (bat t) _ _ (t.val % 16 * 512 + 128 * j.val) r.val
    rfl (by omega) r.isLt).symm
  have e : (⟨p.val * 2 + l.val / 64, by omega⟩ : Fin 4) = ⟨(p.val * 128 + l.val) / 64, by omega⟩ :=
    Fin.ext (by show p.val * 2 + l.val / 64 = (p.val * 128 + l.val) / 64; omega)
  rw [e]

end Tile

theorem q0_0 (c : Dev nD) (t : Fin cfg0.N) (r l : Fin 128) :
    (View.ld (Val := Elt Ideal) (e' := .f32) (iblk m c 0 t) r0_2 : FVec Ideal S1x128x128 .f32) (ix3 0 r l)
      = arg0 m c (ix3 (bat t) ⟨(t.val % 16 * 512 + 128 * (0 : Fin 4).val) + r.val, by omega⟩ ⟨(0 : Fin 2).val * 128 + l.val, by omega⟩) := by
  rw [ld2, q0_read]
  exact congrArg (fun i => arg0 m c (ix3 (bat t) i _)) (Fin.ext (by show t.val % 16 * 512 + (128 * 0 + r.val) = t.val % 16 * 512 + 128 * 0 + r.val; omega))

theorem q0_1 (c : Dev nD) (t : Fin cfg0.N) (r l : Fin 128) :
    (View.ld (Val := Elt Ideal) (e' := .f32) (iblk m c 0 t) r0_5 : FVec Ideal S1x128x128 .f32) (ix3 0 r l)
      = arg0 m c (ix3 (bat t) ⟨(t.val % 16 * 512 + 128 * (1 : Fin 4).val) + r.val, by omega⟩ ⟨(0 : Fin 2).val * 128 + l.val, by omega⟩) := by
  rw [ld5, q0_read]
  exact congrArg (fun i => arg0 m c (ix3 (bat t) i _)) (Fin.ext (by show t.val % 16 * 512 + (128 * 1 + r.val) = t.val % 16 * 512 + 128 * 1 + r.val; omega))

theorem q0_2 (c : Dev nD) (t : Fin cfg0.N) (r l : Fin 128) :
    (View.ld (Val := Elt Ideal) (e' := .f32) (iblk m c 0 t) r0_6 : FVec Ideal S1x128x128 .f32) (ix3 0 r l)
      = arg0 m c (ix3 (bat t) ⟨(t.val % 16 * 512 + 128 * (2 : Fin 4).val) + r.val, by omega⟩ ⟨(0 : Fin 2).val * 128 + l.val, by omega⟩) := by
  rw [ld6, q0_read]
  exact congrArg (fun i => arg0 m c (ix3 (bat t) i _)) (Fin.ext (by show t.val % 16 * 512 + (128 * 2 + r.val) = t.val % 16 * 512 + 128 * 2 + r.val; omega))

theorem q0_3 (c : Dev nD) (t : Fin cfg0.N) (r l : Fin 128) :
    (View.ld (Val := Elt Ideal) (e' := .f32) (iblk m c 0 t) r0_7 : FVec Ideal S1x128x128 .f32) (ix3 0 r l)
      = arg0 m c (ix3 (bat t) ⟨(t.val % 16 * 512 + 128 * (3 : Fin 4).val) + r.val, by omega⟩ ⟨(0 : Fin 2).val * 128 + l.val, by omega⟩) := by
  rw [ld7, q0_read]
  exact congrArg (fun i => arg0 m c (ix3 (bat t) i _)) (Fin.ext (by show t.val % 16 * 512 + (128 * 3 + r.val) = t.val % 16 * 512 + 128 * 3 + r.val; omega))

theorem q1_0 (c : Dev nD) (t : Fin cfg0.N) (r l : Fin 128) :
    (View.ld (Val := Elt Ideal) (e' := .f32) (iblk m c 1 t) r0_2 : FVec Ideal S1x128x128 .f32) (ix3 0 r l)
      = arg0 m c (ix3 (bat t) ⟨(t.val % 16 * 512 + 128 * (0 : Fin 4).val) + r.val, by omega⟩ ⟨(1 : Fin 2).val * 128 + l.val, by omega⟩) := by
  rw [ld2, q1_read]
  exact congrArg (fun i => arg0 m c (ix3 (bat t) i _)) (Fin.ext (by show t.val % 16 * 512 + (128 * 0 + r.val) = t.val % 16 * 512 + 128 * 0 + r.val; omega))

theorem q1_1 (c : Dev nD) (t : Fin cfg0.N) (r l : Fin 128) :
    (View.ld (Val := Elt Ideal) (e' := .f32) (iblk m c 1 t) r0_5 : FVec Ideal S1x128x128 .f32) (ix3 0 r l)
      = arg0 m c (ix3 (bat t) ⟨(t.val % 16 * 512 + 128 * (1 : Fin 4).val) + r.val, by omega⟩ ⟨(1 : Fin 2).val * 128 + l.val, by omega⟩) := by
  rw [ld5, q1_read]
  exact congrArg (fun i => arg0 m c (ix3 (bat t) i _)) (Fin.ext (by show t.val % 16 * 512 + (128 * 1 + r.val) = t.val % 16 * 512 + 128 * 1 + r.val; omega))

theorem q1_2 (c : Dev nD) (t : Fin cfg0.N) (r l : Fin 128) :
    (View.ld (Val := Elt Ideal) (e' := .f32) (iblk m c 1 t) r0_6 : FVec Ideal S1x128x128 .f32) (ix3 0 r l)
      = arg0 m c (ix3 (bat t) ⟨(t.val % 16 * 512 + 128 * (2 : Fin 4).val) + r.val, by omega⟩ ⟨(1 : Fin 2).val * 128 + l.val, by omega⟩) := by
  rw [ld6, q1_read]
  exact congrArg (fun i => arg0 m c (ix3 (bat t) i _)) (Fin.ext (by show t.val % 16 * 512 + (128 * 2 + r.val) = t.val % 16 * 512 + 128 * 2 + r.val; omega))

theorem q1_3 (c : Dev nD) (t : Fin cfg0.N) (r l : Fin 128) :
    (View.ld (Val := Elt Ideal) (e' := .f32) (iblk m c 1 t) r0_7 : FVec Ideal S1x128x128 .f32) (ix3 0 r l)
      = arg0 m c (ix3 (bat t) ⟨(t.val % 16 * 512 + 128 * (3 : Fin 4).val) + r.val, by omega⟩ ⟨(1 : Fin 2).val * 128 + l.val, by omega⟩) := by
  rw [ld7, q1_read]
  exact congrArg (fun i => arg0 m c (ix3 (bat t) i _)) (Fin.ext (by show t.val % 16 * 512 + (128 * 3 + r.val) = t.val % 16 * 512 + 128 * 3 + r.val; omega))

theorem win_0 (t : Fin cfg0.N) (p : Fin 2) (a : FVec Ideal S8x8192x768 .f32) (pre nxt : FVec Ideal S1x64x128 .f32)
    (cur : FVec Ideal S1x512x128 .f32) (hA : Around t p a pre cur nxt) (y : Fin 256) (l : Fin 128)
    (hc : 64 ≤ (t.val % 16 * 512 + 128 * (0 : Fin 4).val) + y.val ∧ (t.val % 16 * 512 + 128 * (0 : Fin 4).val) + y.val < 8256) :
    AttnTile.win0 (F := Ideal) (AttnTile.full (View.ld (Val := Elt Ideal) (e' := .f32) pre r0_0) (View.ld (Val := Elt Ideal) (e' := .f32) cur r0_1)
      (View.ld (Val := Elt Ideal) (e' := .f32) nxt r0_0)) (ix2 y l)
      = a (ix3 (bat t) ⟨(t.val % 16 * 512 + 128 * (0 : Fin 4).val) + y.val - 64, by omega⟩ ⟨p.val * 128 + l.val, by omega⟩) := by
  rw [win0_apply]
  exact full_read t p a pre nxt cur hA _ l _ _ (by show t.val % 16 * 512 + 128 * 0 + y.val = t.val % 16 * 512 + (128 * 0 + y.val); omega) hc

theorem win_1 (t : Fin cfg0.N) (p : Fin 2) (a : FVec Ideal S8x8192x768 .f32) (pre nxt : FVec Ideal S1x64x128 .f32)
    (cur : FVec Ideal S1x512x128 .f32) (hA : Around t p a pre cur nxt) (y : Fin 256) (l : Fin 128)
    (hc : 64 ≤ (t.val % 16 * 512 + 128 * (1 : Fin 4).val) + y.val ∧ (t.val % 16 * 512 + 128 * (1 : Fin 4).val) + y.val < 8256) :
    AttnTile.win1 (F := Ideal) (AttnTile.full (View.ld (Val := Elt Ideal) (e' := .f32) pre r0_0) (View.ld (Val := Elt Ideal) (e' := .f32) cur r0_1)
      (View.ld (Val := Elt Ideal) (e' := .f32) nxt r0_0)) (ix2 y l)
      = a (ix3 (bat t) ⟨(t.val % 16 * 512 + 128 * (1 : Fin 4).val) + y.val - 64, by omega⟩ ⟨p.val * 128 + l.val, by omega⟩) := by
  rw [win1_apply]
  exact full_read t p a pre nxt cur hA _ l _ _ (by show t.val % 16 * 512 + 128 * 1 + y.val = t.val % 16 * 512 + (128 * 1 + y.val); omega) hc

theorem win_2 (t : Fin cfg0.N) (p : Fin 2) (a : FVec Ideal S8x8192x768 .f32) (pre nxt : FVec Ideal S1x64x128 .f32)
    (cur : FVec Ideal S1x512x128 .f32) (hA : Around t p a pre cur nxt) (y : Fin 256) (l : Fin 128)
    (hc : 64 ≤ (t.val % 16 * 512 + 128 * (2 : Fin 4).val) + y.val ∧ (t.val % 16 * 512 + 128 * (2 : Fin 4).val) + y.val < 8256) :
    AttnTile.win2 (F := Ideal) (AttnTile.full (View.ld (Val := Elt Ideal) (e' := .f32) pre r0_0) (View.ld (Val := Elt Ideal) (e' := .f32) cur r0_1)
      (View.ld (Val := Elt Ideal) (e' := .f32) nxt r0_0)) (ix2 y l)
      = a (ix3 (bat t) ⟨(t.val % 16 * 512 + 128 * (2 : Fin 4).val) + y.val - 64, by omega⟩ ⟨p.val * 128 + l.val, by omega⟩) := by
  rw [win2_apply]
  exact full_read t p a pre nxt cur hA _ l _ _ (by show t.val % 16 * 512 + 128 * 2 + y.val = t.val % 16 * 512 + (128 * 2 + y.val); omega) hc

theorem win_3 (t : Fin cfg0.N) (p : Fin 2) (a : FVec Ideal S8x8192x768 .f32) (pre nxt : FVec Ideal S1x64x128 .f32)
    (cur : FVec Ideal S1x512x128 .f32) (hA : Around t p a pre cur nxt) (y : Fin 256) (l : Fin 128)
    (hc : 64 ≤ (t.val % 16 * 512 + 128 * (3 : Fin 4).val) + y.val ∧ (t.val % 16 * 512 + 128 * (3 : Fin 4).val) + y.val < 8256) :
    AttnTile.win3 (F := Ideal) (AttnTile.full (View.ld (Val := Elt Ideal) (e' := .f32) pre r0_0) (View.ld (Val := Elt Ideal) (e' := .f32) cur r0_1)
      (View.ld (Val := Elt Ideal) (e' := .f32) nxt r0_0)) (ix2 y l)
      = a (ix3 (bat t) ⟨(t.val % 16 * 512 + 128 * (3 : Fin 4).val) + y.val - 64, by omega⟩ ⟨p.val * 128 + l.val, by omega⟩) := by
  rw [win3_apply]
  exact full_read t p a pre nxt cur hA _ l _ _ (by show t.val % 16 * 512 + 128 * 3 + y.val = t.val % 16 * 512 + (128 * 3 + y.val); omega) hc

set_option maxHeartbeats 1000000 in
/-- The array of pair 0's outputs after the run. -/
theorem final15 (c : Dev nD) : (dats m 0 c).arrAt 15 cfg0.N = half 0 (outs m c) := by
  refine (dats m 0 c).arrAt_eq_of_covers 15 _ (by decide +kernel) fun t _ y => ?_
  blk_simp
  rw [after0_15, Cert.AttnTile.out15]
  canon_tiles x h
  · idx_vars x
    obtain rfl : x0 = 0 := Subsingleton.elim _ _
    refine (tile_o m c t 0 3 _ rfl _ _ (q0_3 m c t) (win_3 t 0 _ _ _ _ (k0_read m c t)) _ _ (holds3 m c t) (holds4 m c t) _ (win_3 t 0 _ _ _ _ (v0_read m c t)) x1 x2).trans ?_
    refine congrArg (half 0 (outs m c)) ?_
    blk_ext [(idxD t)]
  · idx_vars x
    obtain rfl : x0 = 0 := Subsingleton.elim _ _
    refine (tile_o m c t 0 2 _ rfl _ _ (q0_2 m c t) (win_2 t 0 _ _ _ _ (k0_read m c t)) _ _ (holds3 m c t) (holds4 m c t) _ (win_2 t 0 _ _ _ _ (v0_read m c t)) x1 x2).trans ?_
    refine congrArg (half 0 (outs m c)) ?_
    blk_ext [(idxD t)]
  · idx_vars x
    obtain rfl : x0 = 0 := Subsingleton.elim _ _
    refine (tile_o m c t 0 1 _ rfl _ _ (q0_1 m c t) (win_1 t 0 _ _ _ _ (k0_read m c t)) _ _ (holds3 m c t) (holds4 m c t) _ (win_1 t 0 _ _ _ _ (v0_read m c t)) x1 x2).trans ?_
    refine congrArg (half 0 (outs m c)) ?_
    blk_ext [(idxD t)]
  · idx_vars x
    obtain rfl : x0 = 0 := Subsingleton.elim _ _
    refine (tile_o m c t 0 0 _ rfl _ _ (q0_0 m c t) (win_0 t 0 _ _ _ _ (k0_read m c t)) _ _ (holds3 m c t) (holds4 m c t) _ (win_0 t 0 _ _ _ _ (v0_read m c t)) x1 x2).trans ?_
    refine congrArg (half 0 (outs m c)) ?_
    blk_ext [(idxD t)]

set_option maxHeartbeats 1000000 in
/-- The array of pair 1's outputs after the run. -/
theorem final16 (c : Dev nD) : (dats m 0 c).arrAt 16 cfg0.N = half 1 (outs m c) := by
  refine (dats m 0 c).arrAt_eq_of_covers 16 _ (by decide +kernel) fun t _ y => ?_
  blk_simp
  rw [after0_16, Cert.AttnTile.out16]
  canon_tiles x h
  · idx_vars x
    obtain rfl : x0 = 0 := Subsingleton.elim _ _
    refine (tile_o m c t 1 3 _ rfl _ _ (q1_3 m c t) (win_3 t 1 _ _ _ _ (k1_read m c t)) _ _ (holds8 m c t) (holds9 m c t) _ (win_3 t 1 _ _ _ _ (v1_read m c t)) x1 x2).trans ?_
    refine congrArg (half 1 (outs m c)) ?_
    blk_ext [(idxD t)]
  · idx_vars x
    obtain rfl : x0 = 0 := Subsingleton.elim _ _
    refine (tile_o m c t 1 2 _ rfl _ _ (q1_2 m c t) (win_2 t 1 _ _ _ _ (k1_read m c t)) _ _ (holds8 m c t) (holds9 m c t) _ (win_2 t 1 _ _ _ _ (v1_read m c t)) x1 x2).trans ?_
    refine congrArg (half 1 (outs m c)) ?_
    blk_ext [(idxD t)]
  · idx_vars x
    obtain rfl : x0 = 0 := Subsingleton.elim _ _
    refine (tile_o m c t 1 1 _ rfl _ _ (q1_1 m c t) (win_1 t 1 _ _ _ _ (k1_read m c t)) _ _ (holds8 m c t) (holds9 m c t) _ (win_1 t 1 _ _ _ _ (v1_read m c t)) x1 x2).trans ?_
    refine congrArg (half 1 (outs m c)) ?_
    blk_ext [(idxD t)]
  · idx_vars x
    obtain rfl : x0 = 0 := Subsingleton.elim _ _
    refine (tile_o m c t 1 0 _ rfl _ _ (q1_0 m c t) (win_0 t 1 _ _ _ _ (k1_read m c t)) _ _ (holds8 m c t) (holds9 m c t) _ (win_0 t 1 _ _ _ _ (v1_read m c t)) x1 x2).trans ?_
    refine congrArg (half 1 (outs m c)) ?_
    blk_ext [(idxD t)]

set_option maxHeartbeats 1000000 in
/-- The array of pair 0's log-denominators after the run. -/
theorem final17 (c : Dev nD) : (dats m 0 c).arrAt 17 cfg0.N = half 0 (logs m c) := by
  refine (dats m 0 c).arrAt_eq_of_covers 17 _ (by decide +kernel) fun t _ y => ?_
  blk_simp
  rw [after0_17, Cert.AttnTile.out17]
  canon_tiles x h
  · idx_vars x
    obtain rfl : x0 = 0 := Subsingleton.elim _ _
    refine (tile_l m c t 0 3 _ rfl _ _ (q0_3 m c t) (win_3 t 0 _ _ _ _ (k0_read m c t)) _ _ (holds3 m c t) (holds4 m c t) x1 x2).trans ?_
    refine congrArg (half 0 (logs m c)) ?_
    blk_ext [(idxD t)]
  · idx_vars x
    obtain rfl : x0 = 0 := Subsingleton.elim _ _
    refine (tile_l m c t 0 2 _ rfl _ _ (q0_2 m c t) (win_2 t 0 _ _ _ _ (k0_read m c t)) _ _ (holds3 m c t) (holds4 m c t) x1 x2).trans ?_
    refine congrArg (half 0 (logs m c)) ?_
    blk_ext [(idxD t)]
  · idx_vars x
    obtain rfl : x0 = 0 := Subsingleton.elim _ _
    refine (tile_l m c t 0 1 _ rfl _ _ (q0_1 m c t) (win_1 t 0 _ _ _ _ (k0_read m c t)) _ _ (holds3 m c t) (holds4 m c t) x1 x2).trans ?_
    refine congrArg (half 0 (logs m c)) ?_
    blk_ext [(idxD t)]
  · idx_vars x
    obtain rfl : x0 = 0 := Subsingleton.elim _ _
    refine (tile_l m c t 0 0 _ rfl _ _ (q0_0 m c t) (win_0 t 0 _ _ _ _ (k0_read m c t)) _ _ (holds3 m c t) (holds4 m c t) x1 x2).trans ?_
    refine congrArg (half 0 (logs m c)) ?_
    blk_ext [(idxD t)]

set_option maxHeartbeats 1000000 in
/-- The array of pair 1's log-denominators after the run. -/
theorem final18 (c : Dev nD) : (dats m 0 c).arrAt 18 cfg0.N = half 1 (logs m c) := by
  refine (dats m 0 c).arrAt_eq_of_covers 18 _ (by decide +kernel) fun t _ y => ?_
  blk_simp
  rw [after0_18, Cert.AttnTile.out18]
  canon_tiles x h
  · idx_vars x
    obtain rfl : x0 = 0 := Subsingleton.elim _ _
    refine (tile_l m c t 1 3 _ rfl _ _ (q1_3 m c t) (win_3 t 1 _ _ _ _ (k1_read m c t)) _ _ (holds8 m c t) (holds9 m c t) x1 x2).trans ?_
    refine congrArg (half 1 (logs m c)) ?_
    blk_ext [(idxD t)]
  · idx_vars x
    obtain rfl : x0 = 0 := Subsingleton.elim _ _
    refine (tile_l m c t 1 2 _ rfl _ _ (q1_2 m c t) (win_2 t 1 _ _ _ _ (k1_read m c t)) _ _ (holds8 m c t) (holds9 m c t) x1 x2).trans ?_
    refine congrArg (half 1 (logs m c)) ?_
    blk_ext [(idxD t)]
  · idx_vars x
    obtain rfl : x0 = 0 := Subsingleton.elim _ _
    refine (tile_l m c t 1 1 _ rfl _ _ (q1_1 m c t) (win_1 t 1 _ _ _ _ (k1_read m c t)) _ _ (holds8 m c t) (holds9 m c t) x1 x2).trans ?_
    refine congrArg (half 1 (logs m c)) ?_
    blk_ext [(idxD t)]
  · idx_vars x
    obtain rfl : x0 = 0 := Subsingleton.elim _ _
    refine (tile_l m c t 1 0 _ rfl _ _ (q1_0 m c t) (win_0 t 1 _ _ _ _ (k1_read m c t)) _ _ (holds8 m c t) (holds9 m c t) x1 x2).trans ?_
    refine congrArg (half 1 (logs m c)) ?_
    blk_ext [(idxD t)]

end Cert.AttnFinal

end
-- ==== Proof.AttnRefRun.lean ====
/- The attention reference's run, its results as halves of the outputs and log-denominators over its arguments. -/
module

public import proofs.«01_k».proof.Proof.AttnFinal

@[expose] public section

set_option maxRecDepth 16384

noncomputable section

open Idealize.ShloMosaic Idealize.ShloMosaic.TcCoe Idealize.SL.Sem

namespace Cert.AttnRefRun
open Cert.AttnRefIdeal Cert.AttnRefIdeal.Gen Cert.AttnRefIdeal.Value

/-- A half of the outputs, over any queries, keys, values and biases. -/
@[irreducible] def outs (p : Fin 2) (q k v : FVec Ideal S8x8192x768 .f32) (b : FVec Ideal S32x12 .f32) : FVec Ideal S8x8192x128 .f32 :=
  AttnFinal.half p (AttnRefStages.outs (AttnRefStages.mixed (AttnRefStages.scores q k b) (AttnRefStages.kw v)))

/-- A half of the log-denominators, over any queries, keys and biases. -/
@[irreducible] def logs (p : Fin 2) (q k : FVec Ideal S8x8192x768 .f32) (b : FVec Ideal S32x12 .f32) : FVec Ideal S8x8192x128 .f32 :=
  AttnFinal.half p (AttnRefStages.logs (AttnRefStages.logden (AttnRefStages.scores q k b)))

theorem outs_kernel (p : Fin 2) (m : (ℓ : Loc AttnIdeal.nD AttnIdeal.τ AttnIdeal.sig) → Buf (Elt Ideal) ℓ) (c : Dev AttnIdeal.nD) :
    AttnFinal.half p (AttnFinal.outs m c)
      = outs p (AttnBlocks.arg0 m c) (AttnBlocks.arg1 m c) (AttnBlocks.arg2 m c) (AttnBlocks.arg3 m c) := by
  unfold outs AttnFinal.outs
  exact rfl

theorem logs_kernel (p : Fin 2) (m : (ℓ : Loc AttnIdeal.nD AttnIdeal.τ AttnIdeal.sig) → Buf (Elt Ideal) ℓ) (c : Dev AttnIdeal.nD) :
    AttnFinal.half p (AttnFinal.logs m c)
      = logs p (AttnBlocks.arg0 m c) (AttnBlocks.arg1 m c) (AttnBlocks.arg3 m c) := by
  unfold logs AttnFinal.logs
  exact rfl

variable (m : (ℓ : Loc nD τ sig) → Buf (Elt Ideal) ℓ)

theorem res103 (c : Dev nD) : res_main_v103 m c = outs 0 (m ((c.tc : Thread nD τ).loc main_arg0)) (m ((c.tc : Thread nD τ).loc main_arg1)) (m ((c.tc : Thread nD τ).loc main_arg2)) (m ((c.tc : Thread nD τ).loc main_arg3)) := by
  refine (AttnRefStages.res103 m c).trans ?_
  unfold outs
  exact (AttnFinal.half0 _ _).symm

theorem res104 (c : Dev nD) : res_main_v104 m c = outs 1 (m ((c.tc : Thread nD τ).loc main_arg0)) (m ((c.tc : Thread nD τ).loc main_arg1)) (m ((c.tc : Thread nD τ).loc main_arg2)) (m ((c.tc : Thread nD τ).loc main_arg3)) := by
  refine (AttnRefStages.res104 m c).trans ?_
  unfold outs
  exact (AttnFinal.half1 _ _).symm

theorem res105 (c : Dev nD) : res_main_v105 m c = logs 0 (m ((c.tc : Thread nD τ).loc main_arg0)) (m ((c.tc : Thread nD τ).loc main_arg1)) (m ((c.tc : Thread nD τ).loc main_arg3)) := by
  refine (AttnRefStages.res105 m c).trans ?_
  unfold logs
  exact (AttnFinal.half0 _ _).symm

theorem res106 (c : Dev nD) : res_main_v106 m c = logs 1 (m ((c.tc : Thread nD τ).loc main_arg0)) (m ((c.tc : Thread nD τ).loc main_arg1)) (m ((c.tc : Thread nD τ).loc main_arg3)) := by
  refine (AttnRefStages.res106 m c).trans ?_
  unfold logs
  exact (AttnFinal.half1 _ _).symm

/-- The run of the reference. -/
theorem run (g : Dev nD → PrngReg) : θ_run defs (onTc (τ := τ) (main (F := Ideal))) ⟨m, fun _ => 0, g⟩ fun r => ∀ c : Dev nD,
      r.2.mem ((c.tc : Thread nD τ).loc main_v103) = outs 0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v104) = outs 1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v105) = logs 0 (m ((c.tc : Thread nD τ).loc main_arg0)) (m ((c.tc : Thread nD τ).loc main_arg1)) (m ((c.tc : Thread nD τ).loc main_arg3))
      ∧ r.2.mem ((c.tc : Thread nD τ).loc main_v106) = logs 1 (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (res103 m c), (h c).2.1.trans (res104 m c), (h c).2.2.1.trans (res105 m c),
    (h c).2.2.2.1.trans (res106 m c), (h c).2.2.2.2⟩) (Cert.AttnRefIdeal.Value.run m g)

end Cert.AttnRefRun

end
-- ==== Proof.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.AttnRefIdeal
public import proofs.«01_k».proof.Proof.Gen.AttnRef
public import proofs.«01_k».proof.Proof.Gen.AttnRef.Run
public import proofs.«01_k».proof.Proof.Gen.InProjRefIdeal
public import proofs.«01_k».proof.Proof.Gen.AttnIdeal.Value
public import proofs.«01_k».proof.Proof.Gen.InProjIdeal.Value
public import proofs.«01_k».proof.Proof.Gen.AttnRefIdeal.Run
public import proofs.«01_k».proof.Proof.Gen.InProjRefIdeal.Run
public import proofs.«01_k».proof.Proof.Gen.InProjRefIdeal.Read
public import proofs.«01_k».proof.Proof.Gen.Merge
public import proofs.«01_k».proof.Proof.Gen.MergeIdeal
public import proofs.«01_k».proof.Proof.Gen.MergeRefIdeal
public import proofs.«01_k».proof.Proof.Gen.Pre_log_denominators_finite
public import proofs.«01_k».proof.Proof.Gen.MergeRefIdeal.Run
public import proofs.«01_k».proof.Proof.Gen.MergeRefIdeal.Read
public import proofs.«01_k».proof.Proof.MergeFinal
public import proofs.«01_k».proof.Proof.InProjFinal
public import proofs.«01_k».proof.Proof.MergeWordsFrame
public import proofs.«01_k».proof.Proof.AttnFinal
public import proofs.«01_k».proof.Proof.AttnRefRun
public import Idealize.ShloMosaic.Adequacy
public import Idealize.ShloMosaic.Init
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The merge kernel at the machine words runs, keeps its arguments and ends with every semaphore at zero. -/
theorem merge_words : Cert.quiescent_Merge := fun m g _ => Cert.MergeWords.frame m g

/-- So does the merge kernel over the extended reals. -/
theorem merge_ideal : Cert.quiescent_MergeIdeal := fun m g _ => Cert.MergeBody.frame m g

/-- The same under the value claim's precondition. -/
theorem merge_ideal_pre : Cert.quiescent_MergeIdeal_pre_log_denominators_finite := fun m g _ => Cert.MergeBody.frame m g

/-- The merge reference runs, keeps its arguments and ends with every semaphore at zero. -/
theorem merge_ref : Cert.quiescent_MergeRefIdeal := fun m g _ =>
  (θ_run _ _ _).mono (fun r h => ⟨fun c => (h c).2, sem_eq_zero_of_no_sems (by decide) r.2⟩)
    (Cert.MergeRefIdeal.Value.run m g)

/-- The same under the value claim's precondition. -/
theorem merge_ref_pre : Cert.quiescent_MergeRefIdeal_pre_log_denominators_finite := fun m g _ => merge_ref m g trivial

/-- Where the largest log-denominator is finite everywhere, the merge kernel's result array is the reference's. -/
theorem merge_value : Cert.algebraic_MergeIdeal_MergeRefIdeal_pre_log_denominators_finite := by
  pair_intro
  · run_from Cert.MergeBody.run m g
  · run_from Cert.MergeRefIdeal.Value.run m' g'
    rw [Cert.MergeFinal.final m c (Cert.MergeFinal.finite_of_pre m (by assumption) c)]
    rw [Cert.MergeRefIdeal.Read.val_main_v72_eq]
    simp only [hagree c]

/-- The input projection's kernel at the machine words runs, keeps its arguments and ends with every semaphore at zero. -/
theorem inproj_words : Cert.quiescent_InProj := fun m g _ => Cert.InProj.Gen.frame m g

/-- So does it over the extended reals. -/
theorem inproj_ideal : Cert.quiescent_InProjIdeal := fun m g _ => Cert.InProjIdeal.Gen.frame m g

/-- The input projection's reference runs, keeps its arguments and ends with every semaphore at zero. -/
theorem inproj_ref : Cert.quiescent_InProjRefIdeal := fun m g _ =>
  (θ_run _ _ _).mono (fun r h => ⟨fun c => (h c).2.2.2.2.2.2, sem_eq_zero_of_no_sems (by decide) r.2⟩)
    (Cert.InProjRefIdeal.Value.run m g)

/-- The input projection's six result arrays are its reference's. -/
theorem inproj_value : Cert.algebraic_InProjIdeal_InProjRefIdeal := by
  pair_intro
  · run_from Cert.InProjIdeal.Value.run_blocks m g
  · run_from Cert.InProjRefIdeal.Value.run m' g'
    · rw [Cert.InProjFinal.final_w m c, Cert.InProjRefIdeal.Read.val_main_v89_eq]
      simp only [hagree c]
    · rw [Cert.InProjFinal.final_x0 m c, Cert.InProjRefIdeal.Read.val_main_v56_eq]
      simp only [hagree c]
    · rw [Cert.InProjFinal.final_q m c, Cert.InProjRefIdeal.Read.val_main_v90_eq]
      simp only [hagree c]
    · rw [Cert.InProjFinal.final_k m c, Cert.InProjRefIdeal.Read.val_main_v91_eq]
      simp only [hagree c]
    · rw [Cert.InProjFinal.final_v m c]
      refine (Cert.InProjRefIdeal.Read.val_main_v30_eq _ _ _ _).trans ?_
      simp only [hagree c]
    · rw [Cert.InProjFinal.final_g m c]
      refine (Cert.InProjRefIdeal.Read.val_main_v97_eq _ _ _ _).trans ?_
      simp only [hagree c]

/-- The attention kernel at the machine words runs, keeps its arguments and ends with every semaphore at zero. -/
theorem attn_words : Cert.quiescent_Attn := fun m g _ => Cert.Attn.Gen.frame m g

/-- So does it over the extended reals, with the mask minus infinity. -/
theorem attn_ideal : Cert.quiescent_AttnIdeal := fun m g _ => Cert.AttnIdeal.Gen.frame m g

/-- The attention reference runs, keeps its arguments and ends with every semaphore at zero. -/
theorem attn_ref : Cert.quiescent_AttnRefIdeal := fun m g _ =>
  (θ_run _ _ _).mono (fun r h => ⟨fun c => (h c).2.2.2.2, sem_eq_zero_of_no_sems (by decide) r.2⟩)
    (Cert.AttnRefIdeal.Value.run m g)

/-- So does it at the machine words. -/
theorem attn_ref_words : Cert.quiescent_AttnRef := fun m g _ =>
  (θ_run _ _ _).mono (fun r h => ⟨fun c => (h c).2.2.2.2, sem_eq_zero_of_no_sems (by decide) r.2⟩)
    (Cert.AttnRef.Value.run m g)

/-- The mask constant of the attention kernel is the one constant renamed. -/
theorem attn_named : Cert.preserves_Attn_AttnIdeal :=
  IdealRules.named_const.statement Cert.AttnIdeal.κ "mask" .f32 0xF149F2CA#32 ⊥ rfl

/-- The attention's four result arrays are its reference's. -/
theorem attn_value : Cert.algebraic_AttnIdeal_AttnRefIdeal := by
  pair_intro
  · run_from Cert.AttnIdeal.Value.run_blocks m g
  · run_from Cert.AttnRefRun.run m' g'
    · exact (Cert.AttnRefRun.outs_kernel 0 m c).symm.trans (Cert.AttnFinal.final15 m c).symm
    · exact (Cert.AttnRefRun.outs_kernel 1 m c).symm.trans (Cert.AttnFinal.final16 m c).symm
    · exact (Cert.AttnRefRun.logs_kernel 0 m c).symm.trans (Cert.AttnFinal.final17 m c).symm
    · exact (Cert.AttnRefRun.logs_kernel 1 m c).symm.trans (Cert.AttnFinal.final18 m c).symm

theorem claim : Cert.Claim :=
  ⟨Cert.Attn.Gen.facts, Cert.AttnIdeal.Gen.facts, Cert.AttnRefIdeal.Gen.facts, Cert.AttnRef.Gen.facts, Cert.Merge.Gen.facts,
    Cert.MergeIdeal.Gen.facts, Cert.MergeRefIdeal.Gen.facts, Cert.InProj.Gen.facts, Cert.InProjIdeal.Gen.facts,
    Cert.InProjRefIdeal.Gen.facts, Cert.Pre_log_denominators_finite.Gen.facts, attn_words, attn_ideal, attn_ref, attn_ref_words, merge_words,
    merge_ideal, merge_ideal_pre, merge_ref, merge_ref_pre, inproj_words, inproj_ideal, inproj_ref, attn_named, attn_value, trivial, trivial,
    merge_value, trivial, inproj_value⟩

end Cert.Proof

end
